-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v198) = v0 c
          ∧ r.2.mem ((c.tc : Thread Cert.ReferenceIdeal.nD Cert.ReferenceIdeal.τ).loc Cert.ReferenceIdeal.main_v200) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x2048x3072 : Shape := ⟨3, ![8, 2048, 3072]⟩
abbrev S8x2048x24 : Shape := ⟨3, ![8, 2048, 24]⟩
abbrev S3072x256 : Shape := ⟨2, ![3072, 256]⟩
abbrev S256 : Shape := ⟨1, ![256]⟩
abbrev S16384x3072 : Shape := ⟨2, ![16384, 3072]⟩
abbrev S8x24x2048 : Shape := ⟨3, ![8, 24, 2048]⟩
abbrev S1x256 : Shape := ⟨2, ![1, 256]⟩
abbrev S8x4x2048 : Shape := ⟨3, ![8, 4, 2048]⟩
abbrev S1024x3072 : Shape := ⟨2, ![1024, 3072]⟩
abbrev S1x24x1024 : Shape := ⟨3, ![1, 24, 1024]⟩
abbrev S1x4x1024 : Shape := ⟨3, ![1, 4, 1024]⟩
abbrev S256x3072 : Shape := ⟨2, ![256, 3072]⟩
abbrev S256x128 : Shape := ⟨2, ![256, 128]⟩
abbrev S256x512 : Shape := ⟨2, ![256, 512]⟩
abbrev S128x256 : Shape := ⟨2, ![128, 256]⟩
abbrev S8x128 : Shape := ⟨2, ![8, 128]⟩
abbrev S256x256 : Shape := ⟨2, ![256, 256]⟩
abbrev S1x1x512 : Shape := ⟨3, ![1, 1, 512]⟩
abbrev S1x512 : Shape := ⟨2, ![1, 512]⟩
abbrev S128x512 : Shape := ⟨2, ![128, 512]⟩
abbrev S512x128 : Shape := ⟨2, ![512, 128]⟩
abbrev S3072x512 : Shape := ⟨2, ![3072, 512]⟩
abbrev S128 : Shape := ⟨1, ![128]⟩
abbrev S1x128 : Shape := ⟨2, ![1, 128]⟩
abbrev S4x128 : Shape := ⟨2, ![4, 128]⟩
abbrev S1x4x128 : Shape := ⟨3, ![1, 4, 128]⟩
abbrev S8x2048x4 : Shape := ⟨3, ![8, 2048, 4]⟩

abbrev nBuf : Space → Nat
  | .hbm => 13
  | .vmem => 17
  | .smem => 0
  | _ => 0

abbrev bufTy : (tb : Table) → Fin (tcTables nBuf tb) → BufTy
  | .hbm, ⟨0, _⟩ => ⟨S8x2048x3072, .fp8e4m3⟩
  | .hbm, ⟨1, _⟩ => ⟨S8x2048x24, .f32⟩
  | .hbm, ⟨2, _⟩ => ⟨S3072x256, .fp8e4m3⟩
  | .hbm, ⟨3, _⟩ => ⟨S256, .f32⟩
  | .hbm, ⟨4, _⟩ => ⟨S256, .f32⟩
  | .hbm, ⟨5, _⟩ => ⟨S16384x3072, .fp8e4m3⟩
  | .hbm, ⟨6, _⟩ => ⟨S8x24x2048, .f32⟩
  | .hbm, ⟨7, _⟩ => ⟨S1x256, .f32⟩
  | .hbm, ⟨8, _⟩ => ⟨S1x256, .f32⟩
  | .hbm, ⟨9, _⟩ => ⟨S8x4x2048, .i32⟩
  | .hbm, ⟨10, _⟩ => ⟨S8x4x2048, .f32⟩
  | .hbm, ⟨11, _⟩ => ⟨S8x2048x4, .i32⟩
  | .hbm, ⟨12, _⟩ => ⟨S8x2048x4, .f32⟩
  | .local _ .vmem, ⟨0, _⟩ => ⟨S1024x3072, .fp8e4m3⟩
  | .local _ .vmem, ⟨1, _⟩ => ⟨S1024x3072, .fp8e4m3⟩
  | .local _ .vmem, ⟨2, _⟩ => ⟨S1x24x1024, .f32⟩
  | .local _ .vmem, ⟨3, _⟩ => ⟨S1x24x1024, .f32⟩
  | .local _ .vmem, ⟨4, _⟩ => ⟨S3072x256, .fp8e4m3⟩
  | .local _ .vmem, ⟨5, _⟩ => ⟨S1x256, .f32⟩
  | .local _ .vmem, ⟨6, _⟩ => ⟨S1x256, .f32⟩
  | .local _ .vmem, ⟨7, _⟩ => ⟨S1x4x1024, .i32⟩
  | .local _ .vmem, ⟨8, _⟩ => ⟨S1x4x1024, .i32⟩
  | .local _ .vmem, ⟨9, _⟩ => ⟨S1x4x1024, .f32⟩
  | .local _ .vmem, ⟨10, _⟩ => ⟨S1x4x1024, .f32⟩
  | .local _ .vmem, ⟨11, _⟩ => ⟨S256x3072, .bf16⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x512, .f32⟩
  | .local _ .vmem, ⟨16, _⟩ => ⟨S256x512, .f32⟩
  | _, _ => ⟨S8x2048x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_6 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S1024x3072 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x24x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3072x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x4x1024 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S8x2048x3072 : Shape := ⟨3, ![8, 2048, 3072]⟩
abbrev S8x2048x24 : Shape := ⟨3, ![8, 2048, 24]⟩
abbrev S3072x256 : Shape := ⟨2, ![3072, 256]⟩
abbrev S256 : Shape := ⟨1, ![256]⟩
abbrev S8x2048x24x128 : Shape := ⟨4, ![8, 2048, 24, 128]⟩
abbrev S8x2048x24x1 : Shape := ⟨4, ![8, 2048, 24, 1]⟩
abbrev S16384x3072 : Shape := ⟨2, ![16384, 3072]⟩
abbrev S256x16384 : Shape := ⟨2, ![256, 16384]⟩
abbrev S256x1 : Shape := ⟨2, ![256, 1]⟩
abbrev S_ : Shape := ⟨0, ![]⟩
abbrev S8x32x16384 : Shape := ⟨3, ![8, 32, 16384]⟩
abbrev S8x16384 : Shape := ⟨2, ![8, 16384]⟩
abbrev S8x1x16384 : Shape := ⟨3, ![8, 1, 16384]⟩
abbrev S1x8x16384 : Shape := ⟨3, ![1, 8, 16384]⟩
abbrev S8x8x16384 : Shape := ⟨3, ![8, 8, 16384]⟩
abbrev S16384 : Shape := ⟨1, ![16384]⟩
abbrev S1x16384 : Shape := ⟨2, ![1, 16384]⟩
abbrev S4x16384 : Shape := ⟨2, ![4, 16384]⟩
abbrev S16384x4 : Shape := ⟨2, ![16384, 4]⟩
abbrev S8x2048x4 : Shape := ⟨3, ![8, 2048, 4]⟩

abbrev nBuf : Space → Nat
  | .hbm => 241
  | .vmem => 4
  | .smem => 0
  | _ => 0

abbrev hbmTy0_0 (i : Nat) : BufTy := match i % 128 with
  | 0 => ⟨S8x2048x3072, .fp8e4m3⟩
  | 1 => ⟨S8x2048x24, .f32⟩
  | 2 => ⟨S3072x256, .fp8e4m3⟩
  | 3 => ⟨S256, .f32⟩
  | 4 => ⟨S256, .f32⟩
  | 5 => ⟨S8x2048x3072, .bf16⟩
  | 6 => ⟨S3072x256, .bf16⟩
  | 7 => ⟨S8x2048x24x128, .bf16⟩
  | 8 => ⟨S8x2048x24, .bf16⟩
  | 9 => ⟨S8x2048x24x1, .bf16⟩
  | 10 => ⟨S8x2048x24x128, .bf16⟩
  | 11 => ⟨S8x2048x24x128, .bf16⟩
  | 12 => ⟨S16384x3072, .bf16⟩
  | 13 => ⟨S256x16384, .f32⟩
  | 14 => ⟨S256x1, .f32⟩
  | 15 => ⟨S256x16384, .f32⟩
  | 16 => ⟨S256x16384, .f32⟩
  | 17 => ⟨S256x16384, .f32⟩
  | 18 => ⟨S256x16384, .f32⟩
  | 19 => ⟨S_, .f32⟩
  | 20 => ⟨S256x16384, .f32⟩
  | 21 => ⟨S256x16384, .f32⟩
  | 22 => ⟨S_, .f32⟩
  | 23 => ⟨S256x16384, .f32⟩
  | 24 => ⟨S256x16384, .f32⟩
  | 25 => ⟨S256x1, .f32⟩
  | 26 => ⟨S256x16384, .f32⟩
  | 27 => ⟨S256x16384, .f32⟩
  | 28 => ⟨S8x32x16384, .f32⟩
  | 29 => ⟨S_, .f32⟩
  | 30 => ⟨S8x16384, .f32⟩
  | 31 => ⟨S8x1x16384, .f32⟩
  | 32 => ⟨S8x32x16384, .f32⟩
  | 33 => ⟨S8x32x16384, .i1⟩
  | 34 => ⟨S8x32x16384, .i32⟩
  | 35 => ⟨S_, .i32⟩
  | 36 => ⟨S8x16384, .i32⟩
  | 37 => ⟨S_, .i32⟩
  | 38 => ⟨S8x16384, .i32⟩
  | 39 => ⟨S8x16384, .i1⟩
  | 40 => ⟨S_, .f32⟩
  | 41 => ⟨S8x32x16384, .f32⟩
  | 42 => ⟨S8x32x16384, .f32⟩
  | 43 => ⟨S_, .f32⟩
  | 44 => ⟨S8x16384, .f32⟩
  | 45 => ⟨S8x16384, .f32⟩
  | 46 => ⟨S8x16384, .f32⟩
  | 47 => ⟨S8x1x16384, .f32⟩
  | 48 => ⟨S1x8x16384, .f32⟩
  | 49 => ⟨S8x8x16384, .i32⟩
  | 50 => ⟨S8x8x16384, .i32⟩
  | 51 => ⟨S8x8x16384, .f32⟩
  | 52 => ⟨S8x8x16384, .f32⟩
  | 53 => ⟨S8x8x16384, .i1⟩
  | 54 => ⟨S8x8x16384, .f32⟩
  | 55 => ⟨S8x8x16384, .f32⟩
  | 56 => ⟨S8x8x16384, .i1⟩
  | 57 => ⟨S8x8x16384, .i1⟩
  | 58 => ⟨S8x8x16384, .i1⟩
  | 59 => ⟨S8x8x16384, .i1⟩
  | 60 => ⟨S8x8x16384, .i32⟩
  | 61 => ⟨S_, .i32⟩
  | 62 => ⟨S8x16384, .i32⟩
  | 63 => ⟨S_, .i32⟩
  | 64 => ⟨S8x16384, .i32⟩
  | 65 => ⟨S8x16384, .i1⟩
  | 66 => ⟨S8x1x16384, .i1⟩
  | 67 => ⟨S8x32x16384, .i1⟩
  | 68 => ⟨S256x16384, .i1⟩
  | 69 => ⟨S_, .f32⟩
  | 70 => ⟨S256x16384, .f32⟩
  | 71 => ⟨S256x16384, .i32⟩
  | 72 => ⟨S_, .i32⟩
  | 73 => ⟨S256x16384, .i32⟩
  | 74 => ⟨S_, .f32⟩
  | 75 => ⟨S256x16384, .f32⟩
  | 76 => ⟨S256x16384, .f32⟩
  | 77 => ⟨S_, .f32⟩
  | 78 => ⟨S16384, .f32⟩
  | 79 => ⟨S1x16384, .f32⟩
  | 80 => ⟨S256x16384, .f32⟩
  | 81 => ⟨S256x16384, .i1⟩
  | 82 => ⟨S256x16384, .i32⟩
  | 83 => ⟨S_, .i32⟩
  | 84 => ⟨S16384, .i32⟩
  | 85 => ⟨S1x16384, .i32⟩
  | 86 => ⟨S256x16384, .i32⟩
  | 87 => ⟨S256x16384, .i1⟩
  | 88 => ⟨S256x16384, .f32⟩
  | 89 => ⟨S_, .f32⟩
  | 90 => ⟨S16384, .f32⟩
  | 91 => ⟨S1x16384, .f32⟩
  | 92 => ⟨S256x16384, .f32⟩
  | 93 => ⟨S256x16384, .i1⟩
  | 94 => ⟨S256x16384, .i1⟩
  | 95 => ⟨S256x16384, .i32⟩
  | 96 => ⟨S_, .i32⟩
  | 97 => ⟨S16384, .i32⟩
  | 98 => ⟨S1x16384, .i32⟩
  | 99 => ⟨S256x16384, .i32⟩
  | 100 => ⟨S256x16384, .i1⟩
  | 101 => ⟨S256x16384, .f32⟩
  | 102 => ⟨S_, .f32⟩
  | 103 => ⟨S16384, .f32⟩
  | 104 => ⟨S1x16384, .i32⟩
  | 105 => ⟨S256x16384, .i32⟩
  | 106 => ⟨S256x16384, .i1⟩
  | 107 => ⟨S256x16384, .f32⟩
  | 108 => ⟨S_, .f32⟩
  | 109 => ⟨S16384, .f32⟩
  | 110 => ⟨S1x16384, .f32⟩
  | 111 => ⟨S256x16384, .f32⟩
  | 112 => ⟨S256x16384, .i1⟩
  | 113 => ⟨S256x16384, .i32⟩
  | 114 => ⟨S_, .i32⟩
  | 115 => ⟨S16384, .i32⟩
  | 116 => ⟨S1x16384, .i32⟩
  | 117 => ⟨S256x16384, .i32⟩
  | 118 => ⟨S256x16384, .i1⟩
  | 119 => ⟨S256x16384, .f32⟩
  | 120 => ⟨S_, .f32⟩
  | 121 => ⟨S16384, .f32⟩
  | 122 => ⟨S1x16384, .f32⟩
  | 123 => ⟨S256x16384, .f32⟩
  | 124 => ⟨S256x16384, .i1⟩
  | 125 => ⟨S256x16384, .i1⟩
  | 126 => ⟨S256x16384, .i32⟩
  | 127 => ⟨S_, .i32⟩
  | _ => ⟨S8x2048x3072, .fp8e4m3⟩

abbrev hbmTy0_1 (i : Nat) : BufTy := match i % 128 with
  | 0 => ⟨S16384, .i32⟩
  | 1 => ⟨S1x16384, .i32⟩
  | 2 => ⟨S256x16384, .i32⟩
  | 3 => ⟨S256x16384, .i1⟩
  | 4 => ⟨S256x16384, .f32⟩
  | 5 => ⟨S_, .f32⟩
  | 6 => ⟨S16384, .f32⟩
  | 7 => ⟨S1x16384, .i32⟩
  | 8 => ⟨S256x16384, .i32⟩
  | 9 => ⟨S256x16384, .i1⟩
  | 10 => ⟨S256x16384, .f32⟩
  | 11 => ⟨S_, .f32⟩
  | 12 => ⟨S16384, .f32⟩
  | 13 => ⟨S1x16384, .f32⟩
  | 14 => ⟨S256x16384, .f32⟩
  | 15 => ⟨S256x16384, .i1⟩
  | 16 => ⟨S256x16384, .i32⟩
  | 17 => ⟨S_, .i32⟩
  | 18 => ⟨S16384, .i32⟩
  | 19 => ⟨S1x16384, .i32⟩
  | 20 => ⟨S256x16384, .i32⟩
  | 21 => ⟨S256x16384, .i1⟩
  | 22 => ⟨S256x16384, .f32⟩
  | 23 => ⟨S_, .f32⟩
  | 24 => ⟨S16384, .f32⟩
  | 25 => ⟨S1x16384, .f32⟩
  | 26 => ⟨S256x16384, .f32⟩
  | 27 => ⟨S256x16384, .i1⟩
  | 28 => ⟨S256x16384, .i1⟩
  | 29 => ⟨S256x16384, .i32⟩
  | 30 => ⟨S_, .i32⟩
  | 31 => ⟨S16384, .i32⟩
  | 32 => ⟨S1x16384, .i32⟩
  | 33 => ⟨S256x16384, .i32⟩
  | 34 => ⟨S256x16384, .i1⟩
  | 35 => ⟨S256x16384, .f32⟩
  | 36 => ⟨S_, .f32⟩
  | 37 => ⟨S16384, .f32⟩
  | 38 => ⟨S1x16384, .i32⟩
  | 39 => ⟨S256x16384, .i32⟩
  | 40 => ⟨S256x16384, .i1⟩
  | 41 => ⟨S256x16384, .f32⟩
  | 42 => ⟨S_, .f32⟩
  | 43 => ⟨S16384, .f32⟩
  | 44 => ⟨S1x16384, .f32⟩
  | 45 => ⟨S256x16384, .f32⟩
  | 46 => ⟨S256x16384, .i1⟩
  | 47 => ⟨S256x16384, .i32⟩
  | 48 => ⟨S_, .i32⟩
  | 49 => ⟨S16384, .i32⟩
  | 50 => ⟨S1x16384, .i32⟩
  | 51 => ⟨S256x16384, .i32⟩
  | 52 => ⟨S256x16384, .i1⟩
  | 53 => ⟨S256x16384, .f32⟩
  | 54 => ⟨S_, .f32⟩
  | 55 => ⟨S16384, .f32⟩
  | 56 => ⟨S1x16384, .f32⟩
  | 57 => ⟨S256x16384, .f32⟩
  | 58 => ⟨S256x16384, .i1⟩
  | 59 => ⟨S256x16384, .i1⟩
  | 60 => ⟨S256x16384, .i32⟩
  | 61 => ⟨S_, .i32⟩
  | 62 => ⟨S16384, .i32⟩
  | 63 => ⟨S1x16384, .i32⟩
  | 64 => ⟨S256x16384, .i32⟩
  | 65 => ⟨S256x16384, .i1⟩
  | 66 => ⟨S256x16384, .f32⟩
  | 67 => ⟨S_, .f32⟩
  | 68 => ⟨S16384, .f32⟩
  | 69 => ⟨S1x16384, .i32⟩
  | 70 => ⟨S256x16384, .i32⟩
  | 71 => ⟨S256x16384, .i1⟩
  | 72 => ⟨S256x16384, .f32⟩
  | 73 => ⟨S16384, .i1⟩
  | 74 => ⟨S16384, .i1⟩
  | 75 => ⟨S16384, .i1⟩
  | 76 => ⟨S16384, .i1⟩
  | 77 => ⟨S16384, .i1⟩
  | 78 => ⟨S_, .f32⟩
  | 79 => ⟨S16384, .f32⟩
  | 80 => ⟨S16384, .i1⟩
  | 81 => ⟨S16384, .i1⟩
  | 82 => ⟨S16384, .i32⟩
  | 83 => ⟨S16384, .i32⟩
  | 84 => ⟨S16384, .i32⟩
  | 85 => ⟨S16384, .i32⟩
  | 86 => ⟨S16384, .f32⟩
  | 87 => ⟨S16384, .f32⟩
  | 88 => ⟨S16384, .f32⟩
  | 89 => ⟨S16384, .f32⟩
  | 90 => ⟨S16384, .f32⟩
  | 91 => ⟨S16384, .f32⟩
  | 92 => ⟨S16384, .f32⟩
  | 93 => ⟨S1x16384, .i32⟩
  | 94 => ⟨S1x16384, .i32⟩
  | 95 => ⟨S1x16384, .i32⟩
  | 96 => ⟨S1x16384, .i32⟩
  | 97 => ⟨S4x16384, .i32⟩
  | 98 => ⟨S1x16384, .f32⟩
  | 99 => ⟨S1x16384, .f32⟩
  | 100 => ⟨S1x16384, .f32⟩
  | 101 => ⟨S1x16384, .f32⟩
  | 102 => ⟨S4x16384, .f32⟩
  | 103 => ⟨S1x16384, .f32⟩
  | 104 => ⟨S4x16384, .f32⟩
  | 105 => ⟨S4x16384, .f32⟩
  | 106 => ⟨S_, .f32⟩
  | 107 => ⟨S4x16384, .f32⟩
  | 108 => ⟨S4x16384, .f32⟩
  | 109 => ⟨S16384x4, .i32⟩
  | 110 => ⟨S8x2048x4, .i32⟩
  | 111 => ⟨S16384x4, .f32⟩
  | 112 => ⟨S8x2048x4, .f32⟩
  | _ => ⟨S8x2048x3072, .fp8e4m3⟩

abbrev hbmTy (i : Nat) : BufTy := match i / 128 with
  | 0 => hbmTy0_0 i
  | 1 => hbmTy0_1 i
  | _ => ⟨S8x2048x3072, .fp8e4m3⟩

abbrev bufTy : (tb : Table) → Fin (tcTables nBuf tb) → BufTy
  | .hbm, ⟨i, _⟩ => hbmTy i
  | .local _ .vmem, ⟨0, _⟩ => ⟨S8x2048x3072, .fp8e4m3⟩
  | .local _ .vmem, ⟨1, _⟩ => ⟨S3072x256, .fp8e4m3⟩
  | .local _ .vmem, ⟨2, _⟩ => ⟨S8x2048x3072, .bf16⟩
  | .local _ .vmem, ⟨3, _⟩ => ⟨S3072x256, .bf16⟩
  | _, _ => ⟨S8x2048x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c : Ref sig .tc := ⟨.hbm, 35, rfl⟩
abbrev main_v26 : Ref sig .tc := ⟨.hbm, 36, rfl⟩
abbrev main_c_2 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_c_5 : Ref sig .tc := ⟨.hbm, 61, rfl⟩
abbrev main_v48 : Ref sig .tc := ⟨.hbm, 62, rfl⟩
abbrev main_c_6 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_7 : Ref sig .tc := ⟨.hbm, 69, rfl⟩
abbrev main_v54 : Ref sig .tc := ⟨.hbm, 70, rfl⟩
abbrev main_v55 : Ref sig .tc := ⟨.hbm, 71, rfl⟩
abbrev main_c_8 : Ref sig .tc := ⟨.hbm, 72, rfl⟩
abbrev main_v56 : Ref sig .tc := ⟨.hbm, 73, rfl⟩
abbrev main_cst_9 : Ref sig .tc := ⟨.hbm, 74, rfl⟩
abbrev main_v57 : Ref sig .tc := ⟨.hbm, 75, rfl⟩
abbrev main_v58 : Ref sig .tc := ⟨.hbm, 76, rfl⟩
abbrev main_cst_10 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_c_11 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_12 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_c_13 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_cst_14 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_cst_15 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_c_16 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_cst_17 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_c_18 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_cst_19 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_cst_20 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_c_21 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_cst_22 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_c_23 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_cst_24 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_cst_25 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_c_26 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_cst_27 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_c_28 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_cst_29 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_cst_30 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_v183 : Ref sig .tc := ⟨.hbm, 222, rfl⟩
abbrev main_v184 : Ref sig .tc := ⟨.hbm, 223, rfl⟩
abbrev main_v185 : Ref sig .tc := ⟨.hbm, 224, rfl⟩
abbrev main_v186 : Ref sig .tc := ⟨.hbm, 225, rfl⟩
abbrev main_v187 : Ref sig .tc := ⟨.hbm, 226, rfl⟩
abbrev main_v188 : Ref sig .tc := ⟨.hbm, 227, rfl⟩
abbrev main_v189 : Ref sig .tc := ⟨.hbm, 228, rfl⟩
abbrev main_v190 : Ref sig .tc := ⟨.hbm, 229, rfl⟩
abbrev main_v191 : Ref sig .tc := ⟨.hbm, 230, rfl⟩
abbrev main_v192 : Ref sig .tc := ⟨.hbm, 231, rfl⟩
abbrev main_v193 : Ref sig .tc := ⟨.hbm, 232, rfl⟩
abbrev main_v194 : Ref sig .tc := ⟨.hbm, 233, rfl⟩
abbrev main_cst_31 : Ref sig .tc := ⟨.hbm, 234, rfl⟩
abbrev main_v195 : Ref sig .tc := ⟨.hbm, 235, rfl⟩
abbrev main_v196 : Ref sig .tc := ⟨.hbm, 236, rfl⟩
abbrev main_v197 : Ref sig .tc := ⟨.hbm, 237, rfl⟩
abbrev main_v198 : Ref sig .tc := ⟨.hbm, 238, rfl⟩
abbrev main_v199 : Ref sig .tc := ⟨.hbm, 239, rfl⟩
abbrev main_v200 : Ref sig .tc := ⟨.hbm, 240, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8x2048x3072 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x256 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2048x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3072x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Route.lean ====
/-
  The routing of 128 tokens as the kernel computes it, once: from the thirty-two rows of choices and scores (row `v` holds
  expert `v` of the eight groups, a group to a sublane, a token to a lane) to the four expert numbers and the four weights.
  Every token group of every step stores these two values.
-/
module

public import proofs.«01_k».proof.Proof.Gen.KernelIdeal

@[expose] public section

noncomputable section

namespace Cert.KernelIdeal.Route

open Idealize.ShloMosaic Cert.KernelIdeal.Gen

variable {F : FTy → Type} [FloatOps F]

/-- Four registers, sorted elementwise, the largest first. -/
structure V4 (F : FTy → Type) where
  a : FVec F S8x128 .f32
  b : FVec F S8x128 .f32
  c : FVec F S8x128 .f32
  d : FVec F S8x128 .f32

/-- Five exchanges. -/
def V4.sort (x0 x1 x2 x3 : FVec F S8x128 .f32) : V4 F :=
  ⟨maximumf (maximumf x0 x1) (maximumf x2 x3),
   maximumf (maximumf (minimumf x0 x1) (minimumf x2 x3)) (minimumf (maximumf x0 x1) (maximumf x2 x3)),
   minimumf (maximumf (minimumf x0 x1) (minimumf x2 x3)) (minimumf (maximumf x0 x1) (maximumf x2 x3)),
   minimumf (minimumf x0 x1) (minimumf x2 x3)⟩

/-- The four largest of two sorted lists. -/
def V4.merge (x y : V4 F) : V4 F :=
  ⟨maximumf (maximumf (maximumf x.a y.d) (maximumf x.c y.b)) (maximumf (maximumf x.b y.c) (maximumf x.d y.a)),
   minimumf (maximumf (maximumf x.a y.d) (maximumf x.c y.b)) (maximumf (maximumf x.b y.c) (maximumf x.d y.a)),
   maximumf (minimumf (maximumf x.a y.d) (maximumf x.c y.b)) (minimumf (maximumf x.b y.c) (maximumf x.d y.a)),
   minimumf (minimumf (maximumf x.a y.d) (maximumf x.c y.b)) (minimumf (maximumf x.b y.c) (maximumf x.d y.a))⟩

/-- The registers rolled by `n` sublanes. -/
def roll (n : BitVec 32) (x : FVec F S8x128 .f32) : FVec F S8x128 .f32 := dynamicRotate 0 n none x rotates_S8x128_d0

def V4.roll (n : BitVec 32) (x : V4 F) : V4 F := ⟨Route.roll n x.a, Route.roll n x.b, Route.roll n x.c, Route.roll n x.d⟩

/-- The four largest of the thirty-two rows. -/
def top (ch : Fin 32 → FVec F S8x128 .f32) : V4 F :=
  .merge
    (.merge (.merge (.sort (ch 0) (ch 1) (ch 2) (ch 3)) (.sort (ch 4) (ch 5) (ch 6) (ch 7)))
      (.merge (.sort (ch 8) (ch 9) (ch 10) (ch 11)) (.sort (ch 12) (ch 13) (ch 14) (ch 15))))
    (.merge (.merge (.sort (ch 16) (ch 17) (ch 18) (ch 19)) (.sort (ch 20) (ch 21) (ch 22) (ch 23)))
      (.merge (.sort (ch 24) (ch 25) (ch 26) (ch 27)) (.sort (ch 28) (ch 29) (ch 30) (ch 31))))

/-- The sublane's number. -/
def sub : IVec S8x128 32 := iota .tc S8x128 32 [0] iota_S8x128_d0_w32

/-- One where the group `n` sublanes before comes before this one, else zero. -/
def beats (n : BitVec 32) (g : FVec F S8x128 .f32) : IVec S8x128 32 :=
  select (ori (cmpf .ogt (roll n g) g) (andi (cmpf .oeq (roll n g) g) (cmpi .sge sub (broadcast S8x128 n))))
    (broadcast S8x128 1#32) (broadcast S8x128 0#32)

/-- How many groups come before this one. -/
def rank (g : FVec F S8x128 .f32) : IVec S8x128 32 :=
  addi (addi (addi (addi (addi (addi (addi (broadcast S8x128 0#32) (beats 1#32 g)) (beats 2#32 g)) (beats 3#32 g)) (beats 4#32 g))
    (beats 5#32 g)) (beats 6#32 g)) (beats 7#32 g)

/-- Whether the group is kept. -/
def keep (ch : Fin 32 → FVec F S8x128 .f32) : IVec S8x128 1 :=
  cmpi .slt (rank (addf (top ch).a (top ch).b)) (broadcast S8x128 4#32)

/-- A register of a kept group; minus infinity elsewhere. -/
def only (k : IVec S8x128 1) (x : FVec F S8x128 .f32) : FVec F S8x128 .f32 :=
  select k x (broadcast S8x128 (Scalar.ofBits .f32 0xFF800000#32))

/-- The four largest choices of the kept groups, in every sublane. -/
def best (ch : Fin 32 → FVec F S8x128 .f32) : V4 F :=
  have q0 : V4 F := ⟨only (keep ch) (top ch).a, only (keep ch) (top ch).b, only (keep ch) (top ch).c, only (keep ch) (top ch).d⟩
  have q1 : V4 F := q0.merge (q0.roll 4#32)
  have q2 : V4 F := q1.merge (q1.roll 2#32)
  q2.merge (q2.roll 1#32)

/-- The rows from the last to the first, the first row whose choice is `b` deciding. -/
def pick {α : Type} (ch : Fin 32 → FVec F S8x128 .f32) (b : FVec F S8x128 .f32) (w : Fin 32 → S8x128.Idx → α)
    (x : S8x128.Idx → α) : S8x128.Idx → α :=
  [0, 1, 2, 3, 4, 5, 6, 7, 8, 9, 10, 11, 12, 13, 14, 15, 16, 17, 18, 19, 20, 21, 22, 23, 24, 25, 26, 27, 28, 29, 30, 31].foldr
    (fun v acc => select (cmpf .oeq (ch v) b) (w v) acc) x

/-- The number of the group's lowest expert whose choice is `b`; 256 if there is none or the group is not kept. -/
def number (ch : Fin 32 → FVec F S8x128 .f32) (b : FVec F S8x128 .f32) : IVec S8x128 32 :=
  have i : IVec S8x128 32 := pick ch b (fun v => broadcast S8x128 (BitVec.ofNat 32 v.val)) (broadcast S8x128 256#32)
  select (andi (keep ch) (cmpi .slt i (broadcast S8x128 32#32))) (addi (muli sub (broadcast S8x128 32#32)) i)
    (broadcast S8x128 256#32)

/-- The lowest such expert of all groups. -/
def lowest (ch : Fin 32 → FVec F S8x128 .f32) (b : FVec F S8x128 .f32) : IVec S1x128 32 :=
  shapeCast S1x128 (multiReductionI .minsi [0] S128 (number ch b) 2147483647#32 reduces_S8x128_S128 rfl) shapeCasts_S128_S1x128

/-- Its score. -/
def score (ch sc : Fin 32 → FVec F S8x128 .f32) (b : FVec F S8x128 .f32) : FVec F S1x128 .f32 :=
  shapeCast S1x128
    (multiReduction .add [0] S128
      (select (cmpi .eq (number ch b) (broadcastTo S8x128 (lowest ch b) broadcasts_S1x128_S8x128))
        (pick ch b sc (broadcast S8x128 (Scalar.ofBits .f32 0x00000000#32)))
        (broadcast S8x128 (Scalar.ofBits .f32 0x00000000#32)))
      0x00000000#32 reduces_S8x128_S128 (.inl rfl) rfl) shapeCasts_S128_S1x128

/-- The four expert numbers of the 128 tokens. -/
def ids (ch : Fin 32 → FVec F S8x128 .f32) : IVec S1x4x128 32 :=
  shapeCast S1x4x128
    (concatenate S4x128 0 [⟨S1x128, lowest ch (best ch).a⟩, ⟨S1x128, lowest ch (best ch).b⟩, ⟨S1x128, lowest ch (best ch).c⟩,
      ⟨S1x128, lowest ch (best ch).d⟩] concatenates_S1x128_S1x128_S1x128_S1x128_S4x128_d0) shapeCasts_S4x128_S1x4x128

/-- The four weights of the 128 tokens. -/
def wts (ch sc : Fin 32 → FVec F S8x128 .f32) : FVec F S1x4x128 .f32 :=
  shapeCast S1x4x128
    (mulf
      (divf
        (concatenate S4x128 0 [⟨S1x128, score ch sc (best ch).a⟩, ⟨S1x128, score ch sc (best ch).b⟩,
          ⟨S1x128, score ch sc (best ch).c⟩, ⟨S1x128, score ch sc (best ch).d⟩] concatenates_S1x128_S1x128_S1x128_S1x128_S4x128_d0)
        (broadcastTo S4x128
          (addf (addf (addf (score ch sc (best ch).a) (score ch sc (best ch).b)) (score ch sc (best ch).c)) (score ch sc (best ch).d))
          broadcasts_S1x128_S4x128))
      (broadcast S4x128 (Scalar.ofBits .f32 0x40200000#32))) shapeCasts_S4x128_S1x4x128

end Cert.KernelIdeal.Route

end
-- ==== Proof.Logits.lean ====
/-
  The two matrix products as the kernel computes them: 512 tokens' codes, times their scales, in 24 blocks of 128 features,
  laid out feature by token; the products of the gate's rows with them are the tokens' logits.
-/
module

public import proofs.«01_k».proof.Proof.Route

@[expose] public section

noncomputable section

namespace Cert.KernelIdeal.Route

open Idealize.ShloMosaic Cert.KernelIdeal.Gen

variable {F : FTy → Type} [FloatOps F]

/-- One block's codes times its scales, feature by token. -/
def part (xv : Vec F S512x128 .fp8e4m3) (sv : Vec F S1x1x512 .f32) : FVec F S128x512 .bf16 :=
  mulf (extf .bf16 (transpose S128x512 [1, 0] (shapeCast S512x128 xv shapeCasts_S512x128_S512x128) transposes_S512x128_p1_0_S128x512) bitsLt_fp8e4m3_bf16)
    (truncf .bf16 (broadcastTo S128x512 (shapeCast S1x512 (shapeCast S1x512 sv shapeCasts_S1x1x512_S1x512) shapeCasts_S1x512_S1x512) broadcasts_S1x512_S128x512) bitsLt_bf16_f32)

/-- The blocks one under the other. -/
def stack (p : Fin 24 → FVec F S128x512 .bf16) : FVec F S3072x512 .bf16 :=
  concatenate S3072x512 0 [⟨S128x512, p 0⟩, ⟨S128x512, p 1⟩, ⟨S128x512, p 2⟩, ⟨S128x512, p 3⟩, ⟨S128x512, p 4⟩, ⟨S128x512, p 5⟩,
    ⟨S128x512, p 6⟩, ⟨S128x512, p 7⟩, ⟨S128x512, p 8⟩, ⟨S128x512, p 9⟩, ⟨S128x512, p 10⟩, ⟨S128x512, p 11⟩,
    ⟨S128x512, p 12⟩, ⟨S128x512, p 13⟩, ⟨S128x512, p 14⟩, ⟨S128x512, p 15⟩, ⟨S128x512, p 16⟩, ⟨S128x512, p 17⟩,
    ⟨S128x512, p 18⟩, ⟨S128x512, p 19⟩, ⟨S128x512, p 20⟩, ⟨S128x512, p 21⟩, ⟨S128x512, p 22⟩, ⟨S128x512, p 23⟩]
    concatenates_S128x512_S128x512_S128x512_S128x512_S128x512_S128x512_S128x512_S128x512_S128x512_S128x512_S128x512_S128x512_S128x512_S128x512_S128x512_S128x512_S128x512_S128x512_S128x512_S128x512_S128x512_S128x512_S128x512_S128x512_S3072x512_d0

/-- The logits of 512 tokens. -/
def logits (w : Vec F S256x3072 .bf16) (xv : Fin 24 → Vec F S512x128 .fp8e4m3) (sv : Fin 24 → Vec F S1x1x512 .f32) : FVec F S256x512 .f32 :=
  shapeCast S256x512
    (matmul dot_S256x3072_S3072x512_S256x512_1_0_0_1_n_n none w (stack fun b => part (xv b) (sv b)) (constant S256x512 .f32 0x00000000#32))
    shapeCasts_S256x512_S256x512

/-- The rows of scores and of choices, from the rows of logits, of weight scales and of biases. -/
def scores (lg ws : Fin 32 → Vec F S8x128 .f32) (v : Fin 32) : FVec F S8x128 .f32 := logistic (mulf (lg v) (ws v))

def choices (lg ws eb : Fin 32 → Vec F S8x128 .f32) (v : Fin 32) : FVec F S8x128 .f32 := addf (scores lg ws v) (eb v)

theorem inb_x (j : Fin 2) (b : Fin 24) : ∀ a, (![512 * j.val, 128 * b.val] : Fin 2 → Nat) a + S512x128.size a ≤ S1024x3072.size a := by
  revert j b; decide

theorem inb_s (j : Fin 2) (b : Fin 24) : ∀ a, (![0, b.val, 512 * j.val] : Fin 3 → Nat) a + S1x1x512.size a ≤ S1x24x1024.size a := by
  revert j b; decide

theorem inb_l (v : Fin 32) (g : Fin 4) : ∀ a, (![8 * v.val, 128 * g.val] : Fin 2 → Nat) a + S8x128.size a ≤ S256x512.size a := by
  revert v g; decide

theorem inb_r (v : Fin 32) : ∀ a, (![8 * v.val, 0] : Fin 2 → Nat) a + S8x128.size a ≤ S256x128.size a := by
  revert v; decide

theorem inb_o (u : Fin 8) : ∀ a, (![0, 0, 128 * u.val] : Fin 3 → Nat) a + S1x4x128.size a ≤ S1x4x1024.size a := by
  revert u; decide

/-- The codes of 512 tokens at 128 features, within a step's block. -/
abbrev rx (j : Fin 2) (b : Fin 24) : Rect S1024x3072 := Rect.unit ![512 * j.val, 128 * b.val] S512x128.size (inb_x j b)

/-- The scales of 512 tokens at one block of features. -/
abbrev rs (j : Fin 2) (b : Fin 24) : Rect S1x24x1024 := Rect.unit ![0, b.val, 512 * j.val] S1x1x512.size (inb_s j b)

/-- Row `v` of the logits, for 128 tokens. -/
abbrev rl (v : Fin 32) (g : Fin 4) : Rect S256x512 := Rect.unit ![8 * v.val, 128 * g.val] S8x128.size (inb_l v g)

/-- Row `v` of the scales or of the biases. -/
abbrev rr (v : Fin 32) : Rect S256x128 := Rect.unit ![8 * v.val, 0] S8x128.size (inb_r v)

/-- Where a step's block holds 128 tokens' results. -/
abbrev ro (u : Fin 8) : Rect S1x4x1024 := Rect.unit ![0, 0, 128 * u.val] S1x4x128.size (inb_o u)

end Cert.KernelIdeal.Route
-- ==== Proof.First.lean ====
/-
  What the first step puts in the three scratches, from the gate's codes, its scales and the biases: the rows of scales and of
  biases, row `v` holding expert `v` of each of the eight groups, and the gate's rows in that order.
-/
module

public import proofs.«01_k».proof.Proof.Logits

@[expose] public section

noncomputable section

namespace Cert.KernelIdeal.Route

open Idealize.ShloMosaic Cert.KernelIdeal.Gen

variable {F : FTy → Type} [FloatOps F]

/-- One number per expert, at every lane. -/
def column (x : Vec F S1x256 .f32) : FVec F S256x128 .f32 :=
  shapeCast S256x128
    (transpose S256x128 [1, 0]
      (broadcastTo S128x256 (shapeCast S1x256 (shapeCast S1x256 x shapeCasts_S1x256_S1x256) shapeCasts_S1x256_S1x256) broadcasts_S1x256_S128x256)
      transposes_S128x256_p1_0_S256x128)
    shapeCasts_S256x128_S256x128

theorem inb_e (v : Fin 32) : ∀ a : Fin 2, S8x128.size a = 0 ∨ (![v.val, 0] : Fin 2 → Nat) a + (![32, 1] : Fin 2 → Nat) a * (S8x128.size a - 1) < S256x128.size a := by
  revert v; decide

/-- Expert `v` of each group. -/
abbrev re (v : Fin 32) : LoadRect S256x128 := ⟨![v.val, 0], S8x128.size, ![32, 1], inb_e v⟩

/-- Thirty-two rows, stored one after the other. -/
def rowPieces (f : Fin 32 → Vec F S8x128 .f32) : List (View.Piece (Elt F) S256x128 .f32) :=
  [⟨rr 31, f 31⟩, ⟨rr 30, f 30⟩, ⟨rr 29, f 29⟩, ⟨rr 28, f 28⟩, ⟨rr 27, f 27⟩, ⟨rr 26, f 26⟩, ⟨rr 25, f 25⟩, ⟨rr 24, f 24⟩, ⟨rr 23, f 23⟩, ⟨rr 22, f 22⟩, ⟨rr 21, f 21⟩, ⟨rr 20, f 20⟩, ⟨rr 19, f 19⟩, ⟨rr 18, f 18⟩, ⟨rr 17, f 17⟩, ⟨rr 16, f 16⟩, ⟨rr 15, f 15⟩, ⟨rr 14, f 14⟩, ⟨rr 13, f 13⟩, ⟨rr 12, f 12⟩, ⟨rr 11, f 11⟩, ⟨rr 10, f 10⟩, ⟨rr 9, f 9⟩, ⟨rr 8, f 8⟩, ⟨rr 7, f 7⟩, ⟨rr 6, f 6⟩, ⟨rr 5, f 5⟩, ⟨rr 4, f 4⟩, ⟨rr 3, f 3⟩, ⟨rr 2, f 2⟩, ⟨rr 1, f 1⟩, ⟨rr 0, f 0⟩]

/-- The expert each row of the reordered gate takes. -/
def rowExpert : IVec S256x256 32 :=
  addi
    (muli
      (select
        (andi
          (xori (cmpi .slt (remsi row (broadcast S256x256 eight)) (broadcast S256x256 0#32))
            (broadcastTo S256x256 (broadcast S256x256 (Scalar.cmpi .slt eight 0#32)) broadcasts_S256x256_S256x256))
          (cmpi .ne (remsi row (broadcast S256x256 eight)) (broadcast S256x256 0#32)))
        (addi (remsi row (broadcast S256x256 eight)) (broadcast S256x256 eight))
        (remsi row (broadcast S256x256 eight)))
      (broadcast S256x256 32#32))
    (select
      (andi
        (cmpi .ne
          (subi (extui 32 (cmpi .sgt row (broadcast S256x256 0#32)) natLt_1_32) (extui 32 (cmpi .slt row (broadcast S256x256 0#32)) natLt_1_32))
          (broadcast S256x256 (Scalar.subi (Scalar.extui (Scalar.cmpi .sgt 8#32 0#32)) (Scalar.extui (Scalar.cmpi .slt 8#32 0#32)))))
        (cmpi .ne (remsi row (broadcast S256x256 8#32)) (broadcast S256x256 0#32)))
      (subi (divsi row (broadcast S256x256 8#32)) (broadcast S256x256 1#32))
      (divsi row (broadcast S256x256 8#32)))
where
  row : IVec S256x256 32 := iota .tc S256x256 32 [0] iota_S256x256_d0_w32
  eight : BitVec 32 := Scalar.select (Scalar.cmpi .eq 8#32 0#32) 1#32 8#32

/-- The gate's rows, reordered by a product with zeros and ones. -/
def gate (w : Vec F S3072x256 .fp8e4m3) : FVec F S256x3072 .bf16 :=
  shapeCast S256x3072
    (truncf .bf16
      (matmul dot_S256x256_S3072x256_S256x3072_1_1_0_0_n_n none
        (truncf .bf16 (sitofp .f32 (extui 32 (cmpi .eq (iota .tc S256x256 32 [1] iota_S256x256_d1_w32) rowExpert) natLt_1_32)) bitsLt_bf16_f32)
        (extf .bf16 w bitsLt_fp8e4m3_bf16) (constant S256x3072 .f32 0x00000000#32))
      bitsLt_bf16_f32)
    shapeCasts_S256x3072_S256x3072

end Cert.KernelIdeal.Route
-- ==== Proof.Top.lean ====
/-
  Sorted lists of four, by thresholds. A list `a ≥ b ≥ c ≥ d` of the four largest members of a family is described by how
  many members reach each threshold: `c ≤ a` if at least one does, `c ≤ b` if at least two do, and so on. Exchanging,
  sorting and merging such lists is then arithmetic of counts, and two lists with the same counts are equal.
-/
module

public import Mathlib.Data.EReal.Basic
public import Mathlib.Algebra.BigOperators.Fin
public import Mathlib.Tactic.FinCases
public import Mathlib.Tactic.Ring

@[expose] public section

noncomputable section

namespace Cert.Top

/-- Four values, the largest first. -/
structure Q4 where
  a : EReal
  b : EReal
  c : EReal
  d : EReal

/-- Four values sorted by five exchanges. -/
def Q4.sort (x0 x1 x2 x3 : EReal) : Q4 :=
  ⟨max (max x0 x1) (max x2 x3),
   max (max (min x0 x1) (min x2 x3)) (min (max x0 x1) (max x2 x3)),
   min (max (min x0 x1) (min x2 x3)) (min (max x0 x1) (max x2 x3)),
   min (min x0 x1) (min x2 x3)⟩

/-- The four largest of two sorted lists of four. -/
def Q4.merge (x y : Q4) : Q4 :=
  ⟨max (max (max x.a y.d) (max x.c y.b)) (max (max x.b y.c) (max x.d y.a)),
   min (max (max x.a y.d) (max x.c y.b)) (max (max x.b y.c) (max x.d y.a)),
   max (min (max x.a y.d) (max x.c y.b)) (min (max x.b y.c) (max x.d y.a)),
   min (min (max x.a y.d) (max x.c y.b)) (min (max x.b y.c) (max x.d y.a))⟩

/-- The list `q` is that of a family of which `n c` members reach the threshold `c`. -/
def Q4.Counts (q : Q4) (n : EReal → ℕ) : Prop :=
  ∀ c, ⊥ < c → (c ≤ q.a ↔ 1 ≤ n c) ∧ (c ≤ q.b ↔ 2 ≤ n c) ∧ (c ≤ q.c ↔ 3 ≤ n c) ∧ (c ≤ q.d ↔ 4 ≤ n c)

/-- One if `x` reaches the threshold `c`, else zero. -/
def reach (c x : EReal) : ℕ := if c ≤ x then 1 else 0

theorem Q4.counts_sort (x0 x1 x2 x3 : EReal) :
    (Q4.sort x0 x1 x2 x3).Counts (fun c => reach c x0 + reach c x1 + reach c x2 + reach c x3) := by
  intro c _
  simp only [Q4.sort, reach, le_max_iff, le_min_iff]
  by_cases h0 : c ≤ x0 <;> by_cases h1 : c ≤ x1 <;> by_cases h2 : c ≤ x2 <;> by_cases h3 : c ≤ x3 <;> simp [h0, h1, h2, h3]

theorem Q4.Counts.merge {x y : Q4} {m n : EReal → ℕ} (hx : x.Counts m) (hy : y.Counts n) :
    (Q4.merge x y).Counts (fun c => m c + n c) := by
  intro c hc
  obtain ⟨xa, xb, xc, xd⟩ := hx c hc
  obtain ⟨ya, yb, yc, yd⟩ := hy c hc
  simp only [Q4.merge, le_max_iff, le_min_iff, xa, xb, xc, xd, ya, yb, yc, yd]
  refine ⟨?_, ?_, ?_, ?_⟩ <;> omega

theorem Q4.Counts.congr {x : Q4} {m n : EReal → ℕ} (hx : x.Counts m) (h : ∀ c, m c = n c) : x.Counts n :=
  (funext h : m = n) ▸ hx

theorem Q4.Counts.congrOn {x : Q4} {m n : EReal → ℕ} (hx : x.Counts m) (h : ∀ c, ⊥ < c → m c = n c) : x.Counts n :=
  fun c hc => h c hc ▸ hx c hc

/-- The list of minus infinities: no member reaches a threshold. -/
theorem Q4.counts_bot : (⟨⊥, ⊥, ⊥, ⊥⟩ : Q4).Counts (fun _ => 0) := by
  intro c hc
  simp [not_le.mpr hc, hc.ne']

/-- Values with the same thresholds are equal. -/
theorem eq_of_reach {a b : EReal} (h : ∀ c, ⊥ < c → (c ≤ a ↔ c ≤ b)) : a = b := by
  apply le_antisymm
  · rcases eq_or_lt_of_le (bot_le : ⊥ ≤ a) with h0 | h0
    · exact h0 ▸ bot_le
    · exact (h a h0).1 le_rfl
  · rcases eq_or_lt_of_le (bot_le : ⊥ ≤ b) with h0 | h0
    · exact h0 ▸ bot_le
    · exact (h b h0).2 le_rfl

/-- The four largest of thirty-two values: eight sorted lists of four, merged in pairs. -/
def top32 (f : Fin 32 → EReal) : Q4 :=
  .merge
    (.merge (.merge (.sort (f 0) (f 1) (f 2) (f 3)) (.sort (f 4) (f 5) (f 6) (f 7)))
      (.merge (.sort (f 8) (f 9) (f 10) (f 11)) (.sort (f 12) (f 13) (f 14) (f 15))))
    (.merge (.merge (.sort (f 16) (f 17) (f 18) (f 19)) (.sort (f 20) (f 21) (f 22) (f 23)))
      (.merge (.sort (f 24) (f 25) (f 26) (f 27)) (.sort (f 28) (f 29) (f 30) (f 31))))

/-- How many of thirty-two values reach `c`. -/
def count32 (f : Fin 32 → EReal) (c : EReal) : ℕ := ∑ v, reach c (f v)

theorem sum32 (g : Fin 32 → ℕ) :
    ∑ v, g v = ((((g 0 + g 1 + g 2 + g 3) + (g 4 + g 5 + g 6 + g 7)) + ((g 8 + g 9 + g 10 + g 11) + (g 12 + g 13 + g 14 + g 15)))
      + (((g 16 + g 17 + g 18 + g 19) + (g 20 + g 21 + g 22 + g 23)) + ((g 24 + g 25 + g 26 + g 27) + (g 28 + g 29 + g 30 + g 31)))) := by
  simp only [Fin.sum_univ_succ, Fin.sum_univ_zero]
  simp only [← add_assoc, add_zero]
  rfl

theorem counts_top32 (f : Fin 32 → EReal) : (top32 f).Counts (count32 f) := by
  refine Q4.Counts.congr (Q4.Counts.merge
    (((Q4.counts_sort _ _ _ _).merge (Q4.counts_sort _ _ _ _)).merge ((Q4.counts_sort _ _ _ _).merge (Q4.counts_sort _ _ _ _)))
    (((Q4.counts_sort _ _ _ _).merge (Q4.counts_sort _ _ _ _)).merge ((Q4.counts_sort _ _ _ _).merge (Q4.counts_sort _ _ _ _))))
    fun c => ?_
  rw [count32, sum32]

theorem count32_pos {f : Fin 32 → EReal} {c : EReal} : 1 ≤ count32 f c ↔ ∃ v, c ≤ f v := by
  unfold count32 reach
  rw [Nat.one_le_iff_ne_zero, Ne, Finset.sum_eq_zero_iff]
  simp

theorem count32_two {f : Fin 32 → EReal} {c : EReal} : 2 ≤ count32 f c ↔ ∃ v w, v ≠ w ∧ c ≤ f v ∧ c ≤ f w := by
  have : count32 f c = (Finset.univ.filter fun v => c ≤ f v).card := by
    simp [count32, reach]
  rw [this, show (2 ≤ (Finset.univ.filter fun v => c ≤ f v).card ↔ 1 < (Finset.univ.filter fun v => c ≤ f v).card) from Iff.rfl,
    Finset.one_lt_card]
  constructor
  · rintro ⟨v, hv, w, hw, h⟩
    exact ⟨v, w, h, by simpa using hv, by simpa using hw⟩
  · rintro ⟨v, w, h, hv, hw⟩
    exact ⟨v, by simpa using hv, w, by simpa using hw, h⟩

/-- The largest of thirty-two values. -/
theorem top32_a {f : Fin 32 → EReal} {m : EReal} (hle : ∀ v, f v ≤ m) (hex : ∃ v, f v = m) : (top32 f).a = m := by
  apply eq_of_reach
  intro c hc
  rw [(counts_top32 f c hc).1, count32_pos]
  obtain ⟨v, hv⟩ := hex
  exact ⟨fun ⟨w, hw⟩ => hw.trans (hle w), fun h => ⟨v, hv ▸ h⟩⟩

/-- The second largest of thirty-two values, when two of them are the largest: the largest again. -/
theorem top32_b_twice {f : Fin 32 → EReal} {m : EReal} (hle : ∀ v, f v ≤ m) (hex : ∃ v w, v ≠ w ∧ f v = m ∧ f w = m) :
    (top32 f).b = m := by
  apply eq_of_reach
  intro c hc
  rw [(counts_top32 f c hc).2.1, count32_two]
  obtain ⟨v, w, hne, hv, hw⟩ := hex
  exact ⟨fun ⟨u, _, _, hu, _⟩ => hu.trans (hle u), fun h => ⟨v, w, hne, hv ▸ h, hw ▸ h⟩⟩

/-- The second largest of thirty-two values, when one only is the largest: the largest of the others. -/
theorem top32_b_once {f : Fin 32 → EReal} {m n : EReal} (hle : ∀ v, f v ≤ m) (hex : ∃ v, f v = m)
    (hone : ∀ v w, f v = m → f w = m → v = w) (hn : ∀ c, ⊥ < c → (c ≤ n ↔ ∃ v, f v ≠ m ∧ c ≤ f v)) : (top32 f).b = n := by
  apply eq_of_reach
  intro c hc
  rw [(counts_top32 f c hc).2.1, count32_two, hn c hc]
  constructor
  · rintro ⟨v, w, hne, hv, hw⟩
    by_cases h : f v = m
    · exact ⟨w, fun hw' => hne (hone v w h hw'), hw⟩
    · exact ⟨v, h, hv⟩
  · rintro ⟨v, hv, hc'⟩
    obtain ⟨w, hw⟩ := hex
    exact ⟨v, w, fun h => hv (h ▸ hw), hc', hw ▸ hc'.trans (hle v)⟩

/-- The merge of eight lists, the lists of distance four first, then of distance two, then the neighbours. -/
def merge8 (q : Fin 8 → Q4) (s : Fin 8) : Q4 :=
  let q1 := fun s => Q4.merge (q s) (q (s - 4))
  let q2 := fun s => Q4.merge (q1 s) (q1 (s - 2))
  Q4.merge (q2 s) (q2 (s - 1))

theorem counts_merge8 {q : Fin 8 → Q4} {n : Fin 8 → EReal → ℕ} (h : ∀ s, (q s).Counts (n s)) (s : Fin 8) :
    (merge8 q s).Counts (fun c => ∑ j, n j c) := by
  refine Q4.Counts.congr (Q4.Counts.merge
    (Q4.Counts.merge (Q4.Counts.merge (h _) (h _)) (Q4.Counts.merge (h _) (h _)))
    (Q4.Counts.merge (Q4.Counts.merge (h _) (h _)) (Q4.Counts.merge (h _) (h _)))) fun c => ?_
  rw [Fin.sum_univ_eight]
  fin_cases s <;> simp only [Fin.reduceFinMk, Fin.reduceSub, Fin.zero_eta, Fin.mk_one] <;> ring_nf

end Cert.Top

end
-- ==== Proof.Pick.lean ====
/-
  Which groups are kept, and which experts are picked from the kept groups — as statements about a family of 256 extended
  reals. The four picks one after the other (each time the lowest expert with the largest value left) and the sorted list of
  the four largest values agree, and while the four values are distinct the picked expert is the lowest kept expert with
  that value.
-/
module

public import proofs.«01_k».proof.Proof.Top
public import Mathlib.Data.BitVec
public import Mathlib.Logic.Equiv.Fin.Basic

@[expose] public section

noncomputable section

namespace Cert.Top

/-- `n` is the lowest member of `p`. -/
def IsLow {N : ℕ} (p : Fin N → Prop) (n : Fin N) : Prop := p n ∧ ∀ m, m < n → ¬ p m

theorem IsLow.unique {N : ℕ} {p : Fin N → Prop} {n n' : Fin N} (h : IsLow p n) (h' : IsLow p n') : n = n' := by
  rcases lt_trichotomy n n' with hlt | heq | hgt
  · exact absurd h.1 (h'.2 _ hlt)
  · exact heq
  · exact absurd h'.1 (h.2 _ hgt)

theorem IsLow.congr {N : ℕ} {p q : Fin N → Prop} {n : Fin N} (h : IsLow p n) (hpq : ∀ e, p e ↔ q e) : IsLow q n :=
  ⟨(hpq n).1 h.1, fun m hm hq => h.2 m hm ((hpq m).2 hq)⟩

theorem exists_isLow {N : ℕ} {p : Fin N → Prop} (h : ∃ e, p e) : ∃ n, IsLow p n := by
  classical
  obtain ⟨e, he⟩ := h
  have hne : (Finset.univ.filter p).Nonempty := ⟨e, by simpa using he⟩
  refine ⟨(Finset.univ.filter p).min' hne, by simpa using Finset.min'_mem _ hne, fun m hm hp => ?_⟩
  exact absurd (Finset.min'_le _ m (by simpa using hp)) (not_le.mpr hm)

/-! ## The kept groups -/

/-- Group `j` comes before group `i`: a larger score, or the same score and a lower number. -/
def Beats (g : Fin 8 → EReal) (i j : Fin 8) : Prop := g i < g j ∨ (g j = g i ∧ j < i)

open Classical in
/-- `Beats` as a word. -/
def beatsW (g : Fin 8 → EReal) (i j : Fin 8) : BitVec 32 := if Beats g i j then 1 else 0

/-- How many groups come before group `i`, as a word. -/
def rankW (g : Fin 8 → EReal) (i : Fin 8) : BitVec 32 := ∑ j, beatsW g i j

/-- Group `i` is among the best four. -/
def Keep (g : Fin 8 → EReal) (i : Fin 8) : Prop := (rankW g i).slt 4 = true

theorem exists_keep (g : Fin 8 → EReal) : ∃ i, Keep g i := by
  classical
  obtain ⟨b, -, hb⟩ := Finset.exists_max_image Finset.univ g ⟨0, Finset.mem_univ _⟩
  obtain ⟨n, hn⟩ := exists_isLow (p := fun e => g e = g b) ⟨b, rfl⟩
  refine ⟨n, ?_⟩
  have h0 : ∀ j, beatsW g n j = 0 := by
    intro j
    unfold beatsW
    rw [if_neg]
    rintro (h | ⟨h, hlt⟩)
    · exact absurd (hb j (Finset.mem_univ _)) (not_le.mpr (hn.1 ▸ h))
    · exact hn.2 j hlt (h.trans hn.1)
  unfold Keep rankW
  rw [Finset.sum_congr rfl fun j _ => h0 j, Finset.sum_const_zero]
  decide

open Classical in
/-- Group `i` against the group `r` places before it, in a circle. -/
def rollW (g : Fin 8 → EReal) (i r : Fin 8) : BitVec 32 := if g i < g (i - r) ∨ (g (i - r) = g i ∧ r ≤ i) then 1 else 0

theorem rollW_eq (g : Fin 8 → EReal) (i r : Fin 8) (hr : r ≠ 0) : rollW g i r = beatsW g i (i - r) := by
  have : r ≤ i ↔ i - r < i := by revert hr; revert i r; decide
  unfold rollW beatsW
  by_cases h : Beats g i (i - r)
  · rw [if_pos h, if_pos (by rw [this]; exact h)]
  · rw [if_neg h, if_neg (by rw [this]; exact h)]

theorem beatsW_self (g : Fin 8 → EReal) (i : Fin 8) : beatsW g i i = 0 := by
  simp [beatsW, Beats]

theorem rank_roll (g : Fin 8 → EReal) (i : Fin 8) :
    0 + rollW g i 1 + rollW g i 2 + rollW g i 3 + rollW g i 4 + rollW g i 5 + rollW g i 6 + rollW g i 7 = rankW g i := by
  have h0 := beatsW_self g i
  rw [rollW_eq _ _ _ (by decide), rollW_eq _ _ _ (by decide), rollW_eq _ _ _ (by decide), rollW_eq _ _ _ (by decide),
    rollW_eq _ _ _ (by decide), rollW_eq _ _ _ (by decide), rollW_eq _ _ _ (by decide), rankW, Fin.sum_univ_eight]
  generalize beatsW g i = w at *
  fin_cases i <;> simp only [Fin.reduceFinMk, Fin.reduceSub, Fin.zero_eta, Fin.mk_one] at * <;> rw [h0] <;> abel

/-! ## The experts of the groups -/

/-- Expert `v` of group `s`. -/
def expert (s : Fin 8) (v : Fin 32) : Fin 256 := ⟨32 * s.val + v.val, by omega⟩

/-- The group of an expert. -/
def groupOf (e : Fin 256) : Fin 8 := ⟨e.val / 32, by omega⟩

/-- An expert's place in its group. -/
def placeOf (e : Fin 256) : Fin 32 := ⟨e.val % 32, by omega⟩

@[simp] theorem groupOf_expert (s : Fin 8) (v : Fin 32) : groupOf (expert s v) = s := by
  apply Fin.ext; simp only [groupOf, expert]; omega

@[simp] theorem placeOf_expert (s : Fin 8) (v : Fin 32) : placeOf (expert s v) = v := by
  apply Fin.ext; simp only [placeOf, expert]; omega

@[simp] theorem expert_group_place (e : Fin 256) : expert (groupOf e) (placeOf e) = e := by
  apply Fin.ext; simp only [placeOf, expert, groupOf]; omega

theorem sum_expert {M : Type} [AddCommMonoid M] (g : Fin 256 → M) : ∑ e, g e = ∑ s, ∑ v, g (expert s v) := by
  rw [← Finset.sum_product']
  symm
  exact Finset.sum_bij' (fun p _ => expert p.1 p.2) (fun e _ => (groupOf e, placeOf e)) (by simp) (by simp) (by simp) (by simp) (by simp)

/-- How many of 256 values reach `c`. -/
def count256 (f : Fin 256 → EReal) (c : EReal) : ℕ := ∑ e, reach c (f e)

theorem count256_pos {f : Fin 256 → EReal} {c : EReal} : 1 ≤ count256 f c ↔ ∃ v, c ≤ f v := by
  unfold count256 reach
  rw [Nat.one_le_iff_ne_zero, Ne, Finset.sum_eq_zero_iff]
  simp

open Classical in
/-- The values of the experts of the kept groups; minus infinity at the others. -/
def masked (kept : Fin 256 → Prop) (f : Fin 256 → EReal) (e : Fin 256) : EReal := if kept e then f e else ⊥

/-- The lists of the kept groups, merged, are the list of the kept experts. -/
theorem counts_best (f : Fin 256 → EReal) (keep : Fin 8 → Prop) (q : Fin 8 → Q4)
    (hk : ∀ s, keep s → q s = top32 fun v => f (expert s v)) (hn : ∀ s, ¬ keep s → q s = ⟨⊥, ⊥, ⊥, ⊥⟩) (s : Fin 8) :
    (merge8 q s).Counts (count256 (masked (fun e => keep (groupOf e)) f)) := by
  classical
  refine (counts_merge8 (n := fun s c => if keep s then count32 (fun v => f (expert s v)) c else 0) (fun s => ?_) s)
    |>.congrOn fun c hc => ?_
  · by_cases h : keep s
    · simpa [h, hk s h] using counts_top32 _
    · simpa [h, hn s h] using Q4.counts_bot
  · rw [count256, sum_expert]
    refine Finset.sum_congr rfl fun s _ => ?_
    by_cases h : keep s
    · simp [h, masked, count32]
    · simp [h, masked, reach, not_le.mpr hc, hc.ne']

/-- A list of four of a family with at least four members: each of its values is the value of a member. -/
theorem exists_eq_of_counts {kept : Fin 256 → Prop} {f : Fin 256 → EReal} {b : EReal} {k : ℕ}
    (h : ∀ c, ⊥ < c → (c ≤ b ↔ k ≤ count256 (masked kept f) c)) (hk : ∃ s : Finset (Fin 256), k ≤ s.card ∧ ∀ e ∈ s, kept e)
    (hk0 : 1 ≤ k) : ∃ e, kept e ∧ f e = b := by
  classical
  by_contra hno
  push Not at hno
  have hcount : ∀ c, ⊥ < c → count256 (masked kept f) c = (Finset.univ.filter fun e => kept e ∧ c ≤ f e).card := by
    intro c hc
    rw [Finset.card_filter]
    refine Finset.sum_congr rfl fun e _ => ?_
    by_cases he : kept e <;> simp [reach, masked, he, not_le.mpr hc, hc.ne']
  have hS : k ≤ (Finset.univ.filter fun e => kept e ∧ b < f e).card := by
    rcases eq_or_lt_of_le (bot_le : ⊥ ≤ b) with h0 | h0
    · obtain ⟨s, hs, hks⟩ := hk
      refine hs.trans (Finset.card_le_card fun e he => ?_)
      have := hno e (hks e he)
      rw [← h0] at this ⊢
      simpa [hks e he] using bot_lt_iff_ne_bot.mpr this
    · have := (h b h0).1 le_rfl
      rw [hcount b h0] at this
      refine this.trans (Finset.card_le_card fun e he => ?_)
      simp only [Finset.mem_filter, Finset.mem_univ, true_and] at he ⊢
      exact ⟨he.1, lt_of_le_of_ne he.2 (hno e he.1).symm⟩
  have hne : (Finset.univ.filter fun e => kept e ∧ b < f e).Nonempty := Finset.card_pos.mp (by omega)
  obtain ⟨e0, he0, hmin⟩ := Finset.exists_min_image _ f hne
  have hb : b < f e0 := by simpa using (Finset.mem_filter.mp he0).2.2
  have hc : ⊥ < f e0 := lt_of_le_of_lt bot_le hb
  have : f e0 ≤ b := by
    rw [h _ hc, hcount _ hc]
    refine hS.trans (Finset.card_le_card fun e he => ?_)
    have := hmin e he
    simp only [Finset.mem_filter, Finset.mem_univ, true_and] at he ⊢
    exact ⟨he.1, this⟩
  exact absurd this (not_le.mpr hb)

/-! ## Four picks -/

/-- One pick: `m` is the largest value of `h`, `n` the lowest expert that has it, and `h'` is `h` without that expert. -/
structure Pick (h h' : Fin 256 → EReal) (m : EReal) (n : Fin 256) : Prop where
  le : ∀ e, h e ≤ m
  low : IsLow (fun e => h e = m) n
  next : ∀ e, h' e = if e = n then ⊥ else h e

theorem Pick.reach {h h' : Fin 256 → EReal} {m : EReal} {n : Fin 256} (p : Pick h h' m n) (c : EReal) :
    c ≤ m ↔ 1 ≤ count256 h c := by
  rw [count256_pos]
  exact ⟨fun hc => ⟨n, p.low.1.symm ▸ hc⟩, fun ⟨e, he⟩ => he.trans (p.le e)⟩

theorem Pick.count {h h' : Fin 256 → EReal} {m : EReal} {n : Fin 256} (p : Pick h h' m n) (c : EReal) (hc : ⊥ < c) :
    count256 h' c = count256 h c - 1 := by
  classical
  have h1 : count256 h c = Top.reach c (h n) + ∑ e ∈ Finset.univ.erase n, Top.reach c (h e) :=
    (Finset.add_sum_erase _ _ (Finset.mem_univ n)).symm
  have h2 : count256 h' c = Top.reach c (h' n) + ∑ e ∈ Finset.univ.erase n, Top.reach c (h' e) :=
    (Finset.add_sum_erase _ _ (Finset.mem_univ n)).symm
  have h3 : ∑ e ∈ Finset.univ.erase n, Top.reach c (h' e) = ∑ e ∈ Finset.univ.erase n, Top.reach c (h e) :=
    Finset.sum_congr rfl fun e he => by rw [p.next e, if_neg (Finset.ne_of_mem_erase he)]
  have h4 : Top.reach c (h' n) = 0 := by simp [Top.reach, p.next n, not_le.mpr hc, hc.ne']
  have hn : h n = m := p.low.1
  by_cases hcm : c ≤ m
  · have : Top.reach c (h n) = 1 := by simp [Top.reach, hn, hcm]
    omega
  · have : count256 h c = 0 := by
      have := (p.reach c).not.1 hcm
      omega
    omega

/-- The facts about four picks in a row, from the values of the kept experts. -/
theorem picks {kept : Fin 256 → Prop} {f h1 h2 h3 h4 : Fin 256 → EReal} {m0 m1 m2 m3 : EReal} {n0 n1 n2 n3 : Fin 256}
    {q : Q4} (hq : q.Counts (count256 (masked kept f)))
    (p0 : Pick (masked kept f) h1 m0 n0) (p1 : Pick h1 h2 m1 n1) (p2 : Pick h2 h3 m2 n2) (p3 : Pick h3 h4 m3 n3) :
    (m0 = q.a ∧ m1 = q.b ∧ m2 = q.c ∧ m3 = q.d) ∧
    (¬ (m0 = m1 ∨ m1 = m2 ∨ m2 = m3 ∨ m3 = ⊥) →
      IsLow (fun e => kept e ∧ f e = m0) n0 ∧ IsLow (fun e => kept e ∧ f e = m1) n1 ∧
      IsLow (fun e => kept e ∧ f e = m2) n2 ∧ IsLow (fun e => kept e ∧ f e = m3) n3) := by
  have e0 : m0 = q.a := eq_of_reach fun c hc => by rw [p0.reach c, (hq c hc).1]
  have e1 : m1 = q.b := eq_of_reach fun c hc => by rw [p1.reach c, (hq c hc).2.1, p0.count c hc]; omega
  have e2 : m2 = q.c := eq_of_reach fun c hc => by rw [p2.reach c, (hq c hc).2.2.1, p1.count c hc, p0.count c hc]; omega
  have e3 : m3 = q.d := eq_of_reach fun c hc => by
    rw [p3.reach c, (hq c hc).2.2.2, p2.count c hc, p1.count c hc, p0.count c hc]; omega
  refine ⟨⟨e0, e1, e2, e3⟩, fun hno => ?_⟩
  push Not at hno
  obtain ⟨h01, h12, h23, h3b⟩ := hno
  have le1 : ∀ {h h' h'' : Fin 256 → EReal} {m m' : EReal} {n n' : Fin 256}, Pick h h' m n → Pick h' h'' m' n' → m' ≤ m := by
    intro h h' h'' m m' n n' p p'
    rw [← p'.low.1, p.next]
    split_ifs
    · exact bot_le
    · exact p.le _
  have l01 : m1 < m0 := lt_of_le_of_ne (le1 p0 p1) h01.symm
  have l12 : m2 < m1 := lt_of_le_of_ne (le1 p1 p2) h12.symm
  have l23 : m3 < m2 := lt_of_le_of_ne (le1 p2 p3) h23.symm
  have l3 : ⊥ < m3 := bot_lt_iff_ne_bot.mpr h3b
  have i0 : ∀ e b, ⊥ < b → (masked kept f e = b ↔ kept e ∧ f e = b) := by
    intro e b hb
    by_cases he : kept e <;> simp [masked, he, hb.ne]
  have step : ∀ {h h' : Fin 256 → EReal} {m : EReal} {n : Fin 256}, Pick h h' m n →
      ∀ e b, ⊥ < b → b < m → (h e = b ↔ kept e ∧ f e = b) → (h' e = b ↔ kept e ∧ f e = b) := by
    intro h h' m n p e b hb hbm hi
    rw [p.next, ← hi]
    split_ifs with hen
    · have hm : h e = m := hen ▸ p.low.1
      rw [hm]
      exact ⟨fun hh => absurd hh hb.ne, fun hh => absurd hh hbm.ne'⟩
    · rfl
  have i1 : ∀ e b, ⊥ < b → b < m0 → (h1 e = b ↔ kept e ∧ f e = b) := fun e b hb hl => step p0 e b hb hl (i0 e b hb)
  have i2 : ∀ e b, ⊥ < b → b < m1 → (h2 e = b ↔ kept e ∧ f e = b) := fun e b hb hl => step p1 e b hb hl (i1 e b hb (hl.trans l01))
  have i3 : ∀ e b, ⊥ < b → b < m2 → (h3 e = b ↔ kept e ∧ f e = b) := fun e b hb hl => step p2 e b hb hl (i2 e b hb (hl.trans l12))
  exact ⟨p0.low.congr fun e => i0 e m0 (l3.trans (l23.trans (l12.trans l01))),
    p1.low.congr fun e => i1 e m1 (l3.trans (l23.trans l12)) l01,
    p2.low.congr fun e => i2 e m2 (l3.trans l23) l12,
    p3.low.congr fun e => i3 e m3 l3 l23⟩

end Cert.Top

end
-- ==== Proof.Spec.lean ====
/-
  What both programs compute for one token, from the 256 biased scores `f` and the 256 scores `sc`: the groups kept, the four best
  biased scores among their experts, for each the lowest expert that has it, and that expert's share of the four scores.
-/
module

public import proofs.«01_k».proof.Proof.Pick

@[expose] public section

noncomputable section

namespace Cert.Top

/-- A group's score: the sum of its two largest biased scores. -/
def gscore (f : Fin 256 → EReal) (s : Fin 8) : EReal :=
  (top32 fun v => f (expert s v)).a + (top32 fun v => f (expert s v)).b

/-- Whether a group is kept. -/
def Kept (f : Fin 256 → EReal) (s : Fin 8) : Prop := Keep (gscore f) s

open Classical in
/-- The list of a kept group; minus infinities elsewhere. -/
def lists (f : Fin 256 → EReal) (s : Fin 8) : Q4 :=
  if Kept f s then top32 fun v => f (expert s v) else ⟨⊥, ⊥, ⊥, ⊥⟩

/-- The four best biased scores of the kept experts. -/
def bests (f : Fin 256 → EReal) : Q4 := merge8 (lists f) 0

theorem counts_lists (f : Fin 256 → EReal) (s : Fin 8) :
    (merge8 (lists f) s).Counts (count256 (masked (fun e => Kept f (groupOf e)) f)) := by
  classical
  exact counts_best f (Kept f) (lists f) (fun s h => by rw [lists, if_pos h]) (fun s h => by rw [lists, if_neg h]) s

theorem Q4.Counts.unique {x y : Q4} {n : EReal → ℕ} (hx : x.Counts n) (hy : y.Counts n) : x = y := by
  have ha : x.a = y.a := eq_of_reach fun c hc => (hx c hc).1.trans (hy c hc).1.symm
  have hb : x.b = y.b := eq_of_reach fun c hc => (hx c hc).2.1.trans (hy c hc).2.1.symm
  have hcc : x.c = y.c := eq_of_reach fun c hc => (hx c hc).2.2.1.trans (hy c hc).2.2.1.symm
  have hd : x.d = y.d := eq_of_reach fun c hc => (hx c hc).2.2.2.trans (hy c hc).2.2.2.symm
  cases x; cases y; simp_all

/-- Every sublane's list is the same. -/
theorem merge_lists (f : Fin 256 → EReal) (s : Fin 8) : merge8 (lists f) s = bests f :=
  (counts_lists f s).unique (counts_lists f 0)

/-- A list's member, by its place. -/
def Q4.get (q : Q4) : Fin 4 → EReal := ![q.a, q.b, q.c, q.d]

/-- Expert `e` is kept and its biased score is the `k`-th best. -/
def Hit (f : Fin 256 → EReal) (k : Fin 4) (e : Fin 256) : Prop := Kept f (groupOf e) ∧ f e = (bests f).get k

theorem exists_hit (f : Fin 256 → EReal) (k : Fin 4) : ∃ e, Hit f k e := by
  classical
  obtain ⟨s, hs⟩ := exists_keep (gscore f)
  have hset : ∃ t : Finset (Fin 256), 4 ≤ t.card ∧ ∀ e ∈ t, Kept f (groupOf e) := by
    refine ⟨Finset.univ.image (expert s), ?_, ?_⟩
    · rw [Finset.card_image_of_injective]
      · simp
      · intro v w h
        have := congrArg placeOf h
        simpa using this
    · intro e he
      obtain ⟨v, -, rfl⟩ := Finset.mem_image.mp he
      simpa [Kept] using hs
  have hle : ∀ n, n ≤ 4 → ∃ t : Finset (Fin 256), n ≤ t.card ∧ ∀ e ∈ t, Kept f (groupOf e) :=
    fun n hn => hset.imp fun t ht => ⟨hn.trans ht.1, ht.2⟩
  have h := counts_lists f 0
  fin_cases k
  · exact exists_eq_of_counts (fun c hc => (h c hc).1) (hle 1 (by decide)) (by decide)
  · exact exists_eq_of_counts (fun c hc => (h c hc).2.1) (hle 2 (by decide)) (by decide)
  · exact exists_eq_of_counts (fun c hc => (h c hc).2.2.1) (hle 3 (by decide)) (by decide)
  · exact exists_eq_of_counts (fun c hc => (h c hc).2.2.2) (hle 4 (by decide)) (by decide)

/-- The `k`-th expert. -/
def chosen (f : Fin 256 → EReal) (k : Fin 4) : Fin 256 := (exists_isLow (exists_hit f k)).choose

theorem chosen_isLow (f : Fin 256 → EReal) (k : Fin 4) : IsLow (Hit f k) (chosen f k) :=
  (exists_isLow (exists_hit f k)).choose_spec

/-- The `k`-th expert's number. -/
def idOf (f : Fin 256 → EReal) (k : Fin 4) : BitVec 32 := BitVec.ofNat 32 (chosen f k).val

/-- The sum of the four experts' scores. -/
def total (f sc : Fin 256 → EReal) : EReal := sc (chosen f 0) + sc (chosen f 1) + sc (chosen f 2) + sc (chosen f 3)

end Cert.Top
-- ==== Proof.Words.lean ====
/-
  Comparisons, selections and minima of words, read as propositions.
-/
module

public import Idealize.ShloMosaic.PureOps.Ideal
public import Idealize.ShloMosaic.PureOps.Ideal.Laws
public import Idealize.ShloMosaic.PureOps.Reduce

@[expose] public section

namespace Cert.Top

open Idealize.ShloMosaic

theorem sel_ofBool {α : Type} (b : Bool) (x y : α) : Scalar.select (BitVec.ofBool b) x y = if b = true then x else y := by
  cases b <;> rfl

theorem or_ofBool (a b : Bool) : IntOp.ori (BitVec.ofBool a) (BitVec.ofBool b) = BitVec.ofBool (a || b) := by
  cases a <;> cases b <;> rfl

theorem and_ofBool (a b : Bool) : IntOp.andi (BitVec.ofBool a) (BitVec.ofBool b) = BitVec.ofBool (a && b) := by
  cases a <;> cases b <;> rfl

theorem ofBool_one (b : Bool) : BitVec.ofBool b = 1#1 ↔ b = true := by cases b <;> decide

theorem cmp_oeq (x y : EReal) : Ideal.cmp .oeq x y = BitVec.ofBool (decide (x = y)) := rfl

theorem cmp_ogt (x y : EReal) : Ideal.cmp .ogt x y = BitVec.ofBool (decide (y < x)) := rfl

/-- The minus infinity the programs write. -/
theorem neg_inf : Ideal.ofBits .f32 0xFF800000#32 = ⊥ := by
  simp [Ideal.ofBits, Ideal.ieee]

theorem ofNat_slt {a b : ℕ} (ha : a < 2 ^ 31) (hb : b < 2 ^ 31) :
    (BitVec.ofNat 32 a).slt (BitVec.ofNat 32 b) = decide (a < b) := by
  have h1 : (BitVec.ofNat 32 a).toInt = a := by rw [BitVec.toInt_ofNat']; simp [Int.bmod]; omega
  have h2 : (BitVec.ofNat 32 b).toInt = b := by rw [BitVec.toInt_ofNat']; simp [Int.bmod]; omega
  simp only [BitVec.slt, h1, h2, Nat.cast_lt]

theorem ofNat_sle {a b : ℕ} (ha : a < 2 ^ 31) (hb : b < 2 ^ 31) :
    (BitVec.ofNat 32 a).sle (BitVec.ofNat 32 b) = decide (a ≤ b) := by
  have h1 : (BitVec.ofNat 32 a).toInt = a := by rw [BitVec.toInt_ofNat']; simp [Int.bmod]; omega
  have h2 : (BitVec.ofNat 32 b).toInt = b := by rw [BitVec.toInt_ofNat']; simp [Int.bmod]; omega
  simp only [BitVec.sle, h1, h2, Nat.cast_le]

/-- The least of finitely many small numbers, as a fold of words from the largest one. -/
theorem fold_min {ι : Type} [Fintype ι] (x : ι → ℕ) (hx : ∀ i, x i < 2 ^ 31) (m : ℕ) (hm : ∃ i, x i = m) (hle : ∀ i, m ≤ x i) :
    (Finset.univ : Finset ι).fold IntOp.minsi 2147483647#32 (fun i => BitVec.ofNat 32 (x i)) = BitVec.ofNat 32 m := by
  classical
  have key : ∀ s : Finset ι, ∃ r : ℕ, r < 2 ^ 31 ∧ s.fold IntOp.minsi 2147483647#32 (fun i => BitVec.ofNat 32 (x i)) = BitVec.ofNat 32 r ∧
      (∀ i ∈ s, r ≤ x i) ∧ (r = 2147483647 ∨ ∃ i ∈ s, x i = r) := by
    intro s
    induction s using Finset.induction_on with
    | empty => exact ⟨2147483647, by decide, rfl, by simp, .inl rfl⟩
    | insert a s ha ih =>
      obtain ⟨r, hr, hf, hall, hor⟩ := ih
      rw [Finset.fold_insert ha, hf]
      simp only [IntOp.minsi, ofNat_slt (hx a) hr, decide_eq_true_eq]
      by_cases h : x a < r
      · refine ⟨x a, hx a, by rw [if_pos h], ?_, .inr ⟨a, by simp, rfl⟩⟩
        intro i hi
        rcases Finset.mem_insert.mp hi with rfl | hi
        · exact le_rfl
        · exact h.le.trans (hall i hi)
      · refine ⟨r, hr, by rw [if_neg h], ?_, hor.imp_right fun ⟨i, hi, e⟩ => ⟨i, by simp [hi], e⟩⟩
        intro i hi
        rcases Finset.mem_insert.mp hi with rfl | hi
        · exact not_lt.mp h
        · exact hall i hi
  obtain ⟨r, hr, hf, hall, hor⟩ := key Finset.univ
  obtain ⟨i, hi⟩ := hm
  have h1 : r ≤ m := hi ▸ hall i (Finset.mem_univ i)
  have h2 : m ≤ r := by
    rcases hor with rfl | ⟨j, -, hj⟩
    · have := hx i; omega
    · exact hj ▸ hle j
  rw [hf, le_antisymm h1 h2]

end Cert.Top
-- ==== Proof.Lane.lean ====
/-
  The routing of 128 tokens, read at one token on the extended reals.
-/
module

public import proofs.«01_k».proof.Proof.Spec
public import proofs.«01_k».proof.Proof.Words
public import proofs.«01_k».proof.Proof.First
public import Idealize.ShloMosaic.PureOps.Ideal
public import Idealize.ShloMosaic.Lib.ValueIdxCore
public import Idealize.ShloMosaic.Lib.KernelVsHost
public import Idealize.ShloMosaic.Lib.Pointwise

@[expose] public section

noncomputable section

namespace Cert.KernelIdeal.Route

open Idealize.ShloMosaic Cert.KernelIdeal.Gen Cert.Top

variable (ch sc : Fin 32 → FVec Ideal S8x128 .f32)

/-- The 256 numbers of token `l`. -/
def tok (l : Fin 128) (e : Fin 256) : EReal := ch (placeOf e) (ix2 (groupOf e) l)

theorem tok_expert (l : Fin 128) (s : Fin 8) (v : Fin 32) : tok ch l (expert s v) = ch v (ix2 s l) := by
  simp [tok]

/-- A register list at an index. -/
def V4.at (q : V4 Ideal) (s : Fin 8) (l : Fin 128) : Q4 :=
  ⟨q.a (ix2 s l), q.b (ix2 s l), q.c (ix2 s l), q.d (ix2 s l)⟩

/-- Merging, sorting and rotating rows, at a token. -/
theorem merge_at (x y : V4 Ideal) (s : Fin 8) (l : Fin 128) : (x.merge y).at s l = (x.at s l).merge (y.at s l) := rfl

theorem top_at (s : Fin 8) (l : Fin 128) : (top ch).at s l = top32 fun v => tok ch l (expert s v) := by
  simp only [tok_expert]; rfl

theorem roll_at (n : BitVec 32) (r : Fin 8) (hn : n.toNat = r.val) (x : FVec Ideal S8x128 .f32) (s : Fin 8) (l : Fin 128) :
    roll n x (ix2 s l) = x (ix2 (s - r) l) := by
  refine dynamicRotate_apply (s := S8x128) 0 n x _ _ _ fun b => ?_
  fin_cases b
  · simp [S8x128, hn, ix2, Fin.sub_def]
    omega
  · simp [S8x128, ix2]

theorem sub_at (s : Fin 8) (l : Fin 128) : sub (ix2 s l) = BitVec.ofNat 32 s.val := by
  pointwise [sub]

theorem beats_at (n : BitVec 32) (r : Fin 8) (hn : n = BitVec.ofNat 32 r.val) (g : FVec Ideal S8x128 .f32) (s : Fin 8) (l : Fin 128) :
    beats n g (ix2 s l) = rollW (fun s => g (ix2 s l)) s r := by
  classical
  have h : beats n g (ix2 s l) = Scalar.select (IntOp.ori (Ideal.cmp .ogt (roll n g (ix2 s l)) (g (ix2 s l)))
      (IntOp.andi (Ideal.cmp .oeq (roll n g (ix2 s l)) (g (ix2 s l))) (IntOp.cmpi .sge (sub (ix2 s l)) n))) 1#32 0#32 := rfl
  have hs : IntOp.cmpi .sge (BitVec.ofNat 32 s.val) (BitVec.ofNat 32 r.val) = BitVec.ofBool (decide (r ≤ s)) := by
    show BitVec.ofBool ((BitVec.ofNat 32 r.val).sle (BitVec.ofNat 32 s.val)) = _
    rw [ofNat_sle (by omega) (by omega)]; rfl
  rw [h, roll_at n r (by rw [hn]; simp; omega), sub_at, hn, hs, cmp_ogt, cmp_oeq, and_ofBool, or_ofBool, sel_ofBool, rollW]
  congr 1
  simp

/-- How many groups beat a group, at a token. -/
theorem rank_at (g : FVec Ideal S8x128 .f32) (s : Fin 8) (l : Fin 128) : rank g (ix2 s l) = rankW (fun s => g (ix2 s l)) s := by
  rw [← rank_roll, ← beats_at 1#32 1 rfl, ← beats_at 2#32 2 rfl, ← beats_at 3#32 3 rfl, ← beats_at 4#32 4 rfl, ← beats_at 5#32 5 rfl,
    ← beats_at 6#32 6 rfl, ← beats_at 7#32 7 rfl]
  rfl

/-- A group's score, at a token. -/
theorem gscore_at (s : Fin 8) (l : Fin 128) : addf (top ch).a (top ch).b (ix2 s l) = gscore (tok ch l) s := by
  have h := top_at ch s l
  show (top ch).a (ix2 s l) + (top ch).b (ix2 s l) = _
  rw [gscore, ← h]; rfl

/-- Whether a group is kept, at a token. -/
theorem keep_at (s : Fin 8) (l : Fin 128) :
    keep ch (ix2 s l) = BitVec.ofBool ((rankW (gscore (tok ch l)) s).slt 4) := by
  show IntOp.cmpi .slt (rank _ (ix2 s l)) 4#32 = _
  rw [rank_at]
  simp only [gscore_at]
  rfl

theorem keep_iff (s : Fin 8) (l : Fin 128) : keep ch (ix2 s l) = 1#1 ↔ Kept (tok ch l) s := by
  rw [keep_at, ofBool_one]; rfl

/-- The masked lists, merged, are the four best biased scores, in every sublane. -/
theorem best_at (s : Fin 8) (l : Fin 128) : (best ch).at s l = bests (tok ch l) := by
  classical
  have ho : ∀ (x : FVec Ideal S8x128 .f32) (s : Fin 8), only (keep ch) x (ix2 s l) = if Kept (tok ch l) s then x (ix2 s l) else ⊥ := by
    intro x s
    show Scalar.select (keep ch (ix2 s l)) (x (ix2 s l)) (Ideal.ofBits .f32 0xFF800000#32) = _
    rw [Cert.Top.neg_inf, keep_at, sel_ofBool]; exact if_congr Iff.rfl rfl rfl
  set q0 : V4 Ideal := ⟨only (keep ch) (top ch).a, only (keep ch) (top ch).b, only (keep ch) (top ch).c, only (keep ch) (top ch).d⟩ with hq0
  have h0 : ∀ s, q0.at s l = lists (tok ch l) s := by
    intro s
    have ht := top_at ch s l
    rw [lists, ← ht]
    simp only [V4.at, hq0, ho]
    split <;> rfl
  have hr : ∀ (n : BitVec 32) (r : Fin 8), n.toNat = r.val → ∀ (q : V4 Ideal) s, (q.roll n).at s l = q.at (s - r) l := by
    intro n r hn q s
    simp only [V4.at, V4.roll, roll_at n r hn]
  rw [← merge_lists _ s, merge8]
  simp only [← h0]
  show ((((q0.merge (q0.roll 4#32)).merge ((q0.merge (q0.roll 4#32)).roll 2#32))).merge
    (((q0.merge (q0.roll 4#32)).merge ((q0.merge (q0.roll 4#32)).roll 2#32)).roll 1#32)).at s l = _
  simp only [merge_at, hr 4#32 4 rfl, hr 2#32 2 rfl, hr 1#32 1 rfl]

end Cert.KernelIdeal.Route
-- ==== Proof.Lane2.lean ====
/-
  The experts and the weights of 128 tokens, read at one token.
-/
module

public import proofs.«01_k».proof.Proof.Lane

@[expose] public section

noncomputable section

namespace Cert.KernelIdeal.Route

open Idealize.ShloMosaic Cert.KernelIdeal.Gen Cert.Top

variable (ch sc : Fin 32 → FVec Ideal S8x128 .f32)

theorem pick_cons {α : Type} (b : FVec Ideal S8x128 .f32) (w : Fin 32 → S8x128.Idx → α) (x : S8x128.Idx → α) (i : S8x128.Idx)
    (v : Fin 32) (L : List (Fin 32)) :
    (v :: L).foldr (fun v acc => select (cmpf .oeq (ch v) b) (w v) acc) x i =
      Scalar.select (Ideal.cmp .oeq (ch v i) (b i)) (w v i) (L.foldr (fun v acc => select (cmpf .oeq (ch v) b) (w v) acc) x i) := rfl

/-- The pick in a group: its lowest expert with the value. -/
theorem pick_list {α : Type} (b : FVec Ideal S8x128 .f32) (w : Fin 32 → S8x128.Idx → α) (x : S8x128.Idx → α) (i : S8x128.Idx)
    (v : Fin 32) (hv : ch v i = b i) (hlow : ∀ u, u < v → ¬ ch u i = b i) (L : List (Fin 32)) (hL : L.Pairwise (· < ·)) (hm : v ∈ L) :
    L.foldr (fun v acc => select (cmpf .oeq (ch v) b) (w v) acc) x i = w v i := by
  induction L with
  | nil => simp at hm
  | cons a L ih =>
    rw [pick_cons, cmp_oeq, sel_ofBool]
    rcases List.mem_cons.mp hm with rfl | hm
    · simp [hv]
    · have hlt : a < v := (List.pairwise_cons.mp hL).1 v hm
      rw [if_neg (by simpa using hlow a hlt)]
      exact ih (List.pairwise_cons.mp hL).2 hm

theorem pick_list_none {α : Type} (b : FVec Ideal S8x128 .f32) (w : Fin 32 → S8x128.Idx → α) (x : S8x128.Idx → α) (i : S8x128.Idx)
    (h : ∀ u, ¬ ch u i = b i) (L : List (Fin 32)) :
    L.foldr (fun v acc => select (cmpf .oeq (ch v) b) (w v) acc) x i = x i := by
  induction L with
  | nil => rfl
  | cons a L ih =>
    rw [pick_cons, cmp_oeq, sel_ofBool, if_neg (by simpa using h a), ih]

/-- The first row whose choice is `b` decides. -/
theorem pick_at {α : Type} (b : FVec Ideal S8x128 .f32) (w : Fin 32 → S8x128.Idx → α) (x : S8x128.Idx → α) (i : S8x128.Idx)
    {v : Fin 32} (hv : IsLow (fun v => ch v i = b i) v) : pick ch b w x i = w v i :=
  pick_list ch b w x i v hv.1 hv.2 _ (by decide) (by clear hv; revert v; decide)

theorem pick_none {α : Type} (b : FVec Ideal S8x128 .f32) (w : Fin 32 → S8x128.Idx → α) (x : S8x128.Idx → α) (i : S8x128.Idx)
    (h : ∀ u, ¬ ch u i = b i) : pick ch b w x i = x i := pick_list_none ch b w x i h _

open Classical in
theorem number_eq (b : FVec Ideal S8x128 .f32) (s : Fin 8) (l : Fin 128) (i : ℕ) (hi : i ≤ 256)
    (hp : pick ch b (fun v => broadcast S8x128 (BitVec.ofNat 32 v.val)) (broadcast S8x128 256#32) (ix2 s l) = BitVec.ofNat 32 i) :
    number ch b (ix2 s l) = if Kept (tok ch l) s ∧ i < 32 then BitVec.ofNat 32 (32 * s.val + i) else BitVec.ofNat 32 256 := by
  classical
  have h : number ch b (ix2 s l) = Scalar.select (IntOp.andi (keep ch (ix2 s l))
      (IntOp.cmpi .slt (pick ch b (fun v => broadcast S8x128 (BitVec.ofNat 32 v.val)) (broadcast S8x128 256#32) (ix2 s l)) 32#32))
      (IntOp.addi (IntOp.muli (sub (ix2 s l)) 32#32)
        (pick ch b (fun v => broadcast S8x128 (BitVec.ofNat 32 v.val)) (broadcast S8x128 256#32) (ix2 s l))) 256#32 := rfl
  have hs : IntOp.cmpi .slt (BitVec.ofNat 32 i) 32#32 = BitVec.ofBool (decide (i < 32)) := by
    show BitVec.ofBool ((BitVec.ofNat 32 i).slt (BitVec.ofNat 32 32)) = _
    rw [ofNat_slt (by omega) (by omega)]
  have ha : IntOp.addi (IntOp.muli (BitVec.ofNat 32 s.val) 32#32) (BitVec.ofNat 32 i) = BitVec.ofNat 32 (32 * s.val + i) := by
    show BitVec.ofNat 32 s.val * BitVec.ofNat 32 32 + BitVec.ofNat 32 i = _
    rw [← BitVec.ofNat_mul, ← BitVec.ofNat_add, Nat.mul_comm]
  rw [h, hp, hs, sub_at, ha, keep_at, and_ofBool, sel_ofBool]
  refine if_congr ?_ rfl rfl
  rw [Bool.and_eq_true, decide_eq_true_eq]; rfl

variable {ch} {b : FVec Ideal S8x128 .f32} {k : Fin 4} {l : Fin 128}

/-- Each group's number, as a natural: its lowest expert that has the score, else 256. -/
theorem number_nat (hb : ∀ s, b (ix2 s l) = (bests (tok ch l)).get k) (s : Fin 8) :
    ∃ x : ℕ, number ch b (ix2 s l) = BitVec.ofNat 32 x ∧
      ((∃ v, x = (expert s v).val ∧ Hit (tok ch l) k (expert s v) ∧ (∀ u, u < v → ¬ Hit (tok ch l) k (expert s u)) ∧
          IsLow (fun v => ch v (ix2 s l) = b (ix2 s l)) v) ∨
        x = 256 ∧ ∀ v, ¬ Hit (tok ch l) k (expert s v)) := by
  classical
  have hhit : ∀ v, Hit (tok ch l) k (expert s v) ↔ Kept (tok ch l) s ∧ ch v (ix2 s l) = b (ix2 s l) := by
    intro v; rw [Hit, groupOf_expert, tok_expert, hb]
  by_cases he : ∃ v, ch v (ix2 s l) = b (ix2 s l)
  · obtain ⟨v, hv⟩ := exists_isLow he
    have hn := number_eq ch b s l v.val (by omega) (by rw [pick_at ch b _ _ _ hv]; rfl)
    by_cases hk : Kept (tok ch l) s
    · refine ⟨_, by rw [hn, if_pos ⟨hk, v.isLt⟩]; rfl, .inl ⟨v, rfl, (hhit v).2 ⟨hk, hv.1⟩, fun u hu h => hv.2 u hu ((hhit u).1 h).2, hv⟩⟩
    · exact ⟨256, by rw [hn, if_neg (fun h => hk h.1)], .inr ⟨rfl, fun v h => hk ((hhit v).1 h).1⟩⟩
  · push Not at he
    refine ⟨256, ?_, .inr ⟨rfl, fun v h => he v ((hhit v).1 h).2⟩⟩
    rw [number_eq ch b s l 256 le_rfl (by rw [pick_none ch b _ _ _ he]; rfl), if_neg (by omega)]

/-- The least of the picks over the groups. -/
theorem lowest_at (hb : ∀ s, b (ix2 s l) = (bests (tok ch l)).get k) : lowest ch b (ix2 0 l) = idOf (tok ch l) k := by
  classical
  have h1 : lowest ch b (ix2 0 l) = (Finset.univ : Finset (Fin 8)).fold IntOp.minsi 2147483647#32 (fun s => number ch b (ix2 s l)) := by
    pointwise [lowest]
  choose x hx hor using number_nat hb
  have hlow := chosen_isLow (tok ch l) k
  rw [h1, idOf]
  simp only [hx]
  refine fold_min x (fun s => ?_) _ ⟨groupOf (chosen (tok ch l) k), ?_⟩ fun s => ?_
  · rcases hor s with ⟨v, h, -⟩ | ⟨h, -⟩
    · have := (expert s v).isLt; omega
    · omega
  · rcases hor (groupOf (chosen (tok ch l) k)) with ⟨v, h, hh, hn, -⟩ | ⟨-, h⟩
    · rw [h]
      have hle : chosen (tok ch l) k ≤ expert _ v := not_lt.mp fun hlt => hlow.2 _ hlt hh
      have hge : ¬ placeOf (chosen (tok ch l) k) < v := fun hlt => hn _ hlt (by rw [expert_group_place]; exact hlow.1)
      simp only [Fin.le_def, Fin.lt_def, placeOf, expert, groupOf] at hle hge ⊢
      omega
    · exact absurd (by rw [expert_group_place]; exact hlow.1) (h (placeOf (chosen (tok ch l) k)))
  · rcases hor s with ⟨v, h, hh, -⟩ | ⟨h, -⟩
    · rw [h]; exact not_lt.mp fun hlt => hlow.2 _ hlt hh
    · have := (chosen (tok ch l) k).isLt; omega

/-- The score picked. -/
theorem score_at (hb : ∀ s, b (ix2 s l) = (bests (tok ch l)).get k) : score ch sc b (ix2 0 l) = tok sc l (chosen (tok ch l) k) := by
  classical
  have h1 : score ch sc b (ix2 0 l) = ∑ s : Fin 8, Scalar.select (IntOp.cmpi .eq (number ch b (ix2 s l)) (lowest ch b (ix2 0 l)))
      (pick ch b sc (broadcast S8x128 (Scalar.ofBits .f32 0x00000000#32)) (ix2 s l)) (Ideal.ofBits .f32 0x00000000#32) := by
    pointwise [score]
  have hlow := chosen_isLow (tok ch l) k
  rw [h1, lowest_at hb, Finset.sum_eq_single (groupOf (chosen (tok ch l) k))]
  · obtain ⟨x, hx, hor⟩ := number_nat hb (groupOf (chosen (tok ch l) k))
    rcases hor with ⟨v, h, hh, hn, hp⟩ | ⟨-, h⟩
    · have hle : chosen (tok ch l) k ≤ expert _ v := not_lt.mp fun hlt => hlow.2 _ hlt hh
      have hge : ¬ placeOf (chosen (tok ch l) k) < v := fun hlt => hn _ hlt (by rw [expert_group_place]; exact hlow.1)
      have hv : v = placeOf (chosen (tok ch l) k) := by
        apply Fin.ext
        simp only [Fin.le_def, Fin.lt_def, placeOf, expert, groupOf] at hle hge ⊢
        omega
      rw [pick_at ch b sc _ _ hp, hx, h, hv, expert_group_place, idOf]
      simp [Scalar.select, IntOp.cmpi, tok]
    · exact absurd (by rw [expert_group_place]; exact hlow.1) (h (placeOf (chosen (tok ch l) k)))
  · intro s _ hs
    obtain ⟨x, hx, hor⟩ := number_nat hb s
    have hne : x ≠ (chosen (tok ch l) k).val ∧ x ≤ 256 := by
      rcases hor with ⟨v, h, -⟩ | ⟨h, -⟩
      · refine ⟨fun e => hs ?_, by have := (expert s v).isLt; omega⟩
        have : expert s v = chosen (tok ch l) k := Fin.ext (h.symm.trans e)
        rw [← this, groupOf_expert]
      · exact ⟨by have := (chosen (tok ch l) k).isLt; omega, by omega⟩
    have hne' : BitVec.ofNat 32 x ≠ BitVec.ofNat 32 (chosen (tok ch l) k).val := by
      intro e
      have := congrArg BitVec.toNat e
      simp only [BitVec.toNat_ofNat] at this
      have := (chosen (tok ch l) k).isLt
      omega
    rw [hx, idOf]
    have : IntOp.cmpi .eq (BitVec.ofNat 32 x) (BitVec.ofNat 32 (chosen (tok ch l) k).val) = 0#1 := by
      simp only [IntOp.cmpi]
      rw [beq_eq_false_iff_ne.mpr hne']; rfl
    rw [this]
    exact Ideal.ofBits_zero_f32
  · intro h; exact absurd (Finset.mem_univ _) h

theorem best_get (l : Fin 128) (k : Fin 4) (s : Fin 8) :
    (![(best ch).a, (best ch).b, (best ch).c, (best ch).d] : Fin 4 → FVec Ideal S8x128 .f32) k (ix2 s l) = (bests (tok ch l)).get k := by
  rw [← best_at ch s l]
  fin_cases k <;> rfl

/-- The expert numbers stored. -/
theorem ids_at (k : Fin 4) (l : Fin 128) : ids ch (ix3 0 k l) = idOf (tok ch l) k := by
  rw [← lowest_at (b := (![(best ch).a, (best ch).b, (best ch).c, (best ch).d] : Fin 4 → FVec Ideal S8x128 .f32) k) (best_get l k)]
  fin_cases k <;> pointwise [ids]

/-- The weights stored. -/
theorem wts_at (k : Fin 4) (l : Fin 128) : wts ch sc (ix3 0 k l) =
    Ideal.div (tok sc l (chosen (tok ch l) k)) (total (tok ch l) (tok sc l)) * Ideal.ofBits .f32 0x40200000#32 := by
  have h := fun k => score_at (sc := sc) (b := (![(best ch).a, (best ch).b, (best ch).c, (best ch).d] : Fin 4 → FVec Ideal S8x128 .f32) k) (best_get l k)
  have h0 := h 0; have h1 := h 1; have h2 := h 2; have h3 := h 3
  rw [total, ← h k, ← h0, ← h1, ← h2, ← h3]
  fin_cases k <;> pointwise [wts]

end Cert.KernelIdeal.Route
-- ==== Proof.Token.lean ====
/-
  One token's routing as a function of the arrays: its logits, scores and the numbers its experts are picked by, and the two
  arrays of expert numbers and of weights. Both programs are shown to end with these.
-/
module

public import proofs.«01_k».proof.Proof.Spec
public import Idealize.ShloMosaic.PureOps.Ideal
public import Idealize.ShloMosaic.Lib.Pointwise

@[expose] public section

noncomputable section

namespace Cert.Top

open Idealize.ShloMosaic

/-- The block of features a feature lies in. -/
def blockOf (d : Fin 3072) : Fin 24 := ⟨d.val / 128, by omega⟩

/-- Its place within the block. -/
def inBlock (d : Fin 3072) : Fin 128 := ⟨d.val % 128, by omega⟩

variable (x : FVec Ideal ⟨3, ![8, 2048, 3072]⟩ .fp8e4m3) (xs : FVec Ideal ⟨3, ![8, 2048, 24]⟩ .f32) (w : FVec Ideal ⟨2, ![3072, 256]⟩ .fp8e4m3)
  (ws eb : FVec Ideal ⟨1, ![256]⟩ .f32)

/-- Token `(b, n)`'s product with expert `e`'s column of the gate, block scales in. -/
def logit (b : Fin 8) (n : Fin 2048) (e : Fin 256) : EReal :=
  ∑ d : Fin 3072, (w (ix2 d e) * (x (ix3 b n d) * xs (ix3 b n (blockOf d))) : EReal)

/-- Its score for that expert. -/
def score (b : Fin 8) (n : Fin 2048) (e : Fin 256) : EReal := Ideal.logistic (logit x xs w b n e * ws (ix1 e) : EReal)

/-- The number the expert is picked by. -/
def choice (b : Fin 8) (n : Fin 2048) (e : Fin 256) : EReal := (score x xs w ws b n e + eb (ix1 e) : EReal)

/-- The weight of the token's `k`-th expert. -/
def weight (b : Fin 8) (n : Fin 2048) (k : Fin 4) : EReal :=
  Ideal.div (score x xs w ws b n (chosen (choice x xs w ws eb b n) k)) (total (choice x xs w ws eb b n) (score x xs w ws b n)) *
    Ideal.ofBits .f32 0x40200000#32

/-- The array of expert numbers. -/
def allIds : IVec ⟨3, ![8, 2048, 4]⟩ 32 := fun i => idOf (choice x xs w ws eb (i 0) (i 1)) (i 2)

/-- The array of weights. -/
def allWeights : FVec Ideal ⟨3, ![8, 2048, 4]⟩ .f32 := fun i => weight x xs w ws eb (i 0) (i 1) (i 2)

end Cert.Top
-- ==== Proof.Read.lean ====
/-
  The kernel's matrix products, columns and rows, read at an index on extended reals: a logit is a sum over the features of
  gate code times token code times scale, the reordered gate's row is an expert's codes, a column is one number per expert.
-/
module

public import proofs.«01_k».proof.Proof.First
public import proofs.«01_k».proof.Proof.Lane2
public import proofs.«01_k».proof.Proof.Token
public import Idealize.ShloMosaic.Lib.Pipeline.ValueKit.Tiles
public import Idealize.ShloMosaic.Lib.Pipeline.Frame
import Idealize.ShloMosaic.Lib.KernelVsHost

@[expose] public section

noncomputable section

namespace Cert.KernelIdeal.Route

open Idealize.ShloMosaic Cert.KernelIdeal.Gen Cert.Top

/-- One block of features: code times scale. -/
theorem part_at (xv : Vec Ideal S512x128 .fp8e4m3) (sv : Vec Ideal S1x1x512 .f32) (d : Fin 128) (t : Fin 512) :
    part xv sv (ix2 d t) = (xv (ix2 t d) * sv (ix3 0 0 t) : EReal) := by
  pointwise [part]

/-- The 24 blocks one below the other. -/
theorem stack_at (p : Fin 24 → FVec Ideal S128x512 .bf16) (d : Fin 3072) (t : Fin 512) :
    stack p (ix2 d t) = p (blockOf d) (ix2 (inBlock d) t) := by
  refine concatenate_ofFn_apply (t := S3072x512) (s₁ := S128x512) 0 p _ rfl 128 rfl (ix2 d t) (blockOf d) rfl (ix2 (inBlock d) t) rfl ?_
  intro b hb
  fin_cases b
  · exact absurd rfl hb
  · rfl

/-- A product of the gate's rows with them is a sum over the features. -/
theorem logits_at (w : Vec Ideal S256x3072 .bf16) (xv : Fin 24 → Vec Ideal S512x128 .fp8e4m3) (sv : Fin 24 → Vec Ideal S1x1x512 .f32)
    (r : Fin 256) (t : Fin 512) : logits w xv sv (ix2 r t) =
      ∑ d : Fin 3072, (w (ix2 r d) * (xv (blockOf d) (ix2 t (inBlock d)) * sv (blockOf d) (ix3 0 0 t)) : EReal) := by
  have h : ∀ d : Fin 3072, stack (fun b => part (xv b) (sv b)) (ix2 d t) = (xv (blockOf d) (ix2 t (inBlock d)) * sv (blockOf d) (ix3 0 0 t) : EReal) :=
    fun d => by rw [stack_at, part_at]
  simp only [← h]
  pointwise [logits]

/-- A row of numbers as a column, repeated along the lanes. -/
theorem column_at (x : Vec Ideal S1x256 .f32) (e : Fin 256) (l : Fin 128) : column x (ix2 e l) = x (ix2 0 e) := by
  pointwise [column]

/-- The expert of a row of the reordered arrays. -/
def rowOf (r : Fin 256) : Fin 256 := ⟨(r.val % 8) * 32 + r.val / 8, by omega⟩

/-- The expert a row stands for. -/
theorem rowExpert_at (r c : Fin 256) : rowExpert (ix2 r c) = BitVec.ofNat 32 (rowOf r).val := by
  pointwise [rowExpert, rowExpert.row, rowExpert.eight]
  revert r
  decide +kernel

/-- A row of the reordered gate: that expert's codes. -/
theorem gate_at (w : Vec Ideal S3072x256 .fp8e4m3) (r : Fin 256) (d : Fin 3072) : gate w (ix2 r d) = (w (ix2 d (rowOf r)) : EReal) := by
  pointwise [gate]
  simp only [rowExpert_at]
  rw [Finset.sum_eq_single (rowOf r)]
  · have : IntOp.cmpi .eq (BitVec.ofNat 32 (rowOf r).val) (BitVec.ofNat 32 (rowOf r).val) = 1#1 := by simp [IntOp.cmpi]
    rw [this]
    have h1 : (FloatOps.sitofp .f32 (BitVec.setWidth 32 1#1) : Ideal .f32) = (1 : EReal) := by
      show ((((BitVec.setWidth 32 1#1).toInt : ℝ)) : EReal) = 1
      simp
    rw [h1, one_mul]
  · intro x _ hx
    have hne : BitVec.ofNat 32 x.val ≠ BitVec.ofNat 32 (rowOf r).val := by
      intro h
      have := congrArg BitVec.toNat h
      simp only [BitVec.toNat_ofNat] at this
      exact hx (Fin.ext (by omega))
    have : IntOp.cmpi .eq (BitVec.ofNat 32 x.val) (BitVec.ofNat 32 (rowOf r).val) = 0#1 := by
      simp only [IntOp.cmpi]
      rw [beq_eq_false_iff_ne.mpr hne]; rfl
    rw [this]
    have h0 : (FloatOps.sitofp .f32 (BitVec.setWidth 32 0#1) : Ideal .f32) = (0 : EReal) := by
      show ((((BitVec.setWidth 32 0#1).toInt : ℝ)) : EReal) = 0
      simp
    rw [h0, zero_mul]
  · intro h; exact absurd (Finset.mem_univ _) h

/-- Row of expert `v` of group `s`. -/
def rowAt (v : Fin 32) (s : Fin 8) : Fin 256 := ⟨8 * v.val + s.val, by omega⟩

/-- A group's row stands for the group's expert. -/
theorem rowOf_rowAt (v : Fin 32) (s : Fin 8) : rowOf (rowAt v s) = expert s v :=
  Fin.ext (by simp only [rowOf, rowAt, expert]; omega)

/-- Rows stored one after the other, read back. -/
theorem rows_at (f : Fin 32 → Vec Ideal S8x128 .f32) (v : Fin 32) (s : Fin 8) (l : Fin 128) :
    View.canon (rowPieces f) (ix2 (rowAt v s) l) = f v (ix2 s l) := by
  have h : rowPieces f = List.ofFn fun k : Fin 32 => ⟨Rect.unit ![8 * k.rev.val, 0] S8x128.size (inb_r k.rev), f k.rev⟩ := rfl
  rw [h]
  refine View.canon_ofFn_unit_eq_of_forall (S := S256x128) (fun k : Fin 32 => ![8 * k.rev.val, 0]) S8x128.size (fun k => inb_r k.rev) (fun k => f k.rev) _ _ ⟨v.rev, ?_⟩ ?_
  · intro a
    fin_cases a
    · show 8 * v.rev.rev.val ≤ 8 * v.val + s.val ∧ 8 * v.val + s.val < 8 * v.rev.rev.val + 8
      rw [Fin.rev_rev]; omega
    · show 0 ≤ l.val ∧ l.val < 0 + 128
      omega
  · intro k x hx
    have h0 : 8 * v.val + s.val = 8 * k.rev.val + (x 0).val := hx 0
    have h1 : l.val = 0 + (x 1).val := hx 1
    have b0 : (x 0).val < 8 := (x 0).isLt
    have hv : k.rev = v := Fin.ext (by omega)
    have hxx : x = ix2 s l := by
      funext a
      rw [hv] at h0
      fin_cases a
      · exact Fin.ext (by show (x 0).val = s.val; omega)
      · exact Fin.ext (by show (x 1).val = l.val; omega)
    rw [hxx, hv]

/-- Token `l` of unit `u`. -/
def tokenAt (u : Fin 8) (l : Fin 128) : Fin 1024 := ⟨128 * u.val + l.val, by omega⟩

/-- Eight results stored one after the other. -/
def outPieces {e : EltTy} (f : Fin 8 → Vec Ideal S1x4x128 e) : List (View.Piece (Elt Ideal) S1x4x1024 e) :=
  [⟨ro 7, f 7⟩, ⟨ro 6, f 6⟩, ⟨ro 5, f 5⟩, ⟨ro 4, f 4⟩, ⟨ro 3, f 3⟩, ⟨ro 2, f 2⟩, ⟨ro 1, f 1⟩, ⟨ro 0, f 0⟩]

/-- The block stored, at a token. -/
theorem outs_at {e : EltTy} (f : Fin 8 → Vec Ideal S1x4x128 e) (u : Fin 8) (k : Fin 4) (l : Fin 128) :
    View.canon (outPieces f) (ix3 0 k (tokenAt u l)) = f u (ix3 0 k l) := by
  have h : outPieces f = List.ofFn fun k : Fin 8 => ⟨Rect.unit ![0, 0, 128 * k.rev.val] S1x4x128.size (inb_o k.rev), f k.rev⟩ := rfl
  rw [h]
  refine View.canon_ofFn_unit_eq_of_forall (S := S1x4x1024) (fun k : Fin 8 => ![0, 0, 128 * k.rev.val]) S1x4x128.size (fun k => inb_o k.rev) (fun k => f k.rev) _ _ ⟨u.rev, ?_⟩ ?_
  · intro a
    fin_cases a
    · show 0 ≤ 0 ∧ 0 < 0 + 1
      omega
    · show 0 ≤ k.val ∧ k.val < 0 + 4
      omega
    · show 128 * u.rev.rev.val ≤ 128 * u.val + l.val ∧ 128 * u.val + l.val < 128 * u.rev.rev.val + 128
      rw [Fin.rev_rev]; omega
  · intro n x hx
    have h1 : k.val = 0 + (x 1).val := hx 1
    have h2 : 128 * u.val + l.val = 128 * n.rev.val + (x 2).val := hx 2
    have b2 : (x 2).val < 128 := (x 2).isLt
    have b0 : (x 0).val < 1 := (x 0).isLt
    have hv : n.rev = u := Fin.ext (by omega)
    have hxx : x = ix3 0 k l := by
      funext a
      rw [hv] at h2
      fin_cases a
      · exact Fin.ext (by show (x 0).val = 0; omega)
      · exact Fin.ext (by show (x 1).val = k.val; omega)
      · exact Fin.ext (by show (x 2).val = l.val; omega)
    rw [hxx, hv]

/-! ### A step's tokens -/

section Step

variable (x0 : Vec Ideal S1024x3072 .fp8e4m3) (x1 : Vec Ideal S1x24x1024 .f32) (x2 : Vec Ideal S3072x256 .fp8e4m3) (x3 x4 : Vec Ideal S1x256 .f32)

/-- The logit, up to its expert's scale, of token `t` of the step's block and expert `e`. -/
def lgE (t : Fin 1024) (e : Fin 256) : EReal :=
  ∑ d : Fin 3072, (x2 (ix2 d e) * (x0 (ix2 t d) * x1 (ix3 0 (blockOf d) t)) : EReal)

/-- Its score. -/
def scE (t : Fin 1024) (e : Fin 256) : EReal := Ideal.logistic (lgE x0 x1 x2 t e * x3 (ix2 0 e) : EReal)

/-- The number it is picked by. -/
def chE (t : Fin 1024) (e : Fin 256) : EReal := scE x0 x1 x2 x3 t e + x4 (ix2 0 e)

variable {x0 x1 x2 x3 x4}
variable {lg ws eb : Fin 32 → Vec Ideal S8x128 .f32} {u : Fin 8}

/-- The rows of scores of 128 tokens are the tokens' scores. -/
theorem tok_scores (hl : ∀ v s l, lg v (ix2 s l) = lgE x0 x1 x2 (tokenAt u l) (expert s v))
    (hs : ∀ v s l, ws v (ix2 s l) = x3 (ix2 0 (expert s v))) (l : Fin 128) :
    tok (scores lg ws) l = scE x0 x1 x2 x3 (tokenAt u l) := by
  funext e
  have h : expert (groupOf e) (placeOf e) = e := expert_group_place e
  show Ideal.logistic (lg (placeOf e) (ix2 (groupOf e) l) * ws (placeOf e) (ix2 (groupOf e) l) : EReal) = _
  rw [hl, hs, h]; rfl

/-- The rows of choices of 128 tokens are the tokens' biased scores. -/
theorem tok_choices (hl : ∀ v s l, lg v (ix2 s l) = lgE x0 x1 x2 (tokenAt u l) (expert s v))
    (hs : ∀ v s l, ws v (ix2 s l) = x3 (ix2 0 (expert s v))) (he : ∀ v s l, eb v (ix2 s l) = x4 (ix2 0 (expert s v))) (l : Fin 128) :
    tok (choices lg ws eb) l = chE x0 x1 x2 x3 x4 (tokenAt u l) := by
  funext e
  have h : expert (groupOf e) (placeOf e) = e := expert_group_place e
  show (tok (scores lg ws) l e + eb (placeOf e) (ix2 (groupOf e) l) : EReal) = _
  rw [tok_scores hl hs, he, h]; rfl

variable (x0 x1 x2 x3 x4)

/-- The weight a token's `k`-th expert gets. -/
def wtE (t : Fin 1024) (k : Fin 4) : EReal :=
  Ideal.div (scE x0 x1 x2 x3 t (chosen (chE x0 x1 x2 x3 x4 t) k)) (total (chE x0 x1 x2 x3 x4 t) (scE x0 x1 x2 x3 t)) * Ideal.ofBits .f32 0x40200000#32

variable {x0 x1 x2 x3 x4}

/-- The expert numbers of 128 tokens. -/
theorem ids_step (hl : ∀ v s l, lg v (ix2 s l) = lgE x0 x1 x2 (tokenAt u l) (expert s v))
    (hs : ∀ v s l, ws v (ix2 s l) = x3 (ix2 0 (expert s v))) (he : ∀ v s l, eb v (ix2 s l) = x4 (ix2 0 (expert s v))) (k : Fin 4) (l : Fin 128) :
    ids (choices lg ws eb) (ix3 0 k l) = idOf (chE x0 x1 x2 x3 x4 (tokenAt u l)) k := by
  rw [ids_at, tok_choices hl hs he]

/-- The weights of 128 tokens. -/
theorem wts_step (hl : ∀ v s l, lg v (ix2 s l) = lgE x0 x1 x2 (tokenAt u l) (expert s v))
    (hs : ∀ v s l, ws v (ix2 s l) = x3 (ix2 0 (expert s v))) (he : ∀ v s l, eb v (ix2 s l) = x4 (ix2 0 (expert s v))) (k : Fin 4) (l : Fin 128) :
    wts (choices lg ws eb) (scores lg ws) (ix3 0 k l) = wtE x0 x1 x2 x3 x4 (tokenAt u l) k := by
  rw [wts_at, tok_choices hl hs he, tok_scores hl hs, wtE]

end Step

/-! ### Reading the loads -/

/-- A load of a buffer that holds `X`. -/
theorem load_at {sp : Space} {S : Shape} {e : EltTy} (a : Memref sig .tc sp S e) (h : a.IsWhole) (X : Vec Ideal S e) (r : LoadRect S) (y : r.shape.Idx) :
    View.readAt (Elt Ideal) a.view r (h.unread X) y = X (r.idx y) := by
  rw [View.readAt_apply, h.read_unread]

/-- Where each access reads or writes: the codes, -/
theorem rx_at (j : Fin 2) (d : Fin 3072) (t : Fin 512) :
    (rx j (blockOf d)).toLoadRect.idx (ix2 t (inBlock d)) = ix2 (⟨512 * j.val + t.val, by omega⟩ : Fin 1024) d := by
  funext a
  fin_cases a
  · exact Fin.ext (by show 512 * j.val + 1 * t.val = 512 * j.val + t.val; omega)
  · exact Fin.ext (by show 128 * (d.val / 128) + 1 * (d.val % 128) = d.val; omega)

/-- the scales, -/
theorem rs_at (j : Fin 2) (b : Fin 24) (t : Fin 512) :
    (rs j b).toLoadRect.idx (ix3 0 0 t) = ix3 0 b (⟨512 * j.val + t.val, by omega⟩ : Fin 1024) := by
  funext a
  fin_cases a
  · rfl
  · exact Fin.ext (by show b.val + 1 * 0 = b.val; omega)
  · exact Fin.ext (by show 512 * j.val + 1 * t.val = 512 * j.val + t.val; omega)

/-- the logits, -/
theorem rl_at (v : Fin 32) (g : Fin 4) (s : Fin 8) (l : Fin 128) :
    (rl v g).toLoadRect.idx (ix2 s l) = ix2 (rowAt v s) (⟨128 * g.val + l.val, by omega⟩ : Fin 512) := by
  funext a
  fin_cases a
  · exact Fin.ext (by show 8 * v.val + 1 * s.val = 8 * v.val + s.val; omega)
  · exact Fin.ext (by show 128 * g.val + 1 * l.val = 128 * g.val + l.val; omega)

/-- the rows of scales and biases, -/
theorem rr_at (v : Fin 32) (s : Fin 8) (l : Fin 128) : (rr v).toLoadRect.idx (ix2 s l) = ix2 (rowAt v s) l := by
  funext a
  fin_cases a
  · exact Fin.ext (by show 8 * v.val + 1 * s.val = 8 * v.val + s.val; omega)
  · exact Fin.ext (by show 0 + 1 * l.val = l.val; omega)

/-- the rows before they are reordered. -/
theorem re_at (v : Fin 32) (s : Fin 8) (l : Fin 128) : (re v).idx (ix2 s l) = ix2 (expert s v) l := by
  funext a
  fin_cases a
  · exact Fin.ext (by show v.val + 32 * s.val = 32 * s.val + v.val; omega)
  · exact Fin.ext (by show 0 + 1 * l.val = l.val; omega)

/-- The logits of half `j` of the step's tokens, read at a row and a lane. -/
theorem half_at (arg1 : Memref sig .tc .vmem S1024x3072 .fp8e4m3) (harg1 : arg1.IsWhole) (arg2 : Memref sig .tc .vmem S1x24x1024 .f32) (harg2 : arg2.IsWhole)
    (x0 : Vec Ideal S1024x3072 .fp8e4m3) (x1 : Vec Ideal S1x24x1024 .f32) (x2 : Vec Ideal S3072x256 .fp8e4m3) (w : Vec Ideal S256x3072 .bf16)
    (hw : ∀ r d, w (ix2 r d) = x2 (ix2 d (rowOf r))) (j : Fin 2) (v : Fin 32) (s : Fin 8) (t : Fin 512) :
    logits w (fun b => View.readAt (Elt Ideal) arg1.view (rx j b).toLoadRect (harg1.unread x0))
        (fun b => View.readAt (Elt Ideal) arg2.view (rs j b).toLoadRect (harg2.unread x1)) (ix2 (rowAt v s) t) =
      lgE x0 x1 x2 (⟨512 * j.val + t.val, by omega⟩ : Fin 1024) (expert s v) := by
  rw [logits_at, lgE]
  refine Finset.sum_congr rfl fun d _ => ?_
  rw [hw, rowOf_rowAt, load_at arg1 harg1 x0 (rx j (blockOf d)).toLoadRect, load_at arg2 harg2 x1 (rs j (blockOf d)).toLoadRect, rx_at, rs_at]

end Cert.KernelIdeal.Route
-- ==== Proof.UnitsA.lean ====
/-
  The first step's stores, named.
-/
module

public import proofs.«01_k».proof.Proof.First
public import proofs.«01_k».proof.Proof.Gen.KernelIdeal.Frame.RunA

@[expose] public section

set_option maxRecDepth 100000

noncomputable section

namespace Cert.KernelIdeal.Route

open Idealize.ShloMosaic Idealize.ShloMosaic.TcCoe Idealize.ShloMosaic.Tactic Cert.KernelIdeal.Gen

variable {F : FTy → Type} [FloatOps F]

section CaseA

variable (c : Dev nD) (i : grid0.Coords) (arg1 : Memref sig .tc .vmem S1024x3072 .fp8e4m3) (harg1 : arg1.IsWhole) (arg2 : Memref sig .tc .vmem S1x24x1024 .f32) (harg2 : arg2.IsWhole) (arg3 : Memref sig .tc .vmem S3072x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S1x4x1024 .i32) (harg6 : arg6.IsWhole) (arg7 : Memref sig .tc .vmem S1x4x1024 .f32) (harg7 : arg7.IsWhole) (arg8 : Memref sig .tc .vmem S256x3072 .bf16) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S256x512 .f32) (harg12 : arg12.IsWhole) (arg13 : Memref sig .tc .vmem S256x512 .f32) (harg13 : arg13.IsWhole) (hc0 : cond0_0 i)
    (x0 : Vec F S1024x3072 .fp8e4m3) (x1 : Vec F S1x24x1024 .f32) (x2 : Vec F S3072x256 .fp8e4m3) (x3 : Vec F S1x256 .f32) (x4 : Vec F S1x256 .f32)

/-- The gate's rows, reordered. -/
theorem hs0_A : kernelRun0_A.sl.HS0_1 c arg3 harg3 x2 =
    [⟨Rect.unit ![0, 0] S256x3072.size inb_S256x3072_S256x3072_0_0,
      gate (View.readAt (Elt F) arg3.view (Rect.unit ![0, 0] S3072x256.size inb_S3072x256_S3072x256_0_0).toLoadRect (harg3.unread x2))⟩] := by
  sl_kernel_rfl

/-- The scales, one per expert. -/
theorem hs3_A : kernelRun0_A.sl.HS3_1 c arg4 harg4 x3 =
    [⟨Rect.unit ![0, 0] S256x128.size inb_S256x128_S256x128_0_0,
      column (View.readAt (Elt F) arg4.view (Rect.unit ![0, 0] S1x256.size inb_S1x256_S1x256_0_0).toLoadRect (harg4.unread x3))⟩] := by
  sl_kernel_rfl

/-- The biases over them. -/
theorem hs3'_A : kernelRun0_A.sl.HS3_2 c arg4 harg4 arg5 harg5 x3 x4 =
    ⟨Rect.unit ![0, 0] S256x128.size inb_S256x128_S256x128_0_0,
      column (View.readAt (Elt F) arg5.view (Rect.unit ![0, 0] S1x256.size inb_S1x256_S1x256_0_0).toLoadRect (harg5.unread x4))⟩ ::
      kernelRun0_A.sl.HS3_1 c arg4 harg4 x3 := by
  sl_kernel_rfl

/-- The rows of scales. -/
theorem hs1_A : kernelRun0_A.sl.HS1_32 c arg4 harg4 arg11 x3 =
    rowPieces fun v => shapeCast S8x128 (arg11.view.readCov (kernelRun0_A.sl.HS3_1 c arg4 harg4 x3) (re v)) shapeCasts_S8x128_S8x128 := by
  sl_kernel_rfl

/-- The rows of biases. -/
theorem hs2_A : kernelRun0_A.sl.HS2_32 c arg4 harg4 arg5 harg5 arg11 x3 x4 =
    rowPieces fun v => shapeCast S8x128 (arg11.view.readCov (kernelRun0_A.sl.HS3_2 c arg4 harg4 arg5 harg5 x3 x4) (re v)) shapeCasts_S8x128_S8x128 := by
  sl_kernel_rfl

/-- The stores in the first logits scratch: the first half's products. -/
theorem ls4_A : kernelRun0_A.sl.HS4_1 c arg1 harg1 arg2 harg2 arg3 harg3 arg8 x0 x1 x2 =
    [⟨Rect.unit ![0, 0] S256x512.size inb_S256x512_S256x512_0_0,
      logits (arg8.view.readCov (kernelRun0_A.sl.HS0_1 c arg3 harg3 x2) (Rect.unit ![0, 0] S256x3072.size inb_S256x3072_S256x3072_0_0).toLoadRect)
        (fun b => View.readAt (Elt F) arg1.view (rx 0 b).toLoadRect (harg1.unread x0))
        (fun b => View.readAt (Elt F) arg2.view (rs 0 b).toLoadRect (harg2.unread x1))⟩] := by
  sl_kernel_rfl

/-- The stores in the second logits scratch: the second half's products. -/
theorem ls5_A : kernelRun0_A.sl.HS5_1 c arg1 harg1 arg2 harg2 arg3 harg3 arg8 x0 x1 x2 =
    [⟨Rect.unit ![0, 0] S256x512.size inb_S256x512_S256x512_0_0,
      logits (arg8.view.readCov (kernelRun0_A.sl.HS0_1 c arg3 harg3 x2) (Rect.unit ![0, 0] S256x3072.size inb_S256x3072_S256x3072_0_0).toLoadRect)
        (fun b => View.readAt (Elt F) arg1.view (rx 1 b).toLoadRect (harg1.unread x0))
        (fun b => View.readAt (Elt F) arg2.view (rs 1 b).toLoadRect (harg2.unread x1))⟩] := by
  sl_kernel_rfl

/-- The logits each token group reads back. -/
def lgA : Fin 8 → Fin 32 → Vec F S8x128 .f32 :=
  ![fun v => arg12.view.readCov (kernelRun0_A.sl.HS4_1 c arg1 harg1 arg2 harg2 arg3 harg3 arg8 x0 x1 x2) (rl v 0).toLoadRect,
    fun v => arg12.view.readCov (kernelRun0_A.sl.HS4_1 c arg1 harg1 arg2 harg2 arg3 harg3 arg8 x0 x1 x2) (rl v 1).toLoadRect,
    fun v => arg12.view.readCov (kernelRun0_A.sl.HS4_1 c arg1 harg1 arg2 harg2 arg3 harg3 arg8 x0 x1 x2) (rl v 2).toLoadRect,
    fun v => arg12.view.readCov (kernelRun0_A.sl.HS4_1 c arg1 harg1 arg2 harg2 arg3 harg3 arg8 x0 x1 x2) (rl v 3).toLoadRect,
    fun v => arg13.view.readCov (kernelRun0_A.sl.HS5_1 c arg1 harg1 arg2 harg2 arg3 harg3 arg8 x0 x1 x2) (rl v 0).toLoadRect,
    fun v => arg13.view.readCov (kernelRun0_A.sl.HS5_1 c arg1 harg1 arg2 harg2 arg3 harg3 arg8 x0 x1 x2) (rl v 1).toLoadRect,
    fun v => arg13.view.readCov (kernelRun0_A.sl.HS5_1 c arg1 harg1 arg2 harg2 arg3 harg3 arg8 x0 x1 x2) (rl v 2).toLoadRect,
    fun v => arg13.view.readCov (kernelRun0_A.sl.HS5_1 c arg1 harg1 arg2 harg2 arg3 harg3 arg8 x0 x1 x2) (rl v 3).toLoadRect]

/-- The rows of gate scales it reads back. -/
def wsA (v : Fin 32) : Vec F S8x128 .f32 := arg9.view.readCov (kernelRun0_A.sl.HS1_32 c arg4 harg4 arg11 x3) (rr v).toLoadRect

/-- The rows of biases it reads back. -/
def ebA (v : Fin 32) : Vec F S8x128 .f32 := arg10.view.readCov (kernelRun0_A.sl.HS2_32 c arg4 harg4 arg5 harg5 arg11 x3 x4) (rr v).toLoadRect

/-- The expert numbers a token group stores. -/
def idsA (u : Fin 8) : IVec S1x4x128 32 :=
  ids (choices (lgA c arg1 harg1 arg2 harg2 arg3 harg3 arg8 arg12 arg13 x0 x1 x2 u) (wsA c arg4 harg4 arg9 arg11 x3) (ebA c arg4 harg4 arg5 harg5 arg10 arg11 x3 x4))

/-- The weights a token group stores. -/
def wtsA (u : Fin 8) : FVec F S1x4x128 .f32 :=
  wts (choices (lgA c arg1 harg1 arg2 harg2 arg3 harg3 arg8 arg12 arg13 x0 x1 x2 u) (wsA c arg4 harg4 arg9 arg11 x3) (ebA c arg4 harg4 arg5 harg5 arg10 arg11 x3 x4)) (scores (lgA c arg1 harg1 arg2 harg2 arg3 harg3 arg8 arg12 arg13 x0 x1 x2 u) (wsA c arg4 harg4 arg9 arg11 x3))

/-- The stores in the block of expert numbers. -/
theorem l5_A : (kernelRun0_A (F := F) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4).1 =
    [⟨ro 7, idsA c arg1 harg1 arg2 harg2 arg3 harg3 arg4 harg4 arg5 harg5 arg8 arg9 arg10 arg11 arg12 arg13 x0 x1 x2 x3 x4 7⟩, ⟨ro 6, idsA c arg1 harg1 arg2 harg2 arg3 harg3 arg4 harg4 arg5 harg5 arg8 arg9 arg10 arg11 arg12 arg13 x0 x1 x2 x3 x4 6⟩, ⟨ro 5, idsA c arg1 harg1 arg2 harg2 arg3 harg3 arg4 harg4 arg5 harg5 arg8 arg9 arg10 arg11 arg12 arg13 x0 x1 x2 x3 x4 5⟩, ⟨ro 4, idsA c arg1 harg1 arg2 harg2 arg3 harg3 arg4 harg4 arg5 harg5 arg8 arg9 arg10 arg11 arg12 arg13 x0 x1 x2 x3 x4 4⟩, ⟨ro 3, idsA c arg1 harg1 arg2 harg2 arg3 harg3 arg4 harg4 arg5 harg5 arg8 arg9 arg10 arg11 arg12 arg13 x0 x1 x2 x3 x4 3⟩, ⟨ro 2, idsA c arg1 harg1 arg2 harg2 arg3 harg3 arg4 harg4 arg5 harg5 arg8 arg9 arg10 arg11 arg12 arg13 x0 x1 x2 x3 x4 2⟩, ⟨ro 1, idsA c arg1 harg1 arg2 harg2 arg3 harg3 arg4 harg4 arg5 harg5 arg8 arg9 arg10 arg11 arg12 arg13 x0 x1 x2 x3 x4 1⟩, ⟨ro 0, idsA c arg1 harg1 arg2 harg2 arg3 harg3 arg4 harg4 arg5 harg5 arg8 arg9 arg10 arg11 arg12 arg13 x0 x1 x2 x3 x4 0⟩] := by
  sl_kernel_rfl

/-- The stores in the block of weights. -/
theorem l6_A : (kernelRun0_A (F := F) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4).2.1 =
    [⟨ro 7, wtsA c arg1 harg1 arg2 harg2 arg3 harg3 arg4 harg4 arg5 harg5 arg8 arg9 arg10 arg11 arg12 arg13 x0 x1 x2 x3 x4 7⟩, ⟨ro 6, wtsA c arg1 harg1 arg2 harg2 arg3 harg3 arg4 harg4 arg5 harg5 arg8 arg9 arg10 arg11 arg12 arg13 x0 x1 x2 x3 x4 6⟩, ⟨ro 5, wtsA c arg1 harg1 arg2 harg2 arg3 harg3 arg4 harg4 arg5 harg5 arg8 arg9 arg10 arg11 arg12 arg13 x0 x1 x2 x3 x4 5⟩, ⟨ro 4, wtsA c arg1 harg1 arg2 harg2 arg3 harg3 arg4 harg4 arg5 harg5 arg8 arg9 arg10 arg11 arg12 arg13 x0 x1 x2 x3 x4 4⟩, ⟨ro 3, wtsA c arg1 harg1 arg2 harg2 arg3 harg3 arg4 harg4 arg5 harg5 arg8 arg9 arg10 arg11 arg12 arg13 x0 x1 x2 x3 x4 3⟩, ⟨ro 2, wtsA c arg1 harg1 arg2 harg2 arg3 harg3 arg4 harg4 arg5 harg5 arg8 arg9 arg10 arg11 arg12 arg13 x0 x1 x2 x3 x4 2⟩, ⟨ro 1, wtsA c arg1 harg1 arg2 harg2 arg3 harg3 arg4 harg4 arg5 harg5 arg8 arg9 arg10 arg11 arg12 arg13 x0 x1 x2 x3 x4 1⟩, ⟨ro 0, wtsA c arg1 harg1 arg2 harg2 arg3 harg3 arg4 harg4 arg5 harg5 arg8 arg9 arg10 arg11 arg12 arg13 x0 x1 x2 x3 x4 0⟩] := by
  sl_kernel_rfl

/-- What the first step leaves in the gate's scratch. -/
theorem s0_A : (kernelRun0_A (F := F) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4).2.2.1 = kernelRun0_A.sl.HS0_1 c arg3 harg3 x2 := by
  sl_kernel_rfl

/-- What it leaves in the scratch of scales. -/
theorem s1_A : (kernelRun0_A (F := F) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4).2.2.2.1 = kernelRun0_A.sl.HS1_32 c arg4 harg4 arg11 x3 := by
  sl_kernel_rfl

/-- What it leaves in the scratch of biases. -/
theorem s2_A : (kernelRun0_A (F := F) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4).2.2.2.2.1 = kernelRun0_A.sl.HS2_32 c arg4 harg4 arg5 harg5 arg11 x3 x4 := by
  sl_kernel_rfl

end CaseA

end Cert.KernelIdeal.Route
-- ==== Proof.UnitsB.lean ====
/-
  A later step's stores, named.
-/
module

public import proofs.«01_k».proof.Proof.Logits
public import proofs.«01_k».proof.Proof.Gen.KernelIdeal.Frame.RunB

@[expose] public section

set_option maxRecDepth 100000

noncomputable section

namespace Cert.KernelIdeal.Route

open Idealize.ShloMosaic Idealize.ShloMosaic.TcCoe Idealize.ShloMosaic.Tactic Cert.KernelIdeal.Gen

variable {F : FTy → Type} [FloatOps F]

section CaseB

variable (c : Dev nD) (i : grid0.Coords) (arg1 : Memref sig .tc .vmem S1024x3072 .fp8e4m3) (harg1 : arg1.IsWhole) (arg2 : Memref sig .tc .vmem S1x24x1024 .f32) (harg2 : arg2.IsWhole) (arg3 : Memref sig .tc .vmem S3072x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S1x4x1024 .i32) (harg6 : arg6.IsWhole) (arg7 : Memref sig .tc .vmem S1x4x1024 .f32) (harg7 : arg7.IsWhole) (arg8 : Memref sig .tc .vmem S256x3072 .bf16) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S256x512 .f32) (harg12 : arg12.IsWhole) (arg13 : Memref sig .tc .vmem S256x512 .f32) (harg13 : arg13.IsWhole) (hc0 : ¬cond0_0 i)
    (x0 : Vec F S1024x3072 .fp8e4m3) (x1 : Vec F S1x24x1024 .f32) (x2 : Vec F S3072x256 .fp8e4m3) (x3 : Vec F S1x256 .f32) (x4 : Vec F S1x256 .f32) (xs0 : Vec F S256x3072 .bf16) (xs1 : Vec F S256x128 .f32) (xs2 : Vec F S256x128 .f32)

/-- The stores in the first logits scratch: the first half's products. -/
theorem ls4_B : kernelRun0_B.sl.HS4_1 c arg1 harg1 arg2 harg2 arg8 harg8 x0 x1 xs0 =
    [⟨Rect.unit ![0, 0] S256x512.size inb_S256x512_S256x512_0_0,
      logits (View.readAt (Elt F) arg8.view (Rect.unit ![0, 0] S256x3072.size inb_S256x3072_S256x3072_0_0).toLoadRect (harg8.unread xs0))
        (fun b => View.readAt (Elt F) arg1.view (rx 0 b).toLoadRect (harg1.unread x0))
        (fun b => View.readAt (Elt F) arg2.view (rs 0 b).toLoadRect (harg2.unread x1))⟩] := by
  sl_kernel_rfl

/-- The stores in the second logits scratch: the second half's products. -/
theorem ls5_B : kernelRun0_B.sl.HS5_1 c arg1 harg1 arg2 harg2 arg8 harg8 x0 x1 xs0 =
    [⟨Rect.unit ![0, 0] S256x512.size inb_S256x512_S256x512_0_0,
      logits (View.readAt (Elt F) arg8.view (Rect.unit ![0, 0] S256x3072.size inb_S256x3072_S256x3072_0_0).toLoadRect (harg8.unread xs0))
        (fun b => View.readAt (Elt F) arg1.view (rx 1 b).toLoadRect (harg1.unread x0))
        (fun b => View.readAt (Elt F) arg2.view (rs 1 b).toLoadRect (harg2.unread x1))⟩] := by
  sl_kernel_rfl

/-- The logits each token group reads back. -/
def lgB : Fin 8 → Fin 32 → Vec F S8x128 .f32 :=
  ![fun v => arg12.view.readCov (kernelRun0_B.sl.HS4_1 c arg1 harg1 arg2 harg2 arg8 harg8 x0 x1 xs0) (rl v 0).toLoadRect,
    fun v => arg12.view.readCov (kernelRun0_B.sl.HS4_1 c arg1 harg1 arg2 harg2 arg8 harg8 x0 x1 xs0) (rl v 1).toLoadRect,
    fun v => arg12.view.readCov (kernelRun0_B.sl.HS4_1 c arg1 harg1 arg2 harg2 arg8 harg8 x0 x1 xs0) (rl v 2).toLoadRect,
    fun v => arg12.view.readCov (kernelRun0_B.sl.HS4_1 c arg1 harg1 arg2 harg2 arg8 harg8 x0 x1 xs0) (rl v 3).toLoadRect,
    fun v => arg13.view.readCov (kernelRun0_B.sl.HS5_1 c arg1 harg1 arg2 harg2 arg8 harg8 x0 x1 xs0) (rl v 0).toLoadRect,
    fun v => arg13.view.readCov (kernelRun0_B.sl.HS5_1 c arg1 harg1 arg2 harg2 arg8 harg8 x0 x1 xs0) (rl v 1).toLoadRect,
    fun v => arg13.view.readCov (kernelRun0_B.sl.HS5_1 c arg1 harg1 arg2 harg2 arg8 harg8 x0 x1 xs0) (rl v 2).toLoadRect,
    fun v => arg13.view.readCov (kernelRun0_B.sl.HS5_1 c arg1 harg1 arg2 harg2 arg8 harg8 x0 x1 xs0) (rl v 3).toLoadRect]

/-- The rows of gate scales it reads, left by the first step. -/
def wsB (v : Fin 32) : Vec F S8x128 .f32 := View.readAt (Elt F) arg9.view (rr v).toLoadRect (harg9.unread xs1)

/-- The rows of biases it reads, left by the first step. -/
def ebB (v : Fin 32) : Vec F S8x128 .f32 := View.readAt (Elt F) arg10.view (rr v).toLoadRect (harg10.unread xs2)

/-- The expert numbers a token group stores. -/
def idsB (u : Fin 8) : IVec S1x4x128 32 :=
  ids (choices (lgB c arg1 harg1 arg2 harg2 arg8 harg8 arg12 arg13 x0 x1 xs0 u) (wsB arg9 harg9 xs1) (ebB arg10 harg10 xs2))

/-- The weights a token group stores. -/
def wtsB (u : Fin 8) : FVec F S1x4x128 .f32 :=
  wts (choices (lgB c arg1 harg1 arg2 harg2 arg8 harg8 arg12 arg13 x0 x1 xs0 u) (wsB arg9 harg9 xs1) (ebB arg10 harg10 xs2))
    (scores (lgB c arg1 harg1 arg2 harg2 arg8 harg8 arg12 arg13 x0 x1 xs0 u) (wsB arg9 harg9 xs1))

/-- The stores in the block of expert numbers. -/
theorem l5_B : (kernelRun0_B (F := F) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 xs0 xs1 xs2).1 =
    [⟨ro 7, idsB c arg1 harg1 arg2 harg2 arg8 harg8 arg9 harg9 arg10 harg10 arg12 arg13 x0 x1 xs0 xs1 xs2 7⟩, ⟨ro 6, idsB c arg1 harg1 arg2 harg2 arg8 harg8 arg9 harg9 arg10 harg10 arg12 arg13 x0 x1 xs0 xs1 xs2 6⟩, ⟨ro 5, idsB c arg1 harg1 arg2 harg2 arg8 harg8 arg9 harg9 arg10 harg10 arg12 arg13 x0 x1 xs0 xs1 xs2 5⟩, ⟨ro 4, idsB c arg1 harg1 arg2 harg2 arg8 harg8 arg9 harg9 arg10 harg10 arg12 arg13 x0 x1 xs0 xs1 xs2 4⟩, ⟨ro 3, idsB c arg1 harg1 arg2 harg2 arg8 harg8 arg9 harg9 arg10 harg10 arg12 arg13 x0 x1 xs0 xs1 xs2 3⟩, ⟨ro 2, idsB c arg1 harg1 arg2 harg2 arg8 harg8 arg9 harg9 arg10 harg10 arg12 arg13 x0 x1 xs0 xs1 xs2 2⟩, ⟨ro 1, idsB c arg1 harg1 arg2 harg2 arg8 harg8 arg9 harg9 arg10 harg10 arg12 arg13 x0 x1 xs0 xs1 xs2 1⟩, ⟨ro 0, idsB c arg1 harg1 arg2 harg2 arg8 harg8 arg9 harg9 arg10 harg10 arg12 arg13 x0 x1 xs0 xs1 xs2 0⟩] := by
  sl_kernel_rfl

/-- The stores in the block of weights. -/
theorem l6_B : (kernelRun0_B (F := F) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 xs0 xs1 xs2).2.1 =
    [⟨ro 7, wtsB c arg1 harg1 arg2 harg2 arg8 harg8 arg9 harg9 arg10 harg10 arg12 arg13 x0 x1 xs0 xs1 xs2 7⟩, ⟨ro 6, wtsB c arg1 harg1 arg2 harg2 arg8 harg8 arg9 harg9 arg10 harg10 arg12 arg13 x0 x1 xs0 xs1 xs2 6⟩, ⟨ro 5, wtsB c arg1 harg1 arg2 harg2 arg8 harg8 arg9 harg9 arg10 harg10 arg12 arg13 x0 x1 xs0 xs1 xs2 5⟩, ⟨ro 4, wtsB c arg1 harg1 arg2 harg2 arg8 harg8 arg9 harg9 arg10 harg10 arg12 arg13 x0 x1 xs0 xs1 xs2 4⟩, ⟨ro 3, wtsB c arg1 harg1 arg2 harg2 arg8 harg8 arg9 harg9 arg10 harg10 arg12 arg13 x0 x1 xs0 xs1 xs2 3⟩, ⟨ro 2, wtsB c arg1 harg1 arg2 harg2 arg8 harg8 arg9 harg9 arg10 harg10 arg12 arg13 x0 x1 xs0 xs1 xs2 2⟩, ⟨ro 1, wtsB c arg1 harg1 arg2 harg2 arg8 harg8 arg9 harg9 arg10 harg10 arg12 arg13 x0 x1 xs0 xs1 xs2 1⟩, ⟨ro 0, wtsB c arg1 harg1 arg2 harg2 arg8 harg8 arg9 harg9 arg10 harg10 arg12 arg13 x0 x1 xs0 xs1 xs2 0⟩] := by
  sl_kernel_rfl

end CaseB

end Cert.KernelIdeal.Route
-- ==== Proof.Step.lean ====
/-
  What each step leaves, on extended reals: at the first step and at every later one, each token's expert numbers and weights,
  a function of the token's codes and scales and of the gate's codes, scales and biases.
-/
module

public import proofs.«01_k».proof.Proof.Read
public import proofs.«01_k».proof.Proof.UnitsA
public import proofs.«01_k».proof.Proof.UnitsB
public import proofs.«01_k».proof.Proof.Gen.KernelIdeal.Frame
import Idealize.ShloMosaic.Lib.Pipeline.Value

@[expose] public section

set_option maxRecDepth 100000

noncomputable section

namespace Cert.KernelIdeal.Route

open Idealize.ShloMosaic Idealize.ShloMosaic.TcCoe Cert.KernelIdeal.Gen Cert.Top

/-- Two zero offsets. -/
theorem off2 : (![0, 0] : Fin 2 → Nat) = fun _ => 0 := by funext a; fin_cases a <;> rfl

/-- The rectangle that is the whole shape keeps every index. -/
theorem whole_idx (S : Shape) {off : Fin S.rank → Nat} (h : off = fun _ => 0) (inb : ∀ a, off a + S.size a ≤ S.size a) (j : S.Idx) :
    (Rect.unit off S.size inb).toLoadRect.idx j = j := by
  subst h
  funext a
  exact Fin.ext (by show 0 + 1 * (j a).val = (j a).val; omega)

section CaseB

variable (c : Dev nD) (i : grid0.Coords) (arg1 : Memref sig .tc .vmem S1024x3072 .fp8e4m3) (harg1 : arg1.IsWhole) (arg2 : Memref sig .tc .vmem S1x24x1024 .f32) (harg2 : arg2.IsWhole) (arg3 : Memref sig .tc .vmem S3072x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S1x4x1024 .i32) (harg6 : arg6.IsWhole) (arg7 : Memref sig .tc .vmem S1x4x1024 .f32) (harg7 : arg7.IsWhole) (arg8 : Memref sig .tc .vmem S256x3072 .bf16) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S256x512 .f32) (harg12 : arg12.IsWhole) (arg13 : Memref sig .tc .vmem S256x512 .f32) (harg13 : arg13.IsWhole) (hc0 : ¬cond0_0 i)
    (x0 : Vec Ideal S1024x3072 .fp8e4m3) (x1 : Vec Ideal S1x24x1024 .f32) (x2 : Vec Ideal S3072x256 .fp8e4m3) (x3 : Vec Ideal S1x256 .f32) (x4 : Vec Ideal S1x256 .f32) (xs0 : Vec Ideal S256x3072 .bf16) (xs1 : Vec Ideal S256x128 .f32) (xs2 : Vec Ideal S256x128 .f32)

variable (hw : ∀ r d, xs0 (ix2 r d) = (x2 (ix2 d (rowOf r)) : EReal)) (hs : ∀ r l, xs1 (ix2 r l) = x3 (ix2 0 (rowOf r)))
  (he : ∀ r l, xs2 (ix2 r l) = x4 (ix2 0 (rowOf r)))

include hw in
/-- A logit read back at a later step: the sum over the features. -/
theorem lgB_at (u : Fin 8) (v : Fin 32) (s : Fin 8) (l : Fin 128) :
    lgB c arg1 harg1 arg2 harg2 arg8 harg8 arg12 arg13 x0 x1 xs0 u v (ix2 s l) = lgE x0 x1 x2 (tokenAt u l) (expert s v) := by
  have hw' : ∀ r d, View.readAt (Elt Ideal) arg8.view (Rect.unit ![0, 0] S256x3072.size inb_S256x3072_S256x3072_0_0).toLoadRect (harg8.unread xs0) (ix2 r d) = (x2 (ix2 d (rowOf r)) : EReal) := by
    intro r d
    rw [load_at arg8 harg8 xs0]
    refine Eq.trans (congrArg xs0 ?_) (hw r d)
    exact whole_idx S256x3072 off2 inb_S256x3072_S256x3072_0_0 (ix2 r d)
  have h4 : ∀ g : Fin 4, arg12.view.readCov (kernelRun0_B.sl.HS4_1 c arg1 harg1 arg2 harg2 arg8 harg8 x0 x1 xs0) (rl v g).toLoadRect (ix2 s l) =
      lgE x0 x1 x2 (⟨512 * 0 + (128 * g.val + l.val), by omega⟩ : Fin 1024) (expert s v) := by
    intro g
    rw [ls4_B, View.readCov_eq_canon']
    simp only
    rw [rl_at, View.canon_unit_zero (S := S256x512) off2]
    exact half_at arg1 harg1 arg2 harg2 x0 x1 x2 _ hw' 0 v s _
  have h5 : ∀ g : Fin 4, arg13.view.readCov (kernelRun0_B.sl.HS5_1 c arg1 harg1 arg2 harg2 arg8 harg8 x0 x1 xs0) (rl v g).toLoadRect (ix2 s l) =
      lgE x0 x1 x2 (⟨512 * 1 + (128 * g.val + l.val), by omega⟩ : Fin 1024) (expert s v) := by
    intro g
    rw [ls5_B, View.readCov_eq_canon']
    simp only
    rw [rl_at, View.canon_unit_zero (S := S256x512) off2]
    exact half_at arg1 harg1 arg2 harg2 x0 x1 x2 _ hw' 1 v s _
  fin_cases u
  · exact (h4 0).trans (congrArg (fun t => lgE x0 x1 x2 t (expert s v)) (Fin.ext (by show 512 * 0 + (128 * 0 + l.val) = 128 * 0 + l.val; omega)))
  · exact (h4 1).trans (congrArg (fun t => lgE x0 x1 x2 t (expert s v)) (Fin.ext (by show 512 * 0 + (128 * 1 + l.val) = 128 * 1 + l.val; omega)))
  · exact (h4 2).trans (congrArg (fun t => lgE x0 x1 x2 t (expert s v)) (Fin.ext (by show 512 * 0 + (128 * 2 + l.val) = 128 * 2 + l.val; omega)))
  · exact (h4 3).trans (congrArg (fun t => lgE x0 x1 x2 t (expert s v)) (Fin.ext (by show 512 * 0 + (128 * 3 + l.val) = 128 * 3 + l.val; omega)))
  · exact (h5 0).trans (congrArg (fun t => lgE x0 x1 x2 t (expert s v)) (Fin.ext (by show 512 * 1 + (128 * 0 + l.val) = 128 * 4 + l.val; omega)))
  · exact (h5 1).trans (congrArg (fun t => lgE x0 x1 x2 t (expert s v)) (Fin.ext (by show 512 * 1 + (128 * 1 + l.val) = 128 * 5 + l.val; omega)))
  · exact (h5 2).trans (congrArg (fun t => lgE x0 x1 x2 t (expert s v)) (Fin.ext (by show 512 * 1 + (128 * 2 + l.val) = 128 * 6 + l.val; omega)))
  · exact (h5 3).trans (congrArg (fun t => lgE x0 x1 x2 t (expert s v)) (Fin.ext (by show 512 * 1 + (128 * 3 + l.val) = 128 * 7 + l.val; omega)))

include hs in
/-- A gate scale read back at a later step. -/
theorem wsB_at (v : Fin 32) (s : Fin 8) (l : Fin 128) : wsB arg9 harg9 xs1 v (ix2 s l) = x3 (ix2 0 (expert s v)) := by
  rw [wsB, load_at arg9 harg9 xs1 (rr v).toLoadRect, rr_at, hs, rowOf_rowAt]

include he in
/-- A bias read back at a later step. -/
theorem ebB_at (v : Fin 32) (s : Fin 8) (l : Fin 128) : ebB arg10 harg10 xs2 v (ix2 s l) = x4 (ix2 0 (expert s v)) := by
  rw [ebB, load_at arg10 harg10 xs2 (rr v).toLoadRect, rr_at, he, rowOf_rowAt]

include hw hs he in
/-- A later step's expert numbers. -/
theorem out5_B (u : Fin 8) (k : Fin 4) (l : Fin 128) :
    out0_B_5 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 xs0 xs1 xs2 (ix3 0 k (tokenAt u l)) = idOf (chE x0 x1 x2 x3 x4 (tokenAt u l)) k := by
  rw [out0_B_5, View.read_writes_junk_apply_eq_canon, l5_B]
  refine (outs_at (e := .i32) (fun u => idsB c arg1 harg1 arg2 harg2 arg8 harg8 arg9 harg9 arg10 harg10 arg12 arg13 x0 x1 xs0 xs1 xs2 u) u k l).trans ?_
  rw [idsB]
  exact ids_step (fun v s l => lgB_at (x2 := x2) (hw := hw) (u := u) (v := v) (s := s) (l := l) ..) (fun v s l => wsB_at (x3 := x3) (hs := hs) (v := v) (s := s) (l := l) ..) (fun v s l => ebB_at (x4 := x4) (he := he) (v := v) (s := s) (l := l) ..) k l

include hw hs he in
/-- A later step's weights. -/
theorem out6_B (u : Fin 8) (k : Fin 4) (l : Fin 128) :
    out0_B_6 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 xs0 xs1 xs2 (ix3 0 k (tokenAt u l)) = wtE x0 x1 x2 x3 x4 (tokenAt u l) k := by
  rw [out0_B_6, View.read_writes_junk_apply_eq_canon, l6_B]
  refine (outs_at (e := .f32) (fun u => wtsB c arg1 harg1 arg2 harg2 arg8 harg8 arg9 harg9 arg10 harg10 arg12 arg13 x0 x1 xs0 xs1 xs2 u) u k l).trans ?_
  rw [wtsB]
  exact wts_step (fun v s l => lgB_at (x2 := x2) (hw := hw) (u := u) (v := v) (s := s) (l := l) ..) (fun v s l => wsB_at (x3 := x3) (hs := hs) (v := v) (s := s) (l := l) ..) (fun v s l => ebB_at (x4 := x4) (he := he) (v := v) (s := s) (l := l) ..) k l

end CaseB

section CaseA

variable (c : Dev nD) (i : grid0.Coords) (arg1 : Memref sig .tc .vmem S1024x3072 .fp8e4m3) (harg1 : arg1.IsWhole) (arg2 : Memref sig .tc .vmem S1x24x1024 .f32) (harg2 : arg2.IsWhole) (arg3 : Memref sig .tc .vmem S3072x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S1x4x1024 .i32) (harg6 : arg6.IsWhole) (arg7 : Memref sig .tc .vmem S1x4x1024 .f32) (harg7 : arg7.IsWhole) (arg8 : Memref sig .tc .vmem S256x3072 .bf16) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S256x512 .f32) (harg12 : arg12.IsWhole) (arg13 : Memref sig .tc .vmem S256x512 .f32) (harg13 : arg13.IsWhole) (hc0 : cond0_0 i)
    (x0 : Vec Ideal S1024x3072 .fp8e4m3) (x1 : Vec Ideal S1x24x1024 .f32) (x2 : Vec Ideal S3072x256 .fp8e4m3) (x3 : Vec Ideal S1x256 .f32) (x4 : Vec Ideal S1x256 .f32)

/-- The gate's scratch after the first step: an expert's codes in each row. -/
theorem gateA_at (r : Fin 256) (d : Fin 3072) :
    View.canon (kernelRun0_A.sl.HS0_1 c arg3 harg3 x2) (ix2 r d) = (x2 (ix2 d (rowOf r)) : EReal) := by
  rw [hs0_A, View.canon_unit_zero (S := S256x3072) off2, gate_at, load_at arg3 harg3 x2]
  exact congrArg x2 (whole_idx S3072x256 off2 inb_S3072x256_S3072x256_0_0 (ix2 d (rowOf r)))

/-- A logit read back at the first step: the sum over the features. -/
theorem lgA_at (u : Fin 8) (v : Fin 32) (s : Fin 8) (l : Fin 128) :
    lgA c arg1 harg1 arg2 harg2 arg3 harg3 arg8 arg12 arg13 x0 x1 x2 u v (ix2 s l) = lgE x0 x1 x2 (tokenAt u l) (expert s v) := by
  have hw' : ∀ r d, arg8.view.readCov (kernelRun0_A.sl.HS0_1 c arg3 harg3 x2) (Rect.unit ![0, 0] S256x3072.size inb_S256x3072_S256x3072_0_0).toLoadRect (ix2 r d) = (x2 (ix2 d (rowOf r)) : EReal) := by
    intro r d
    rw [View.readCov_eq_canon']
    refine Eq.trans (congrArg (View.canon (kernelRun0_A.sl.HS0_1 c arg3 harg3 x2)) ?_) (gateA_at c arg3 harg3 x2 r d)
    exact whole_idx S256x3072 off2 inb_S256x3072_S256x3072_0_0 (ix2 r d)
  have h4 : ∀ g : Fin 4, arg12.view.readCov (kernelRun0_A.sl.HS4_1 c arg1 harg1 arg2 harg2 arg3 harg3 arg8 x0 x1 x2) (rl v g).toLoadRect (ix2 s l) =
      lgE x0 x1 x2 (⟨512 * 0 + (128 * g.val + l.val), by omega⟩ : Fin 1024) (expert s v) := by
    intro g
    rw [ls4_A, View.readCov_eq_canon']
    simp only
    rw [rl_at, View.canon_unit_zero (S := S256x512) off2]
    exact half_at arg1 harg1 arg2 harg2 x0 x1 x2 _ hw' 0 v s _
  have h5 : ∀ g : Fin 4, arg13.view.readCov (kernelRun0_A.sl.HS5_1 c arg1 harg1 arg2 harg2 arg3 harg3 arg8 x0 x1 x2) (rl v g).toLoadRect (ix2 s l) =
      lgE x0 x1 x2 (⟨512 * 1 + (128 * g.val + l.val), by omega⟩ : Fin 1024) (expert s v) := by
    intro g
    rw [ls5_A, View.readCov_eq_canon']
    simp only
    rw [rl_at, View.canon_unit_zero (S := S256x512) off2]
    exact half_at arg1 harg1 arg2 harg2 x0 x1 x2 _ hw' 1 v s _
  fin_cases u
  · exact (h4 0).trans (congrArg (fun t => lgE x0 x1 x2 t (expert s v)) (Fin.ext (by show 512 * 0 + (128 * 0 + l.val) = 128 * 0 + l.val; omega)))
  · exact (h4 1).trans (congrArg (fun t => lgE x0 x1 x2 t (expert s v)) (Fin.ext (by show 512 * 0 + (128 * 1 + l.val) = 128 * 1 + l.val; omega)))
  · exact (h4 2).trans (congrArg (fun t => lgE x0 x1 x2 t (expert s v)) (Fin.ext (by show 512 * 0 + (128 * 2 + l.val) = 128 * 2 + l.val; omega)))
  · exact (h4 3).trans (congrArg (fun t => lgE x0 x1 x2 t (expert s v)) (Fin.ext (by show 512 * 0 + (128 * 3 + l.val) = 128 * 3 + l.val; omega)))
  · exact (h5 0).trans (congrArg (fun t => lgE x0 x1 x2 t (expert s v)) (Fin.ext (by show 512 * 1 + (128 * 0 + l.val) = 128 * 4 + l.val; omega)))
  · exact (h5 1).trans (congrArg (fun t => lgE x0 x1 x2 t (expert s v)) (Fin.ext (by show 512 * 1 + (128 * 1 + l.val) = 128 * 5 + l.val; omega)))
  · exact (h5 2).trans (congrArg (fun t => lgE x0 x1 x2 t (expert s v)) (Fin.ext (by show 512 * 1 + (128 * 2 + l.val) = 128 * 6 + l.val; omega)))
  · exact (h5 3).trans (congrArg (fun t => lgE x0 x1 x2 t (expert s v)) (Fin.ext (by show 512 * 1 + (128 * 3 + l.val) = 128 * 7 + l.val; omega)))

/-- The rows of scales the first step stores. -/
theorem scaleA_at (v : Fin 32) (s : Fin 8) (l : Fin 128) :
    View.canon (kernelRun0_A.sl.HS1_32 c arg4 harg4 arg11 x3) (ix2 (rowAt v s) l) = x3 (ix2 0 (expert s v)) := by
  rw [hs1_A, rows_at, shapeCast_self, View.readCov_eq_canon']
  simp only
  rw [re_at, hs3_A, View.canon_unit_zero (S := S256x128) off2, column_at, load_at arg4 harg4 x3]
  exact congrArg x3 (whole_idx S1x256 off2 inb_S1x256_S1x256_0_0 (ix2 0 (expert s v)))

/-- The rows of biases the first step stores. -/
theorem biasA_at (v : Fin 32) (s : Fin 8) (l : Fin 128) :
    View.canon (kernelRun0_A.sl.HS2_32 c arg4 harg4 arg5 harg5 arg11 x3 x4) (ix2 (rowAt v s) l) = x4 (ix2 0 (expert s v)) := by
  rw [hs2_A, rows_at, shapeCast_self, View.readCov_eq_canon']
  simp only
  rw [re_at, hs3'_A, View.canon_cons_unit_zero (S := S256x128) off2, column_at, load_at arg5 harg5 x4]
  exact congrArg x4 (whole_idx S1x256 off2 inb_S1x256_S1x256_0_0 (ix2 0 (expert s v)))

/-- A gate scale read back at the first step. -/
theorem wsA_at (v : Fin 32) (s : Fin 8) (l : Fin 128) : wsA c arg4 harg4 arg9 arg11 x3 v (ix2 s l) = x3 (ix2 0 (expert s v)) := by
  rw [wsA, View.readCov_eq_canon']
  simp only
  rw [rr_at, scaleA_at]

/-- A bias read back at the first step. -/
theorem ebA_at (v : Fin 32) (s : Fin 8) (l : Fin 128) : ebA c arg4 harg4 arg5 harg5 arg10 arg11 x3 x4 v (ix2 s l) = x4 (ix2 0 (expert s v)) := by
  rw [ebA, View.readCov_eq_canon']
  simp only
  rw [rr_at, biasA_at]

/-- The first step's expert numbers. -/
theorem out5_A (u : Fin 8) (k : Fin 4) (l : Fin 128) :
    out0_A_5 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 (ix3 0 k (tokenAt u l)) = idOf (chE x0 x1 x2 x3 x4 (tokenAt u l)) k := by
  rw [out0_A_5, View.read_writes_junk_apply_eq_canon, l5_A]
  refine (outs_at (e := .i32) (fun u => idsA c arg1 harg1 arg2 harg2 arg3 harg3 arg4 harg4 arg5 harg5 arg8 arg9 arg10 arg11 arg12 arg13 x0 x1 x2 x3 x4 u) u k l).trans ?_
  rw [idsA]
  exact ids_step (fun v s l => lgA_at (u := u) (v := v) (s := s) (l := l) ..) (fun v s l => wsA_at (v := v) (s := s) (l := l) ..) (fun v s l => ebA_at (v := v) (s := s) (l := l) ..) k l

/-- The first step's weights. -/
theorem out6_A (u : Fin 8) (k : Fin 4) (l : Fin 128) :
    out0_A_6 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 (ix3 0 k (tokenAt u l)) = wtE x0 x1 x2 x3 x4 (tokenAt u l) k := by
  rw [out0_A_6, View.read_writes_junk_apply_eq_canon, l6_A]
  refine (outs_at (e := .f32) (fun u => wtsA c arg1 harg1 arg2 harg2 arg3 harg3 arg4 harg4 arg5 harg5 arg8 arg9 arg10 arg11 arg12 arg13 x0 x1 x2 x3 x4 u) u k l).trans ?_
  rw [wtsA]
  exact wts_step (fun v s l => lgA_at (u := u) (v := v) (s := s) (l := l) ..) (fun v s l => wsA_at (v := v) (s := s) (l := l) ..) (fun v s l => ebA_at (v := v) (s := s) (l := l) ..) k l

/-- Every row is some expert's. -/
theorem rowAt_surj (r : Fin 256) : r = rowAt ⟨r.val / 8, by omega⟩ ⟨r.val % 8, by omega⟩ := Fin.ext (by simp only [rowAt]; omega)

/-- What the first step carries: the gate's rows, -/
theorem sout0_A (r : Fin 256) (d : Fin 3072) : sout0_A_0 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 (ix2 r d) = (x2 (ix2 d (rowOf r)) : EReal) := by
  rw [sout0_A_0, View.read_writes_junk_apply_eq_canon, s0_A, gateA_at]

/-- the scales, -/
theorem sout1_A (r : Fin 256) (l : Fin 128) : sout0_A_1 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 (ix2 r l) = x3 (ix2 0 (rowOf r)) := by
  rw [sout0_A_1, View.read_writes_junk_apply_eq_canon, s1_A, rowAt_surj r, scaleA_at, rowOf_rowAt]

/-- and the biases. -/
theorem sout2_A (r : Fin 256) (l : Fin 128) : sout0_A_2 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 (ix2 r l) = x4 (ix2 0 (rowOf r)) := by
  rw [sout0_A_2, View.read_writes_junk_apply_eq_canon, s2_A, rowAt_surj r, biasA_at, rowOf_rowAt]

end CaseA

end Cert.KernelIdeal.Route
-- ==== Proof.Run.lean ====
/-
  The kernel's run on extended reals: every step leaves its 1024 tokens' expert numbers and weights, so the two arrays written
  back are `allIds` and `allWeights`, their last two axes exchanged.
-/
module

public import proofs.«01_k».proof.Proof.Step
public import proofs.«01_k».proof.Proof.Token
import Idealize.ShloMosaic.Lib.Pipeline.ValueKit
import Idealize.ShloMosaic.Lib.Pipeline.Value
import Idealize.ShloMosaic.Lib.KernelVsHost

@[expose] public section

set_option maxRecDepth 100000

noncomputable section

namespace Cert.KernelIdeal.Route

open Idealize.ShloMosaic Idealize.ShloMosaic.TcCoe Cert.KernelIdeal Cert.KernelIdeal.Gen Cert.Top

variable (m : (ℓ : Loc nD τ sig) → Buf (Elt Ideal) ℓ) (c : Dev nD)

/-! ### The windows' blocks -/

/-- The block of each window at each step. -/
theorem index0 : ∀ t : Fin cfg0.N, win0_0.index t = ![t.val, 0] := (by decide +kernel : ∀ t : Fin grid0.N, _)
theorem index1 : ∀ t : Fin cfg0.N, win0_1.index t = ![t.val / 2, 0, t.val % 2] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![t.val / 2, 0, t.val % 2] := (by decide +kernel : ∀ t : Fin grid0.N, _)
theorem index6 : ∀ t : Fin cfg0.N, win0_6.index t = ![t.val / 2, 0, t.val % 2] := (by decide +kernel : ∀ t : Fin grid0.N, _)

/-- There are sixteen steps. -/
theorem lt16 (t : Fin cfg0.N) : t.val < 16 := t.isLt

/-- A step's sample and a token's place in it. -/
def sampleOf (t : Fin cfg0.N) : Fin 8 := ⟨t.val / 2, by have := lt16 t; omega⟩
/-- The place in its sample of a step's token. -/
def placeIn (t : Fin cfg0.N) (q : Fin 1024) : Fin 2048 := ⟨1024 * (t.val % 2) + q.val, by omega⟩

/-- Each window's block, read at an index: the tokens' codes, -/
theorem blk0 (t : Fin cfg0.N) (q : Fin 1024) (d : Fin 3072) :
    iblk m c 0 t (ix2 q d) = V m c main_v0 (ix2 (⟨1024 * t.val + q.val, by have := lt16 t; omega⟩ : Fin 16384) d) := by
  blk_simp [iblk]
  refine congrArg _ ?_
  blk_ext [index0]

/-- their scales, -/
theorem blk1 (t : Fin cfg0.N) (b : Fin 24) (q : Fin 1024) :
    iblk m c 1 t (ix3 0 b q) = V m c main_v1 (ix3 (sampleOf t) b (placeIn t q)) := by
  blk_simp [iblk]
  refine congrArg _ ?_
  blk_ext [index1, sampleOf, placeIn]

/-- the gate's codes, -/
theorem blk2 (t : Fin cfg0.N) (d : Fin 3072) (e : Fin 256) : iblk m c 2 t (ix2 d e) = V m c main_arg2 (ix2 d e) := by
  blk_simp [iblk]
  refine congrArg _ ?_
  blk_ext [index2]

/-- the gate's scales, -/
theorem blk3 (t : Fin cfg0.N) (e : Fin 256) : iblk m c 3 t (ix2 0 e) = V m c main_v2 (ix2 0 e) := by
  blk_simp [iblk]
  refine congrArg _ ?_
  blk_ext [index3]

/-- the biases. -/
theorem blk4 (t : Fin cfg0.N) (e : Fin 256) : iblk m c 4 t (ix2 0 e) = V m c main_v3 (ix2 0 e) := by
  blk_simp [iblk]
  refine congrArg _ ?_
  blk_ext [index4]

/-! ### What every step carries and leaves -/

/-- The first step fills the three scratches: the gate's rows, -/
theorem fill0 (t : Fin cfg0.N) (h0 : t.val % 16 = 0) (r : Fin 256) (d : Fin 3072) : (outsAt0 m c t.val t.isLt).2.2.1 (ix2 r d) = (V m c main_arg2 (ix2 d (rowOf r)) : EReal) := by
  rw [congrArg (fun o => o.2.2.1) (outsAt0_A m c t h0)]
  dsimp only
  exact (sout0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t) (iblk m c 2 t) (iblk m c 3 t) (iblk m c 4 t) r d).trans (blk2 m c t _ _)

/-- the scales, -/
theorem fill1 (t : Fin cfg0.N) (h0 : t.val % 16 = 0) (r : Fin 256) (l : Fin 128) : (outsAt0 m c t.val t.isLt).2.2.2.1 (ix2 r l) = (V m c main_v2 (ix2 0 (rowOf r)) : EReal) := by
  rw [congrArg (fun o => o.2.2.2.1) (outsAt0_A m c t h0)]
  dsimp only
  exact (sout1_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t) (iblk m c 2 t) (iblk m c 3 t) (iblk m c 4 t) r l).trans (blk3 m c t _)

/-- and the biases. -/
theorem fill2 (t : Fin cfg0.N) (h0 : t.val % 16 = 0) (r : Fin 256) (l : Fin 128) : (outsAt0 m c t.val t.isLt).2.2.2.2 (ix2 r l) = (V m c main_v3 (ix2 0 (rowOf r)) : EReal) := by
  rw [congrArg (fun o => o.2.2.2.2) (outsAt0_A m c t h0)]
  dsimp only
  exact (sout2_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t) (iblk m c 2 t) (iblk m c 3 t) (iblk m c 4 t) r l).trans (blk4 m c t _)

/-- A later step leaves them as they were. -/
theorem keep0 (t : Fin cfg0.N) (h0 : ¬ t.val % 16 = 0) : (outsAt0 m c t.val t.isLt).2.2.1 = (outsAt0 m c (t.val - 1) (Nat.lt_of_le_of_lt (Nat.sub_le _ _) t.isLt)).2.2.1 := by
  rw [congrArg (fun o => o.2.2.1) (outsAt0_B m c t h0)]
  dsimp only [sout0_B_0]

/-- A later step leaves the scratch of scales as it was. -/
theorem keep1 (t : Fin cfg0.N) (h0 : ¬ t.val % 16 = 0) : (outsAt0 m c t.val t.isLt).2.2.2.1 = (outsAt0 m c (t.val - 1) (Nat.lt_of_le_of_lt (Nat.sub_le _ _) t.isLt)).2.2.2.1 := by
  rw [congrArg (fun o => o.2.2.2.1) (outsAt0_B m c t h0)]
  dsimp only [sout0_B_1]

/-- A later step leaves the scratch of biases as it was. -/
theorem keep2 (t : Fin cfg0.N) (h0 : ¬ t.val % 16 = 0) : (outsAt0 m c t.val t.isLt).2.2.2.2 = (outsAt0 m c (t.val - 1) (Nat.lt_of_le_of_lt (Nat.sub_le _ _) t.isLt)).2.2.2.2 := by
  rw [congrArg (fun o => o.2.2.2.2) (outsAt0_B m c t h0)]
  dsimp only [sout0_B_2]

/-- From the first step on the three scratches hold the gate's rows, the scales and the biases. -/
theorem carried : ∀ (n : ℕ) (hn : n < cfg0.N),
    (∀ r d, (outsAt0 m c n hn).2.2.1 (ix2 r d) = (V m c main_arg2 (ix2 d (rowOf r)) : EReal)) ∧
    (∀ r l, (outsAt0 m c n hn).2.2.2.1 (ix2 r l) = V m c main_v2 (ix2 0 (rowOf r))) ∧
    (∀ r l, (outsAt0 m c n hn).2.2.2.2 (ix2 r l) = V m c main_v3 (ix2 0 (rowOf r))) := by
  intro n
  induction n with
  | zero =>
    intro hn
    exact ⟨fill0 m c ⟨0, hn⟩ rfl, fill1 m c ⟨0, hn⟩ rfl, fill2 m c ⟨0, hn⟩ rfl⟩
  | succ n ih =>
    intro hn
    have hn' : n < cfg0.N := Nat.lt_of_succ_lt hn
    have h0 : ¬ (n + 1) % 16 = 0 := by have := lt16 ⟨n + 1, hn⟩; simp only at this; omega
    have k0 := keep0 m c ⟨n + 1, hn⟩ h0
    have k1 := keep1 m c ⟨n + 1, hn⟩ h0
    have k2 := keep2 m c ⟨n + 1, hn⟩ h0
    obtain ⟨i0, i1, i2⟩ := ih hn'
    exact ⟨fun r d => (congrFun k0 _).trans (i0 r d), fun r l => (congrFun k1 _).trans (i1 r l), fun r l => (congrFun k2 _).trans (i2 r l)⟩

/-- Every place of a step is some unit's lane. -/
theorem tokenAt_surj (q : Fin 1024) : q = tokenAt ⟨q.val / 128, by omega⟩ ⟨q.val % 128, by omega⟩ := Fin.ext (by simp only [tokenAt]; omega)

/-- The numbers step `t` leaves. -/
theorem left5 (t : Fin cfg0.N) (k : Fin 4) (q : Fin 1024) : (outsAt0 m c t.val t.isLt).1 (ix3 0 k q) =
    idOf (chE (iblk m c 0 t) (iblk m c 1 t) (iblk m c 2 t) (iblk m c 3 t) (iblk m c 4 t) q) k := by
  rw [tokenAt_surj q]
  by_cases h0 : t.val % 16 = 0
  · rw [congrArg (fun o => o.1) (outsAt0_A m c t h0)]
    dsimp only
    exact out5_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t) (iblk m c 2 t) (iblk m c 3 t) (iblk m c 4 t) _ k _
  · rw [congrArg (fun o => o.1) (outsAt0_B m c t h0)]
    obtain ⟨hw, hs, he⟩ := carried m c (t.val - 1) (Nat.lt_of_le_of_lt (Nat.sub_le _ _) t.isLt)
    dsimp only
    exact out5_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) (iblk m c 2 t) (iblk m c 3 t) (iblk m c 4 t) _ _ _
      (fun r d => (hw r d).trans (blk2 m c t _ _).symm) (fun r l => (hs r l).trans (blk3 m c t _).symm)
      (fun r l => (he r l).trans (blk4 m c t _).symm) _ k _

/-- The weights step `t` leaves. -/
theorem left6 (t : Fin cfg0.N) (k : Fin 4) (q : Fin 1024) : (outsAt0 m c t.val t.isLt).2.1 (ix3 0 k q) =
    wtE (iblk m c 0 t) (iblk m c 1 t) (iblk m c 2 t) (iblk m c 3 t) (iblk m c 4 t) q k := by
  rw [tokenAt_surj q]
  by_cases h0 : t.val % 16 = 0
  · rw [congrArg (fun o => o.2.1) (outsAt0_A m c t h0)]
    dsimp only
    exact out6_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t) (iblk m c 2 t) (iblk m c 3 t) (iblk m c 4 t) _ k _
  · rw [congrArg (fun o => o.2.1) (outsAt0_B m c t h0)]
    obtain ⟨hw, hs, he⟩ := carried m c (t.val - 1) (Nat.lt_of_le_of_lt (Nat.sub_le _ _) t.isLt)
    dsimp only
    exact out6_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) (iblk m c 2 t) (iblk m c 3 t) (iblk m c 4 t) _ _ _
      (fun r d => (hw r d).trans (blk2 m c t _ _).symm) (fun r l => (hs r l).trans (blk3 m c t _).symm)
      (fun r l => (he r l).trans (blk4 m c t _).symm) _ k _

/-! ### The host's operations before the region -/

variable (x : FVec Ideal ⟨3, ![8, 2048, 3072]⟩ .fp8e4m3) (xs : FVec Ideal ⟨3, ![8, 2048, 24]⟩ .f32) (w : FVec Ideal ⟨2, ![3072, 256]⟩ .fp8e4m3)
  (ws eb : FVec Ideal ⟨1, ![256]⟩ .f32)

/-- The arrays the host makes before the call: the tokens' codes, samples one below the other, -/
theorem V_v0 : (V m c main_v0 : FVec Ideal S16384x3072 .fp8e4m3) = shapeCast S16384x3072 (m ((c : Thread nD τ).loc main_arg0)) shapeCasts_S8x2048x3072_S16384x3072 := by
  show StableHlo.after hostOps0 (fun b => m (c, b)) _ = _
  unfold_abbrev_sides
  after_results
  try rfl

/-- their scales, last two axes exchanged, -/
theorem V_v1 : (V m c main_v1 : FVec Ideal S8x24x2048 .f32) = transpose S8x24x2048 [0, 2, 1] (m ((c : Thread nD τ).loc main_arg1)) transposes_S8x2048x24_S8x24x2048_0_2_1 := by
  show StableHlo.after hostOps0 (fun b => m (c, b)) _ = _
  unfold_abbrev_sides
  after_results
  try rfl

/-- the gate's scales as a row, -/
theorem V_v2 : (V m c main_v2 : FVec Ideal S1x256 .f32) = shapeCast S1x256 (m ((c : Thread nD τ).loc main_arg3)) shapeCasts_S256_S1x256 := by
  show StableHlo.after hostOps0 (fun b => m (c, b)) _ = _
  unfold_abbrev_sides
  after_results
  try rfl

/-- the biases as a row. -/
theorem V_v3 : (V m c main_v3 : FVec Ideal S1x256 .f32) = shapeCast S1x256 (m ((c : Thread nD τ).loc main_arg4)) shapeCasts_S256_S1x256 := by
  show StableHlo.after hostOps0 (fun b => m (c, b)) _ = _
  unfold_abbrev_sides
  after_results
  try rfl

end Cert.KernelIdeal.Route
-- ==== Proof.Kernel.lean ====
/-
  The kernel's program on extended reals ends with the arrays `allIds` and `allWeights` of its arguments.
-/
module

public import proofs.«01_k».proof.Proof.Run
import Idealize.ShloMosaic.Lib.Pipeline.ValueKit
import Idealize.ShloMosaic.Lib.Pipeline.Value
import Idealize.ShloMosaic.Lib.ValueLayout

@[expose] public section

set_option maxRecDepth 100000

noncomputable section

namespace Cert.KernelIdeal.Route

open Idealize.ShloMosaic Idealize.ShloMosaic.TcCoe Cert.KernelIdeal Cert.KernelIdeal.Gen Cert.Top Idealize.SL.Sem

variable (m : (ℓ : Loc nD τ sig) → Buf (Elt Ideal) ℓ) (c : Dev nD)

/-- The arguments. -/
abbrev ax : FVec Ideal ⟨3, ![8, 2048, 3072]⟩ .fp8e4m3 := m ((c : Thread nD τ).loc main_arg0)
abbrev axs : FVec Ideal ⟨3, ![8, 2048, 24]⟩ .f32 := m ((c : Thread nD τ).loc main_arg1)
abbrev aw : FVec Ideal ⟨2, ![3072, 256]⟩ .fp8e4m3 := m ((c : Thread nD τ).loc main_arg2)
abbrev aws : FVec Ideal ⟨1, ![256]⟩ .f32 := m ((c : Thread nD τ).loc main_arg3)
abbrev aeb : FVec Ideal ⟨1, ![256]⟩ .f32 := m ((c : Thread nD τ).loc main_arg4)

/-- Each window's block in terms of the arguments: the tokens' codes, -/
theorem v0_at (t : Fin cfg0.N) (q : Fin 1024) (d : Fin 3072) : iblk m c 0 t (ix2 q d) = ax m c (ix3 (sampleOf t) (placeIn t q) d) := by
  rw [blk0, V_v0]
  refine shapeCast_apply (s := S8x2048x3072) (ax m c) _ _ _ ?_
  rw [Shape.rowMajor_val_three, Shape.rowMajor_val_two]
  show ((t.val / 2) * 2048 + (1024 * (t.val % 2) + q.val)) * 3072 + d.val = (1024 * t.val + q.val) * 3072 + d.val
  omega

/-- their scales, -/
theorem v1_at (t : Fin cfg0.N) (b : Fin 24) (q : Fin 1024) : iblk m c 1 t (ix3 0 b q) = axs m c (ix3 (sampleOf t) (placeIn t q) b) := by
  rw [blk1, V_v1]
  pointwise

/-- the gate's scales, -/
theorem v3_at (t : Fin cfg0.N) (e : Fin 256) : iblk m c 3 t (ix2 0 e) = aws m c (ix1 e) := by
  rw [blk3, V_v2]
  refine shapeCast_apply (s := S256) (aws m c) _ _ _ ?_
  rw [Shape.rowMajor_val_one, Shape.rowMajor_val_two]
  show e.val = 0 * 256 + e.val
  omega

/-- the biases. -/
theorem v4_at (t : Fin cfg0.N) (e : Fin 256) : iblk m c 4 t (ix2 0 e) = aeb m c (ix1 e) := by
  rw [blk4, V_v3]
  refine shapeCast_apply (s := S256) (aeb m c) _ _ _ ?_
  rw [Shape.rowMajor_val_one, Shape.rowMajor_val_two]
  show e.val = 0 * 256 + e.val
  omega

/-- the gate's codes, -/
theorem v2_at (t : Fin cfg0.N) (d : Fin 3072) (e : Fin 256) : iblk m c 2 t (ix2 d e) = aw m c (ix2 d e) := by
  rw [blk2, V_main_arg2]

/-- A step's scores are the tokens' scores. -/
theorem scE_eq (t : Fin cfg0.N) (q : Fin 1024) :
    scE (iblk m c 0 t) (iblk m c 1 t) (iblk m c 2 t) (iblk m c 3 t) q = Cert.Top.score (ax m c) (axs m c) (aw m c) (aws m c) (sampleOf t) (placeIn t q) := by
  funext e
  rw [scE, Cert.Top.score, lgE, logit, v3_at]
  refine congrArg (fun z : EReal => Ideal.logistic (z * aws m c (ix1 e) : EReal)) ?_
  refine Finset.sum_congr rfl fun d _ => ?_
  rw [v0_at, v1_at, v2_at]

/-- A step's biased scores are the tokens'. -/
theorem chE_eq (t : Fin cfg0.N) (q : Fin 1024) :
    chE (iblk m c 0 t) (iblk m c 1 t) (iblk m c 2 t) (iblk m c 3 t) (iblk m c 4 t) q = choice (ax m c) (axs m c) (aw m c) (aws m c) (aeb m c) (sampleOf t) (placeIn t q) := by
  funext e
  rw [chE, choice, scE_eq, v4_at]

/-- The two arrays the region writes. -/
def idsT : IVec S8x4x2048 32 := fun i => idOf (choice (ax m c) (axs m c) (aw m c) (aws m c) (aeb m c) (i 0) (i 2)) (i 1)
def weightsT : FVec Ideal S8x4x2048 .f32 := fun i => weight (ax m c) (axs m c) (aw m c) (aws m c) (aeb m c) (i 0) (i 2) (i 1)

/-- What the call leaves in its first result, -/
theorem final5 : (dats m 0 c).arrAt 5 cfg0.N = idsT m c := by
  refine (dats m 0 c).arrAt_eq_of_covers 5 _ (by decide +kernel) fun t hf y => ?_
  blk_simp
  rw [after0_5]
  have hk : (y 1).val < 4 := (y 1).isLt
  have hq : (y 2).val < 1024 := (y 2).isLt
  have hy : y = ix3 0 (⟨(y 1).val, hk⟩ : Fin 4) (⟨(y 2).val, hq⟩ : Fin 1024) := by
    funext a
    fin_cases a
    · exact Fin.ext (by have : (y 0).val < 1 := (y 0).isLt; show (y 0).val = 0; omega)
    · rfl
    · rfl
  have he : ((win0_5.blk t).view.emb y : S8x4x2048.Idx) = ix3 (sampleOf t) (⟨(y 1).val, hk⟩ : Fin 4) (placeIn t ⟨(y 2).val, hq⟩) := by
    idx_bounds y
    blk_ext [index5, sampleOf, placeIn]
  refine Eq.trans ?_ (congrArg (idsT m c) he).symm
  refine Eq.trans (congrArg _ hy) ?_
  refine (left5 m c t _ _).trans ?_
  rw [chE_eq]
  rfl

/-- and in its second. -/
theorem final6 : (dats m 0 c).arrAt 6 cfg0.N = weightsT m c := by
  refine (dats m 0 c).arrAt_eq_of_covers 6 _ (by decide +kernel) fun t hf y => ?_
  blk_simp
  rw [after0_6]
  have hk : (y 1).val < 4 := (y 1).isLt
  have hq : (y 2).val < 1024 := (y 2).isLt
  have hy : y = ix3 0 (⟨(y 1).val, hk⟩ : Fin 4) (⟨(y 2).val, hq⟩ : Fin 1024) := by
    funext a
    fin_cases a
    · exact Fin.ext (by have : (y 0).val < 1 := (y 0).isLt; show (y 0).val = 0; omega)
    · rfl
    · rfl
  have he : ((win0_6.blk t).view.emb y : S8x4x2048.Idx) = ix3 (sampleOf t) (⟨(y 1).val, hk⟩ : Fin 4) (placeIn t ⟨(y 2).val, hq⟩) := by
    idx_bounds y
    blk_ext [index6, sampleOf, placeIn]
  refine Eq.trans ?_ (congrArg (weightsT m c) he).symm
  refine Eq.trans (congrArg _ hy) ?_
  refine (left6 m c t _ _).trans ?_
  rw [wtE, chE_eq, scE_eq]
  rfl

/-- The host exchanges the last two axes: the array of expert numbers, -/
theorem tail5 : Pipeline.afterTail₀ cfgs (dats m) 0 (V0 m) [hostOps1] c main_v5 = allIds (ax m c) (axs m c) (aw m c) (aws m c) (aeb m c) := by
  show StableHlo.after hostOps1 (Pipeline.withArrays spec0 c (V0 m c) fun w => (dats m 0 c).arrAt w cfg0.N) _ = _
  unfold_abbrev_sides
  after_results
  have h : (Pipeline.withArrays spec0 c (V0 m c) (fun w => (dats m 0 c).arrAt w cfg0.N) (Proc.tc.devRef main_v4_0)) = idsT m c :=
    (Pipeline.withArrays_arr spec0 launch0.win.arr_inj c (V0 m c) (fun w => (dats m 0 c).arrAt w cfg0.N) 5).trans (final5 m c)
  rw [h]
  funext i
  obtain ⟨b, n, k, rfl⟩ : ∃ b n k, i = ix3 b n k := ⟨i 0, i 1, i 2, by funext a; fin_cases a <;> rfl⟩
  pointwise [idsT, allIds]

/-- and the array of weights. -/
theorem tail6 : Pipeline.afterTail₀ cfgs (dats m) 0 (V0 m) [hostOps1] c main_v6 = allWeights (ax m c) (axs m c) (aw m c) (aws m c) (aeb m c) := by
  show StableHlo.after hostOps1 (Pipeline.withArrays spec0 c (V0 m c) fun w => (dats m 0 c).arrAt w cfg0.N) _ = _
  unfold_abbrev_sides
  after_results
  have h : (Pipeline.withArrays spec0 c (V0 m c) (fun w => (dats m 0 c).arrAt w cfg0.N) (Proc.tc.devRef main_v4_1)) = weightsT m c :=
    (Pipeline.withArrays_arr spec0 launch0.win.arr_inj c (V0 m c) (fun w => (dats m 0 c).arrAt w cfg0.N) 6).trans (final6 m c)
  rw [h]
  funext i
  obtain ⟨b, n, k, rfl⟩ : ∃ b n k, i = ix3 b n k := ⟨i 0, i 1, i 2, by funext a; fin_cases a <;> rfl⟩
  pointwise [weightsT, allWeights]

/-- THE RUN: the program ends with the two arrays of the specification, its arguments unchanged. -/
theorem run (g : Dev nD → PrngReg) : θ_run defs (onTc (τ := τ) (main (F := Ideal))) ⟨m, fun _ => 0, g⟩ (fun r => ∀ c : Dev nD,
      r.2.mem ((c.tc : Thread nD τ).loc main_v5) = allIds (ax m c) (axs m c) (aw m c) (aws m c) (aeb m c)
      ∧ r.2.mem ((c.tc : Thread nD τ).loc main_v6) = allWeights (ax m c) (axs m c) (aw m c) (aws m c) (aeb m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono ?_ (θ_run_and (run_main m g) (unchanged m g))
  intro r h c
  exact ⟨(h.1.rest_eq c main_v5 (by decide)).trans (tail5 m c), (h.1.rest_eq c main_v6 (by decide)).trans (tail6 m c), h.2 c⟩

end Cert.KernelIdeal.Route
-- ==== Proof.RefLine.lean ====
/-
  The reference's host operations after its one call, cut into stretches, each with the references it writes.
-/
module

public import proofs.«01_k».proof.Proof.Gen.ReferenceIdeal.Frame
public import Idealize.ShloMosaic.Lib.StableHlo.RunRead

@[expose] public section

set_option maxRecDepth 100000

noncomputable section

namespace Cert.ReferenceIdeal.Route

open Idealize.ShloMosaic Idealize.ShloMosaic.TcCoe Cert.ReferenceIdeal Cert.ReferenceIdeal.Gen Idealize.SL.Sem

variable {F : FTy → Type} [FloatOps F]

/-- The operations that compute the scores and the biased scores. -/
abbrev seg0 : List (HloOp τ sig (Elt F)) :=
  [ StableHlo.reshape main_v0_0 main_v1 (rfl : (.bf16 : EltTy) = .bf16) shapeCasts_S8x2048x3072_S8x2048x24x128
  , StableHlo.unary main_arg1 main_v2 ((truncf .bf16 · bitsLt_bf16_f32) : (⟨S8x2048x24, .f32⟩ : BufTy).Contents (Elt F) → (⟨S8x2048x24, .bf16⟩ : BufTy).Contents (Elt F))
  , StableHlo.unary main_v2 main_v3 (broadcastInDim S8x2048x24x1 ![0, 1, 2] bcast_S8x2048x24_S8x2048x24x1_0_1_2 : (⟨S8x2048x24, .bf16⟩ : BufTy).Contents (Elt F) → (⟨S8x2048x24x1, .bf16⟩ : BufTy).Contents (Elt F))
  , StableHlo.unary main_v3 main_v4 (broadcastInDim S8x2048x24x128 ![0, 1, 2, 3] bcast_S8x2048x24x1_S8x2048x24x128_0_1_2_3 : (⟨S8x2048x24x1, .bf16⟩ : BufTy).Contents (Elt F) → (⟨S8x2048x24x128, .bf16⟩ : BufTy).Contents (Elt F))
  , StableHlo.binary main_v1 main_v4 main_v5 (mulf : (⟨S8x2048x24x128, .bf16⟩ : BufTy).Contents (Elt F) → (⟨S8x2048x24x128, .bf16⟩ : BufTy).Contents (Elt F) → (⟨S8x2048x24x128, .bf16⟩ : BufTy).Contents (Elt F))
  , StableHlo.reshape main_v5 main_v6 (rfl : (.bf16 : EltTy) = .bf16) shapeCasts_S8x2048x24x128_S16384x3072
  , StableHlo.binary main_v0_1 main_v6 main_v7 ((fun l r => Host.dotGeneral dot_S3072x256_S16384x3072_S256x16384_0_1_1_0_n_n none l r) : (⟨S3072x256, .bf16⟩ : BufTy).Contents (Elt F) → (⟨S16384x3072, .bf16⟩ : BufTy).Contents (Elt F) → (⟨S256x16384, .f32⟩ : BufTy).Contents (Elt F))
  , StableHlo.unary main_arg3 main_v8 (broadcastInDim S256x1 ![0] bcast_S256_S256x1_0 : (⟨S256, .f32⟩ : BufTy).Contents (Elt F) → (⟨S256x1, .f32⟩ : BufTy).Contents (Elt F))
  , StableHlo.unary main_v8 main_v9 (broadcastInDim S256x16384 ![0, 1] bcast_S256x1_S256x16384_0_1 : (⟨S256x1, .f32⟩ : BufTy).Contents (Elt F) → (⟨S256x16384, .f32⟩ : BufTy).Contents (Elt F))
  , StableHlo.binary main_v7 main_v9 main_v10 (mulf : (⟨S256x16384, .f32⟩ : BufTy).Contents (Elt F) → (⟨S256x16384, .f32⟩ : BufTy).Contents (Elt F) → (⟨S256x16384, .f32⟩ : BufTy).Contents (Elt F))
  , StableHlo.unary main_v10 main_v11 (Host.negf : (⟨S256x16384, .f32⟩ : BufTy).Contents (Elt F) → (⟨S256x16384, .f32⟩ : BufTy).Contents (Elt F))
  , StableHlo.unary main_v11 main_v12 (Host.exp : (⟨S256x16384, .f32⟩ : BufTy).Contents (Elt F) → (⟨S256x16384, .f32⟩ : BufTy).Contents (Elt F))
  , StableHlo.nullary main_cst (constant S_ .f32 0x3F800000#32)
  , StableHlo.unary main_cst main_v13 (broadcastInDim S256x16384 ![] bcast_S_S256x16384 : (⟨S_, .f32⟩ : BufTy).Contents (Elt F) → (⟨S256x16384, .f32⟩ : BufTy).Contents (Elt F))
  , StableHlo.binary main_v13 main_v12 main_v14 (addf : (⟨S256x16384, .f32⟩ : BufTy).Contents (Elt F) → (⟨S256x16384, .f32⟩ : BufTy).Contents (Elt F) → (⟨S256x16384, .f32⟩ : BufTy).Contents (Elt F))
  , StableHlo.nullary main_cst_0 (constant S_ .f32 0x3F800000#32)
  , StableHlo.unary main_cst_0 main_v15 (broadcastInDim S256x16384 ![] bcast_S_S256x16384 : (⟨S_, .f32⟩ : BufTy).Contents (Elt F) → (⟨S256x16384, .f32⟩ : BufTy).Contents (Elt F))
  , StableHlo.binary main_v15 main_v14 main_v16 (Host.divf : (⟨S256x16384, .f32⟩ : BufTy).Contents (Elt F) → (⟨S256x16384, .f32⟩ : BufTy).Contents (Elt F) → (⟨S256x16384, .f32⟩ : BufTy).Contents (Elt F))
  , StableHlo.unary main_arg4 main_v17 (broadcastInDim S256x1 ![0] bcast_S256_S256x1_0 : (⟨S256, .f32⟩ : BufTy).Contents (Elt F) → (⟨S256x1, .f32⟩ : BufTy).Contents (Elt F))
  , StableHlo.unary main_v17 main_v18 (broadcastInDim S256x16384 ![0, 1] bcast_S256x1_S256x16384_0_1 : (⟨S256x1, .f32⟩ : BufTy).Contents (Elt F) → (⟨S256x16384, .f32⟩ : BufTy).Contents (Elt F))
  , StableHlo.binary main_v16 main_v18 main_v19 (addf : (⟨S256x16384, .f32⟩ : BufTy).Contents (Elt F) → (⟨S256x16384, .f32⟩ : BufTy).Contents (Elt F) → (⟨S256x16384, .f32⟩ : BufTy).Contents (Elt F)) ]

/-- The references they write, in order. -/
abbrev wr0 : List (Ref sig .tc) := [main_v1, main_v2, main_v3, main_v4, main_v5, main_v6, main_v7, main_v8, main_v9, main_v10, main_v11, main_v12, main_cst, main_v13, main_v14, main_cst_0, main_v15, main_v16, main_v17, main_v18, main_v19]

/-- A stretch leaves what it does not write. -/
theorem keep0 (V : Valuation τ sig (Elt F)) {r : Ref sig .tc} (h : r ∉ wr0) : StableHlo.after (seg0 (F := F)) V (Proc.devRef .tc r) = V (Proc.devRef .tc r) :=
  StableHlo.after_unwritten wr0 rfl h V

/-- The operations that compute the score of each group. -/
abbrev seg1 : List (HloOp τ sig (Elt F)) :=
  [ StableHlo.reshape main_v19 main_v20 (rfl : (.f32 : EltTy) = .f32) shapeCasts_S256x16384_S8x32x16384
  , StableHlo.nullary main_cst_1 (constant S_ .f32 0xFF800000#32)
  , StableHlo.binary main_v20 main_cst_1 main_v21 ((fun x v => Host.reduce FloatOps.maximumf x v reducesTo_S8x32x16384_S8x16384_d1 h_S_) : (⟨S8x32x16384, .f32⟩ : BufTy).Contents (Elt F) → (⟨S_, .f32⟩ : BufTy).Contents (Elt F) → (⟨S8x16384, .f32⟩ : BufTy).Contents (Elt F))
  , StableHlo.unary main_v21 main_v22 (broadcastInDim S8x1x16384 ![0, 2] bcast_S8x16384_S8x1x16384_0_2 : (⟨S8x16384, .f32⟩ : BufTy).Contents (Elt F) → (⟨S8x1x16384, .f32⟩ : BufTy).Contents (Elt F))
  , StableHlo.unary main_v22 main_v23 (broadcastInDim S8x32x16384 ![0, 1, 2] bcast_S8x1x16384_S8x32x16384_0_1_2 : (⟨S8x1x16384, .f32⟩ : BufTy).Contents (Elt F) → (⟨S8x32x16384, .f32⟩ : BufTy).Contents (Elt F))
  , StableHlo.binary main_v20 main_v23 main_v24 (cmpf .oeq : (⟨S8x32x16384, .f32⟩ : BufTy).Contents (Elt F) → (⟨S8x32x16384, .f32⟩ : BufTy).Contents (Elt F) → (⟨S8x32x16384, .i1⟩ : BufTy).Contents (Elt F))
  , StableHlo.unary main_v24 main_v25 ((extui 32 · natLt_1_32) : (⟨S8x32x16384, .i1⟩ : BufTy).Contents (Elt F) → (⟨S8x32x16384, .i32⟩ : BufTy).Contents (Elt F))
  , StableHlo.nullary main_c (constantI S_ 32 0#32)
  , StableHlo.binary main_v25 main_c main_v26 ((fun x v => Host.reduce IntOp.addi x v reducesTo_S8x32x16384_S8x16384_d1 h_S_) : (⟨S8x32x16384, .i32⟩ : BufTy).Contents (Elt F) → (⟨S_, .i32⟩ : BufTy).Contents (Elt F) → (⟨S8x16384, .i32⟩ : BufTy).Contents (Elt F))
  , StableHlo.nullary main_c_2 (constantI S_ 32 2#32)
  , StableHlo.unary main_c_2 main_v27 (broadcastInDim S8x16384 ![] bcast_S_S8x16384 : (⟨S_, .i32⟩ : BufTy).Contents (Elt F) → (⟨S8x16384, .i32⟩ : BufTy).Contents (Elt F))
  , StableHlo.binary main_v26 main_v27 main_v28 (cmpi .sge : (⟨S8x16384, .i32⟩ : BufTy).Contents (Elt F) → (⟨S8x16384, .i32⟩ : BufTy).Contents (Elt F) → (⟨S8x16384, .i1⟩ : BufTy).Contents (Elt F))
  , StableHlo.nullary main_cst_3 (constant S_ .f32 0xFF800000#32)
  , StableHlo.unary main_cst_3 main_v29 (broadcastInDim S8x32x16384 ![] bcast_S_S8x32x16384 : (⟨S_, .f32⟩ : BufTy).Contents (Elt F) → (⟨S8x32x16384, .f32⟩ : BufTy).Contents (Elt F))
  , StableHlo.ternary main_v24 main_v29 main_v20 main_v30 (select : (⟨S8x32x16384, .i1⟩ : BufTy).Contents (Elt F) → (⟨S8x32x16384, .f32⟩ : BufTy).Contents (Elt F) → (⟨S8x32x16384, .f32⟩ : BufTy).Contents (Elt F) → (⟨S8x32x16384, .f32⟩ : BufTy).Contents (Elt F))
  , StableHlo.nullary main_cst_4 (constant S_ .f32 0xFF800000#32)
  , StableHlo.binary main_v30 main_cst_4 main_v31 ((fun x v => Host.reduce FloatOps.maximumf x v reducesTo_S8x32x16384_S8x16384_d1 h_S_) : (⟨S8x32x16384, .f32⟩ : BufTy).Contents (Elt F) → (⟨S_, .f32⟩ : BufTy).Contents (Elt F) → (⟨S8x16384, .f32⟩ : BufTy).Contents (Elt F))
  , StableHlo.ternary main_v28 main_v21 main_v31 main_v32 (select : (⟨S8x16384, .i1⟩ : BufTy).Contents (Elt F) → (⟨S8x16384, .f32⟩ : BufTy).Contents (Elt F) → (⟨S8x16384, .f32⟩ : BufTy).Contents (Elt F) → (⟨S8x16384, .f32⟩ : BufTy).Contents (Elt F))
  , StableHlo.binary main_v21 main_v32 main_v33 (addf : (⟨S8x16384, .f32⟩ : BufTy).Contents (Elt F) → (⟨S8x16384, .f32⟩ : BufTy).Contents (Elt F) → (⟨S8x16384, .f32⟩ : BufTy).Contents (Elt F)) ]

/-- The references they write, in order. -/
abbrev wr1 : List (Ref sig .tc) := [main_v20, main_cst_1, main_v21, main_v22, main_v23, main_v24, main_v25, main_c, main_v26, main_c_2, main_v27, main_v28, main_cst_3, main_v29, main_v30, main_cst_4, main_v31, main_v32, main_v33]

theorem keep1 (V : Valuation τ sig (Elt F)) {r : Ref sig .tc} (h : r ∉ wr1) : StableHlo.after (seg1 (F := F)) V (Proc.devRef .tc r) = V (Proc.devRef .tc r) :=
  StableHlo.after_unwritten wr1 rfl h V

/-- The operations that compute the mask of the kept groups. -/
abbrev seg2 : List (HloOp τ sig (Elt F)) :=
  [ StableHlo.unary main_v33 main_v34 (broadcastInDim S8x1x16384 ![0, 2] bcast_S8x16384_S8x1x16384_0_2 : (⟨S8x16384, .f32⟩ : BufTy).Contents (Elt F) → (⟨S8x1x16384, .f32⟩ : BufTy).Contents (Elt F))
  , StableHlo.unary main_v33 main_v35 (broadcastInDim S1x8x16384 ![1, 2] bcast_S8x16384_S1x8x16384_1_2 : (⟨S8x16384, .f32⟩ : BufTy).Contents (Elt F) → (⟨S1x8x16384, .f32⟩ : BufTy).Contents (Elt F))
  , StableHlo.nullary main_v36 (iotaInDim S8x8x16384 32 0)
  , StableHlo.nullary main_v37 (iotaInDim S8x8x16384 32 1)
  , StableHlo.unary main_v35 main_v38 (broadcastInDim S8x8x16384 ![0, 1, 2] bcast_S1x8x16384_S8x8x16384_0_1_2 : (⟨S1x8x16384, .f32⟩ : BufTy).Contents (Elt F) → (⟨S8x8x16384, .f32⟩ : BufTy).Contents (Elt F))
  , StableHlo.unary main_v34 main_v39 (broadcastInDim S8x8x16384 ![0, 1, 2] bcast_S8x1x16384_S8x8x16384_0_1_2 : (⟨S8x1x16384, .f32⟩ : BufTy).Contents (Elt F) → (⟨S8x8x16384, .f32⟩ : BufTy).Contents (Elt F))
  , StableHlo.binary main_v38 main_v39 main_v40 (cmpf .ogt : (⟨S8x8x16384, .f32⟩ : BufTy).Contents (Elt F) → (⟨S8x8x16384, .f32⟩ : BufTy).Contents (Elt F) → (⟨S8x8x16384, .i1⟩ : BufTy).Contents (Elt F))
  , StableHlo.unary main_v35 main_v41 (broadcastInDim S8x8x16384 ![0, 1, 2] bcast_S1x8x16384_S8x8x16384_0_1_2 : (⟨S1x8x16384, .f32⟩ : BufTy).Contents (Elt F) → (⟨S8x8x16384, .f32⟩ : BufTy).Contents (Elt F))
  , StableHlo.unary main_v34 main_v42 (broadcastInDim S8x8x16384 ![0, 1, 2] bcast_S8x1x16384_S8x8x16384_0_1_2 : (⟨S8x1x16384, .f32⟩ : BufTy).Contents (Elt F) → (⟨S8x8x16384, .f32⟩ : BufTy).Contents (Elt F))
  , StableHlo.binary main_v41 main_v42 main_v43 (cmpf .oeq : (⟨S8x8x16384, .f32⟩ : BufTy).Contents (Elt F) → (⟨S8x8x16384, .f32⟩ : BufTy).Contents (Elt F) → (⟨S8x8x16384, .i1⟩ : BufTy).Contents (Elt F))
  , StableHlo.binary main_v37 main_v36 main_v44 (cmpi .slt : (⟨S8x8x16384, .i32⟩ : BufTy).Contents (Elt F) → (⟨S8x8x16384, .i32⟩ : BufTy).Contents (Elt F) → (⟨S8x8x16384, .i1⟩ : BufTy).Contents (Elt F))
  , StableHlo.binary main_v43 main_v44 main_v45 (andi : (⟨S8x8x16384, .i1⟩ : BufTy).Contents (Elt F) → (⟨S8x8x16384, .i1⟩ : BufTy).Contents (Elt F) → (⟨S8x8x16384, .i1⟩ : BufTy).Contents (Elt F))
  , StableHlo.binary main_v40 main_v45 main_v46 (ori : (⟨S8x8x16384, .i1⟩ : BufTy).Contents (Elt F) → (⟨S8x8x16384, .i1⟩ : BufTy).Contents (Elt F) → (⟨S8x8x16384, .i1⟩ : BufTy).Contents (Elt F))
  , StableHlo.unary main_v46 main_v47 ((extui 32 · natLt_1_32) : (⟨S8x8x16384, .i1⟩ : BufTy).Contents (Elt F) → (⟨S8x8x16384, .i32⟩ : BufTy).Contents (Elt F))
  , StableHlo.nullary main_c_5 (constantI S_ 32 0#32)
  , StableHlo.binary main_v47 main_c_5 main_v48 ((fun x v => Host.reduce IntOp.addi x v reducesTo_S8x8x16384_S8x16384_d1 h_S_) : (⟨S8x8x16384, .i32⟩ : BufTy).Contents (Elt F) → (⟨S_, .i32⟩ : BufTy).Contents (Elt F) → (⟨S8x16384, .i32⟩ : BufTy).Contents (Elt F))
  , StableHlo.nullary main_c_6 (constantI S_ 32 4#32)
  , StableHlo.unary main_c_6 main_v49 (broadcastInDim S8x16384 ![] bcast_S_S8x16384 : (⟨S_, .i32⟩ : BufTy).Contents (Elt F) → (⟨S8x16384, .i32⟩ : BufTy).Contents (Elt F))
  , StableHlo.binary main_v48 main_v49 main_v50 (cmpi .slt : (⟨S8x16384, .i32⟩ : BufTy).Contents (Elt F) → (⟨S8x16384, .i32⟩ : BufTy).Contents (Elt F) → (⟨S8x16384, .i1⟩ : BufTy).Contents (Elt F))
  , StableHlo.unary main_v50 main_v51 (broadcastInDim S8x1x16384 ![0, 2] bcast_S8x16384_S8x1x16384_0_2 : (⟨S8x16384, .i1⟩ : BufTy).Contents (Elt F) → (⟨S8x1x16384, .i1⟩ : BufTy).Contents (Elt F))
  , StableHlo.unary main_v51 main_v52 (broadcastInDim S8x32x16384 ![0, 1, 2] bcast_S8x1x16384_S8x32x16384_0_1_2 : (⟨S8x1x16384, .i1⟩ : BufTy).Contents (Elt F) → (⟨S8x32x16384, .i1⟩ : BufTy).Contents (Elt F))
  , StableHlo.reshape main_v52 main_v53 (rfl : (.i1 : EltTy) = .i1) shapeCasts_S8x32x16384_S256x16384 ]

/-- The references they write, in order. -/
abbrev wr2 : List (Ref sig .tc) := [main_v34, main_v35, main_v36, main_v37, main_v38, main_v39, main_v40, main_v41, main_v42, main_v43, main_v44, main_v45, main_v46, main_v47, main_c_5, main_v48, main_c_6, main_v49, main_v50, main_v51, main_v52, main_v53]

theorem keep2 (V : Valuation τ sig (Elt F)) {r : Ref sig .tc} (h : r ∉ wr2) : StableHlo.after (seg2 (F := F)) V (Proc.devRef .tc r) = V (Proc.devRef .tc r) :=
  StableHlo.after_unwritten wr2 rfl h V

/-- The operations that compute the masked biased scores. -/
abbrev seg3 : List (HloOp τ sig (Elt F)) :=
  [ StableHlo.nullary main_cst_7 (constant S_ .f32 0xFF800000#32)
  , StableHlo.unary main_cst_7 main_v54 (broadcastInDim S256x16384 ![] bcast_S_S256x16384 : (⟨S_, .f32⟩ : BufTy).Contents (Elt F) → (⟨S256x16384, .f32⟩ : BufTy).Contents (Elt F))
  , StableHlo.nullary main_v55 (iotaInDim S256x16384 32 0)
  , StableHlo.nullary main_c_8 (constantI S_ 32 256#32)
  , StableHlo.unary main_c_8 main_v56 (broadcastInDim S256x16384 ![] bcast_S_S256x16384 : (⟨S_, .i32⟩ : BufTy).Contents (Elt F) → (⟨S256x16384, .i32⟩ : BufTy).Contents (Elt F))
  , StableHlo.nullary main_cst_9 (constant S_ .f32 0x00000000#32)
  , StableHlo.unary main_cst_9 main_v57 (broadcastInDim S256x16384 ![] bcast_S_S256x16384 : (⟨S_, .f32⟩ : BufTy).Contents (Elt F) → (⟨S256x16384, .f32⟩ : BufTy).Contents (Elt F))
  , StableHlo.ternary main_v53 main_v19 main_v54 main_v58 (select : (⟨S256x16384, .i1⟩ : BufTy).Contents (Elt F) → (⟨S256x16384, .f32⟩ : BufTy).Contents (Elt F) → (⟨S256x16384, .f32⟩ : BufTy).Contents (Elt F) → (⟨S256x16384, .f32⟩ : BufTy).Contents (Elt F)) ]

/-- The references they write, in order. -/
abbrev wr3 : List (Ref sig .tc) := [main_cst_7, main_v54, main_v55, main_c_8, main_v56, main_cst_9, main_v57, main_v58]

theorem keep3 (V : Valuation τ sig (Elt F)) {r : Ref sig .tc} (h : r ∉ wr3) : StableHlo.after (seg3 (F := F)) V (Proc.devRef .tc r) = V (Proc.devRef .tc r) :=
  StableHlo.after_unwritten wr3 rfl h V

/-- The operations that compute the first pick. -/
abbrev seg4 : List (HloOp τ sig (Elt F)) :=
  [ StableHlo.nullary main_cst_10 (constant S_ .f32 0xFF800000#32)
  , StableHlo.binary main_v58 main_cst_10 main_v59 ((fun x v => Host.reduce FloatOps.maximumf x v reducesTo_S256x16384_S16384_d0 h_S_) : (⟨S256x16384, .f32⟩ : BufTy).Contents (Elt F) → (⟨S_, .f32⟩ : BufTy).Contents (Elt F) → (⟨S16384, .f32⟩ : BufTy).Contents (Elt F))
  , StableHlo.unary main_v59 main_v60 (broadcastInDim S1x16384 ![1] bcast_S16384_S1x16384_1 : (⟨S16384, .f32⟩ : BufTy).Contents (Elt F) → (⟨S1x16384, .f32⟩ : BufTy).Contents (Elt F))
  , StableHlo.unary main_v60 main_v61 (broadcastInDim S256x16384 ![0, 1] bcast_S1x16384_S256x16384_0_1 : (⟨S1x16384, .f32⟩ : BufTy).Contents (Elt F) → (⟨S256x16384, .f32⟩ : BufTy).Contents (Elt F))
  , StableHlo.binary main_v58 main_v61 main_v62 (cmpf .oeq : (⟨S256x16384, .f32⟩ : BufTy).Contents (Elt F) → (⟨S256x16384, .f32⟩ : BufTy).Contents (Elt F) → (⟨S256x16384, .i1⟩ : BufTy).Contents (Elt F))
  , StableHlo.ternary main_v62 main_v55 main_v56 main_v63 (select : (⟨S256x16384, .i1⟩ : BufTy).Contents (Elt F) → (⟨S256x16384, .i32⟩ : BufTy).Contents (Elt F) → (⟨S256x16384, .i32⟩ : BufTy).Contents (Elt F) → (⟨S256x16384, .i32⟩ : BufTy).Contents (Elt F))
  , StableHlo.nullary main_c_11 (constantI S_ 32 2147483647#32)
  , StableHlo.binary main_v63 main_c_11 main_v64 ((fun x v => Host.reduce IntOp.minsi x v reducesTo_S256x16384_S16384_d0 h_S_) : (⟨S256x16384, .i32⟩ : BufTy).Contents (Elt F) → (⟨S_, .i32⟩ : BufTy).Contents (Elt F) → (⟨S16384, .i32⟩ : BufTy).Contents (Elt F))
  , StableHlo.unary main_v64 main_v65 (broadcastInDim S1x16384 ![1] bcast_S16384_S1x16384_1 : (⟨S16384, .i32⟩ : BufTy).Contents (Elt F) → (⟨S1x16384, .i32⟩ : BufTy).Contents (Elt F))
  , StableHlo.unary main_v65 main_v66 (broadcastInDim S256x16384 ![0, 1] bcast_S1x16384_S256x16384_0_1 : (⟨S1x16384, .i32⟩ : BufTy).Contents (Elt F) → (⟨S256x16384, .i32⟩ : BufTy).Contents (Elt F))
  , StableHlo.binary main_v55 main_v66 main_v67 (cmpi .eq : (⟨S256x16384, .i32⟩ : BufTy).Contents (Elt F) → (⟨S256x16384, .i32⟩ : BufTy).Contents (Elt F) → (⟨S256x16384, .i1⟩ : BufTy).Contents (Elt F))
  , StableHlo.ternary main_v67 main_v16 main_v57 main_v68 (select : (⟨S256x16384, .i1⟩ : BufTy).Contents (Elt F) → (⟨S256x16384, .f32⟩ : BufTy).Contents (Elt F) → (⟨S256x16384, .f32⟩ : BufTy).Contents (Elt F) → (⟨S256x16384, .f32⟩ : BufTy).Contents (Elt F))
  , StableHlo.nullary main_cst_12 (constant S_ .f32 0x00000000#32)
  , StableHlo.binary main_v68 main_cst_12 main_v69 ((fun x v => Host.reduceAdd x v reducesTo_S256x16384_S16384_d0 h_S_) : (⟨S256x16384, .f32⟩ : BufTy).Contents (Elt F) → (⟨S_, .f32⟩ : BufTy).Contents (Elt F) → (⟨S16384, .f32⟩ : BufTy).Contents (Elt F))
  , StableHlo.unary main_v59 main_v70 (broadcastInDim S1x16384 ![1] bcast_S16384_S1x16384_1 : (⟨S16384, .f32⟩ : BufTy).Contents (Elt F) → (⟨S1x16384, .f32⟩ : BufTy).Contents (Elt F))
  , StableHlo.unary main_v70 main_v71 (broadcastInDim S256x16384 ![0, 1] bcast_S1x16384_S256x16384_0_1 : (⟨S1x16384, .f32⟩ : BufTy).Contents (Elt F) → (⟨S256x16384, .f32⟩ : BufTy).Contents (Elt F))
  , StableHlo.binary main_v19 main_v71 main_v72 (cmpf .oeq : (⟨S256x16384, .f32⟩ : BufTy).Contents (Elt F) → (⟨S256x16384, .f32⟩ : BufTy).Contents (Elt F) → (⟨S256x16384, .i1⟩ : BufTy).Contents (Elt F))
  , StableHlo.binary main_v53 main_v72 main_v73 (andi : (⟨S256x16384, .i1⟩ : BufTy).Contents (Elt F) → (⟨S256x16384, .i1⟩ : BufTy).Contents (Elt F) → (⟨S256x16384, .i1⟩ : BufTy).Contents (Elt F))
  , StableHlo.ternary main_v73 main_v55 main_v56 main_v74 (select : (⟨S256x16384, .i1⟩ : BufTy).Contents (Elt F) → (⟨S256x16384, .i32⟩ : BufTy).Contents (Elt F) → (⟨S256x16384, .i32⟩ : BufTy).Contents (Elt F) → (⟨S256x16384, .i32⟩ : BufTy).Contents (Elt F))
  , StableHlo.nullary main_c_13 (constantI S_ 32 2147483647#32)
  , StableHlo.binary main_v74 main_c_13 main_v75 ((fun x v => Host.reduce IntOp.minsi x v reducesTo_S256x16384_S16384_d0 h_S_) : (⟨S256x16384, .i32⟩ : BufTy).Contents (Elt F) → (⟨S_, .i32⟩ : BufTy).Contents (Elt F) → (⟨S16384, .i32⟩ : BufTy).Contents (Elt F))
  , StableHlo.unary main_v75 main_v76 (broadcastInDim S1x16384 ![1] bcast_S16384_S1x16384_1 : (⟨S16384, .i32⟩ : BufTy).Contents (Elt F) → (⟨S1x16384, .i32⟩ : BufTy).Contents (Elt F))
  , StableHlo.unary main_v76 main_v77 (broadcastInDim S256x16384 ![0, 1] bcast_S1x16384_S256x16384_0_1 : (⟨S1x16384, .i32⟩ : BufTy).Contents (Elt F) → (⟨S256x16384, .i32⟩ : BufTy).Contents (Elt F))
  , StableHlo.binary main_v55 main_v77 main_v78 (cmpi .eq : (⟨S256x16384, .i32⟩ : BufTy).Contents (Elt F) → (⟨S256x16384, .i32⟩ : BufTy).Contents (Elt F) → (⟨S256x16384, .i1⟩ : BufTy).Contents (Elt F))
  , StableHlo.ternary main_v78 main_v16 main_v57 main_v79 (select : (⟨S256x16384, .i1⟩ : BufTy).Contents (Elt F) → (⟨S256x16384, .f32⟩ : BufTy).Contents (Elt F) → (⟨S256x16384, .f32⟩ : BufTy).Contents (Elt F) → (⟨S256x16384, .f32⟩ : BufTy).Contents (Elt F))
  , StableHlo.nullary main_cst_14 (constant S_ .f32 0x00000000#32)
  , StableHlo.binary main_v79 main_cst_14 main_v80 ((fun x v => Host.reduceAdd x v reducesTo_S256x16384_S16384_d0 h_S_) : (⟨S256x16384, .f32⟩ : BufTy).Contents (Elt F) → (⟨S_, .f32⟩ : BufTy).Contents (Elt F) → (⟨S16384, .f32⟩ : BufTy).Contents (Elt F))
  , StableHlo.unary main_v64 main_v81 (broadcastInDim S1x16384 ![1] bcast_S16384_S1x16384_1 : (⟨S16384, .i32⟩ : BufTy).Contents (Elt F) → (⟨S1x16384, .i32⟩ : BufTy).Contents (Elt F))
  , StableHlo.unary main_v81 main_v82 (broadcastInDim S256x16384 ![0, 1] bcast_S1x16384_S256x16384_0_1 : (⟨S1x16384, .i32⟩ : BufTy).Contents (Elt F) → (⟨S256x16384, .i32⟩ : BufTy).Contents (Elt F))
  , StableHlo.binary main_v55 main_v82 main_v83 (cmpi .eq : (⟨S256x16384, .i32⟩ : BufTy).Contents (Elt F) → (⟨S256x16384, .i32⟩ : BufTy).Contents (Elt F) → (⟨S256x16384, .i1⟩ : BufTy).Contents (Elt F))
  , StableHlo.ternary main_v83 main_v54 main_v58 main_v84 (select : (⟨S256x16384, .i1⟩ : BufTy).Contents (Elt F) → (⟨S256x16384, .f32⟩ : BufTy).Contents (Elt F) → (⟨S256x16384, .f32⟩ : BufTy).Contents (Elt F) → (⟨S256x16384, .f32⟩ : BufTy).Contents (Elt F)) ]

/-- The references they write, in order. -/
abbrev wr4 : List (Ref sig .tc) := [main_cst_10, main_v59, main_v60, main_v61, main_v62, main_v63, main_c_11, main_v64, main_v65, main_v66, main_v67, main_v68, main_cst_12, main_v69, main_v70, main_v71, main_v72, main_v73, main_v74, main_c_13, main_v75, main_v76, main_v77, main_v78, main_v79, main_cst_14, main_v80, main_v81, main_v82, main_v83, main_v84]

theorem keep4 (V : Valuation τ sig (Elt F)) {r : Ref sig .tc} (h : r ∉ wr4) : StableHlo.after (seg4 (F := F)) V (Proc.devRef .tc r) = V (Proc.devRef .tc r) :=
  StableHlo.after_unwritten wr4 rfl h V

/-- The operations that compute the second pick. -/
abbrev seg5 : List (HloOp τ sig (Elt F)) :=
  [ StableHlo.nullary main_cst_15 (constant S_ .f32 0xFF800000#32)
  , StableHlo.binary main_v84 main_cst_15 main_v85 ((fun x v => Host.reduce FloatOps.maximumf x v reducesTo_S256x16384_S16384_d0 h_S_) : (⟨S256x16384, .f32⟩ : BufTy).Contents (Elt F) → (⟨S_, .f32⟩ : BufTy).Contents (Elt F) → (⟨S16384, .f32⟩ : BufTy).Contents (Elt F))
  , StableHlo.unary main_v85 main_v86 (broadcastInDim S1x16384 ![1] bcast_S16384_S1x16384_1 : (⟨S16384, .f32⟩ : BufTy).Contents (Elt F) → (⟨S1x16384, .f32⟩ : BufTy).Contents (Elt F))
  , StableHlo.unary main_v86 main_v87 (broadcastInDim S256x16384 ![0, 1] bcast_S1x16384_S256x16384_0_1 : (⟨S1x16384, .f32⟩ : BufTy).Contents (Elt F) → (⟨S256x16384, .f32⟩ : BufTy).Contents (Elt F))
  , StableHlo.binary main_v84 main_v87 main_v88 (cmpf .oeq : (⟨S256x16384, .f32⟩ : BufTy).Contents (Elt F) → (⟨S256x16384, .f32⟩ : BufTy).Contents (Elt F) → (⟨S256x16384, .i1⟩ : BufTy).Contents (Elt F))
  , StableHlo.ternary main_v88 main_v55 main_v56 main_v89 (select : (⟨S256x16384, .i1⟩ : BufTy).Contents (Elt F) → (⟨S256x16384, .i32⟩ : BufTy).Contents (Elt F) → (⟨S256x16384, .i32⟩ : BufTy).Contents (Elt F) → (⟨S256x16384, .i32⟩ : BufTy).Contents (Elt F))
  , StableHlo.nullary main_c_16 (constantI S_ 32 2147483647#32)
  , StableHlo.binary main_v89 main_c_16 main_v90 ((fun x v => Host.reduce IntOp.minsi x v reducesTo_S256x16384_S16384_d0 h_S_) : (⟨S256x16384, .i32⟩ : BufTy).Contents (Elt F) → (⟨S_, .i32⟩ : BufTy).Contents (Elt F) → (⟨S16384, .i32⟩ : BufTy).Contents (Elt F))
  , StableHlo.unary main_v90 main_v91 (broadcastInDim S1x16384 ![1] bcast_S16384_S1x16384_1 : (⟨S16384, .i32⟩ : BufTy).Contents (Elt F) → (⟨S1x16384, .i32⟩ : BufTy).Contents (Elt F))
  , StableHlo.unary main_v91 main_v92 (broadcastInDim S256x16384 ![0, 1] bcast_S1x16384_S256x16384_0_1 : (⟨S1x16384, .i32⟩ : BufTy).Contents (Elt F) → (⟨S256x16384, .i32⟩ : BufTy).Contents (Elt F))
  , StableHlo.binary main_v55 main_v92 main_v93 (cmpi .eq : (⟨S256x16384, .i32⟩ : BufTy).Contents (Elt F) → (⟨S256x16384, .i32⟩ : BufTy).Contents (Elt F) → (⟨S256x16384, .i1⟩ : BufTy).Contents (Elt F))
  , StableHlo.ternary main_v93 main_v16 main_v57 main_v94 (select : (⟨S256x16384, .i1⟩ : BufTy).Contents (Elt F) → (⟨S256x16384, .f32⟩ : BufTy).Contents (Elt F) → (⟨S256x16384, .f32⟩ : BufTy).Contents (Elt F) → (⟨S256x16384, .f32⟩ : BufTy).Contents (Elt F))
  , StableHlo.nullary main_cst_17 (constant S_ .f32 0x00000000#32)
  , StableHlo.binary main_v94 main_cst_17 main_v95 ((fun x v => Host.reduceAdd x v reducesTo_S256x16384_S16384_d0 h_S_) : (⟨S256x16384, .f32⟩ : BufTy).Contents (Elt F) → (⟨S_, .f32⟩ : BufTy).Contents (Elt F) → (⟨S16384, .f32⟩ : BufTy).Contents (Elt F))
  , StableHlo.unary main_v85 main_v96 (broadcastInDim S1x16384 ![1] bcast_S16384_S1x16384_1 : (⟨S16384, .f32⟩ : BufTy).Contents (Elt F) → (⟨S1x16384, .f32⟩ : BufTy).Contents (Elt F))
  , StableHlo.unary main_v96 main_v97 (broadcastInDim S256x16384 ![0, 1] bcast_S1x16384_S256x16384_0_1 : (⟨S1x16384, .f32⟩ : BufTy).Contents (Elt F) → (⟨S256x16384, .f32⟩ : BufTy).Contents (Elt F))
  , StableHlo.binary main_v19 main_v97 main_v98 (cmpf .oeq : (⟨S256x16384, .f32⟩ : BufTy).Contents (Elt F) → (⟨S256x16384, .f32⟩ : BufTy).Contents (Elt F) → (⟨S256x16384, .i1⟩ : BufTy).Contents (Elt F))
  , StableHlo.binary main_v53 main_v98 main_v99 (andi : (⟨S256x16384, .i1⟩ : BufTy).Contents (Elt F) → (⟨S256x16384, .i1⟩ : BufTy).Contents (Elt F) → (⟨S256x16384, .i1⟩ : BufTy).Contents (Elt F))
  , StableHlo.ternary main_v99 main_v55 main_v56 main_v100 (select : (⟨S256x16384, .i1⟩ : BufTy).Contents (Elt F) → (⟨S256x16384, .i32⟩ : BufTy).Contents (Elt F) → (⟨S256x16384, .i32⟩ : BufTy).Contents (Elt F) → (⟨S256x16384, .i32⟩ : BufTy).Contents (Elt F))
  , StableHlo.nullary main_c_18 (constantI S_ 32 2147483647#32)
  , StableHlo.binary main_v100 main_c_18 main_v101 ((fun x v => Host.reduce IntOp.minsi x v reducesTo_S256x16384_S16384_d0 h_S_) : (⟨S256x16384, .i32⟩ : BufTy).Contents (Elt F) → (⟨S_, .i32⟩ : BufTy).Contents (Elt F) → (⟨S16384, .i32⟩ : BufTy).Contents (Elt F))
  , StableHlo.unary main_v101 main_v102 (broadcastInDim S1x16384 ![1] bcast_S16384_S1x16384_1 : (⟨S16384, .i32⟩ : BufTy).Contents (Elt F) → (⟨S1x16384, .i32⟩ : BufTy).Contents (Elt F))
  , StableHlo.unary main_v102 main_v103 (broadcastInDim S256x16384 ![0, 1] bcast_S1x16384_S256x16384_0_1 : (⟨S1x16384, .i32⟩ : BufTy).Contents (Elt F) → (⟨S256x16384, .i32⟩ : BufTy).Contents (Elt F))
  , StableHlo.binary main_v55 main_v103 main_v104 (cmpi .eq : (⟨S256x16384, .i32⟩ : BufTy).Contents (Elt F) → (⟨S256x16384, .i32⟩ : BufTy).Contents (Elt F) → (⟨S256x16384, .i1⟩ : BufTy).Contents (Elt F))
  , StableHlo.ternary main_v104 main_v16 main_v57 main_v105 (select : (⟨S256x16384, .i1⟩ : BufTy).Contents (Elt F) → (⟨S256x16384, .f32⟩ : BufTy).Contents (Elt F) → (⟨S256x16384, .f32⟩ : BufTy).Contents (Elt F) → (⟨S256x16384, .f32⟩ : BufTy).Contents (Elt F))
  , StableHlo.nullary main_cst_19 (constant S_ .f32 0x00000000#32)
  , StableHlo.binary main_v105 main_cst_19 main_v106 ((fun x v => Host.reduceAdd x v reducesTo_S256x16384_S16384_d0 h_S_) : (⟨S256x16384, .f32⟩ : BufTy).Contents (Elt F) → (⟨S_, .f32⟩ : BufTy).Contents (Elt F) → (⟨S16384, .f32⟩ : BufTy).Contents (Elt F))
  , StableHlo.unary main_v90 main_v107 (broadcastInDim S1x16384 ![1] bcast_S16384_S1x16384_1 : (⟨S16384, .i32⟩ : BufTy).Contents (Elt F) → (⟨S1x16384, .i32⟩ : BufTy).Contents (Elt F))
  , StableHlo.unary main_v107 main_v108 (broadcastInDim S256x16384 ![0, 1] bcast_S1x16384_S256x16384_0_1 : (⟨S1x16384, .i32⟩ : BufTy).Contents (Elt F) → (⟨S256x16384, .i32⟩ : BufTy).Contents (Elt F))
  , StableHlo.binary main_v55 main_v108 main_v109 (cmpi .eq : (⟨S256x16384, .i32⟩ : BufTy).Contents (Elt F) → (⟨S256x16384, .i32⟩ : BufTy).Contents (Elt F) → (⟨S256x16384, .i1⟩ : BufTy).Contents (Elt F))
  , StableHlo.ternary main_v109 main_v54 main_v84 main_v110 (select : (⟨S256x16384, .i1⟩ : BufTy).Contents (Elt F) → (⟨S256x16384, .f32⟩ : BufTy).Contents (Elt F) → (⟨S256x16384, .f32⟩ : BufTy).Contents (Elt F) → (⟨S256x16384, .f32⟩ : BufTy).Contents (Elt F)) ]

/-- The references they write, in order. -/
abbrev wr5 : List (Ref sig .tc) := [main_cst_15, main_v85, main_v86, main_v87, main_v88, main_v89, main_c_16, main_v90, main_v91, main_v92, main_v93, main_v94, main_cst_17, main_v95, main_v96, main_v97, main_v98, main_v99, main_v100, main_c_18, main_v101, main_v102, main_v103, main_v104, main_v105, main_cst_19, main_v106, main_v107, main_v108, main_v109, main_v110]

theorem keep5 (V : Valuation τ sig (Elt F)) {r : Ref sig .tc} (h : r ∉ wr5) : StableHlo.after (seg5 (F := F)) V (Proc.devRef .tc r) = V (Proc.devRef .tc r) :=
  StableHlo.after_unwritten wr5 rfl h V

/-- The operations that compute the third pick. -/
abbrev seg6 : List (HloOp τ sig (Elt F)) :=
  [ StableHlo.nullary main_cst_20 (constant S_ .f32 0xFF800000#32)
  , StableHlo.binary main_v110 main_cst_20 main_v111 ((fun x v => Host.reduce FloatOps.maximumf x v reducesTo_S256x16384_S16384_d0 h_S_) : (⟨S256x16384, .f32⟩ : BufTy).Contents (Elt F) → (⟨S_, .f32⟩ : BufTy).Contents (Elt F) → (⟨S16384, .f32⟩ : BufTy).Contents (Elt F))
  , StableHlo.unary main_v111 main_v112 (broadcastInDim S1x16384 ![1] bcast_S16384_S1x16384_1 : (⟨S16384, .f32⟩ : BufTy).Contents (Elt F) → (⟨S1x16384, .f32⟩ : BufTy).Contents (Elt F))
  , StableHlo.unary main_v112 main_v113 (broadcastInDim S256x16384 ![0, 1] bcast_S1x16384_S256x16384_0_1 : (⟨S1x16384, .f32⟩ : BufTy).Contents (Elt F) → (⟨S256x16384, .f32⟩ : BufTy).Contents (Elt F))
  , StableHlo.binary main_v110 main_v113 main_v114 (cmpf .oeq : (⟨S256x16384, .f32⟩ : BufTy).Contents (Elt F) → (⟨S256x16384, .f32⟩ : BufTy).Contents (Elt F) → (⟨S256x16384, .i1⟩ : BufTy).Contents (Elt F))
  , StableHlo.ternary main_v114 main_v55 main_v56 main_v115 (select : (⟨S256x16384, .i1⟩ : BufTy).Contents (Elt F) → (⟨S256x16384, .i32⟩ : BufTy).Contents (Elt F) → (⟨S256x16384, .i32⟩ : BufTy).Contents (Elt F) → (⟨S256x16384, .i32⟩ : BufTy).Contents (Elt F))
  , StableHlo.nullary main_c_21 (constantI S_ 32 2147483647#32)
  , StableHlo.binary main_v115 main_c_21 main_v116 ((fun x v => Host.reduce IntOp.minsi x v reducesTo_S256x16384_S16384_d0 h_S_) : (⟨S256x16384, .i32⟩ : BufTy).Contents (Elt F) → (⟨S_, .i32⟩ : BufTy).Contents (Elt F) → (⟨S16384, .i32⟩ : BufTy).Contents (Elt F))
  , StableHlo.unary main_v116 main_v117 (broadcastInDim S1x16384 ![1] bcast_S16384_S1x16384_1 : (⟨S16384, .i32⟩ : BufTy).Contents (Elt F) → (⟨S1x16384, .i32⟩ : BufTy).Contents (Elt F))
  , StableHlo.unary main_v117 main_v118 (broadcastInDim S256x16384 ![0, 1] bcast_S1x16384_S256x16384_0_1 : (⟨S1x16384, .i32⟩ : BufTy).Contents (Elt F) → (⟨S256x16384, .i32⟩ : BufTy).Contents (Elt F))
  , StableHlo.binary main_v55 main_v118 main_v119 (cmpi .eq : (⟨S256x16384, .i32⟩ : BufTy).Contents (Elt F) → (⟨S256x16384, .i32⟩ : BufTy).Contents (Elt F) → (⟨S256x16384, .i1⟩ : BufTy).Contents (Elt F))
  , StableHlo.ternary main_v119 main_v16 main_v57 main_v120 (select : (⟨S256x16384, .i1⟩ : BufTy).Contents (Elt F) → (⟨S256x16384, .f32⟩ : BufTy).Contents (Elt F) → (⟨S256x16384, .f32⟩ : BufTy).Contents (Elt F) → (⟨S256x16384, .f32⟩ : BufTy).Contents (Elt F))
  , StableHlo.nullary main_cst_22 (constant S_ .f32 0x00000000#32)
  , StableHlo.binary main_v120 main_cst_22 main_v121 ((fun x v => Host.reduceAdd x v reducesTo_S256x16384_S16384_d0 h_S_) : (⟨S256x16384, .f32⟩ : BufTy).Contents (Elt F) → (⟨S_, .f32⟩ : BufTy).Contents (Elt F) → (⟨S16384, .f32⟩ : BufTy).Contents (Elt F))
  , StableHlo.unary main_v111 main_v122 (broadcastInDim S1x16384 ![1] bcast_S16384_S1x16384_1 : (⟨S16384, .f32⟩ : BufTy).Contents (Elt F) → (⟨S1x16384, .f32⟩ : BufTy).Contents (Elt F))
  , StableHlo.unary main_v122 main_v123 (broadcastInDim S256x16384 ![0, 1] bcast_S1x16384_S256x16384_0_1 : (⟨S1x16384, .f32⟩ : BufTy).Contents (Elt F) → (⟨S256x16384, .f32⟩ : BufTy).Contents (Elt F))
  , StableHlo.binary main_v19 main_v123 main_v124 (cmpf .oeq : (⟨S256x16384, .f32⟩ : BufTy).Contents (Elt F) → (⟨S256x16384, .f32⟩ : BufTy).Contents (Elt F) → (⟨S256x16384, .i1⟩ : BufTy).Contents (Elt F))
  , StableHlo.binary main_v53 main_v124 main_v125 (andi : (⟨S256x16384, .i1⟩ : BufTy).Contents (Elt F) → (⟨S256x16384, .i1⟩ : BufTy).Contents (Elt F) → (⟨S256x16384, .i1⟩ : BufTy).Contents (Elt F))
  , StableHlo.ternary main_v125 main_v55 main_v56 main_v126 (select : (⟨S256x16384, .i1⟩ : BufTy).Contents (Elt F) → (⟨S256x16384, .i32⟩ : BufTy).Contents (Elt F) → (⟨S256x16384, .i32⟩ : BufTy).Contents (Elt F) → (⟨S256x16384, .i32⟩ : BufTy).Contents (Elt F))
  , StableHlo.nullary main_c_23 (constantI S_ 32 2147483647#32)
  , StableHlo.binary main_v126 main_c_23 main_v127 ((fun x v => Host.reduce IntOp.minsi x v reducesTo_S256x16384_S16384_d0 h_S_) : (⟨S256x16384, .i32⟩ : BufTy).Contents (Elt F) → (⟨S_, .i32⟩ : BufTy).Contents (Elt F) → (⟨S16384, .i32⟩ : BufTy).Contents (Elt F))
  , StableHlo.unary main_v127 main_v128 (broadcastInDim S1x16384 ![1] bcast_S16384_S1x16384_1 : (⟨S16384, .i32⟩ : BufTy).Contents (Elt F) → (⟨S1x16384, .i32⟩ : BufTy).Contents (Elt F))
  , StableHlo.unary main_v128 main_v129 (broadcastInDim S256x16384 ![0, 1] bcast_S1x16384_S256x16384_0_1 : (⟨S1x16384, .i32⟩ : BufTy).Contents (Elt F) → (⟨S256x16384, .i32⟩ : BufTy).Contents (Elt F))
  , StableHlo.binary main_v55 main_v129 main_v130 (cmpi .eq : (⟨S256x16384, .i32⟩ : BufTy).Contents (Elt F) → (⟨S256x16384, .i32⟩ : BufTy).Contents (Elt F) → (⟨S256x16384, .i1⟩ : BufTy).Contents (Elt F))
  , StableHlo.ternary main_v130 main_v16 main_v57 main_v131 (select : (⟨S256x16384, .i1⟩ : BufTy).Contents (Elt F) → (⟨S256x16384, .f32⟩ : BufTy).Contents (Elt F) → (⟨S256x16384, .f32⟩ : BufTy).Contents (Elt F) → (⟨S256x16384, .f32⟩ : BufTy).Contents (Elt F))
  , StableHlo.nullary main_cst_24 (constant S_ .f32 0x00000000#32)
  , StableHlo.binary main_v131 main_cst_24 main_v132 ((fun x v => Host.reduceAdd x v reducesTo_S256x16384_S16384_d0 h_S_) : (⟨S256x16384, .f32⟩ : BufTy).Contents (Elt F) → (⟨S_, .f32⟩ : BufTy).Contents (Elt F) → (⟨S16384, .f32⟩ : BufTy).Contents (Elt F))
  , StableHlo.unary main_v116 main_v133 (broadcastInDim S1x16384 ![1] bcast_S16384_S1x16384_1 : (⟨S16384, .i32⟩ : BufTy).Contents (Elt F) → (⟨S1x16384, .i32⟩ : BufTy).Contents (Elt F))
  , StableHlo.unary main_v133 main_v134 (broadcastInDim S256x16384 ![0, 1] bcast_S1x16384_S256x16384_0_1 : (⟨S1x16384, .i32⟩ : BufTy).Contents (Elt F) → (⟨S256x16384, .i32⟩ : BufTy).Contents (Elt F))
  , StableHlo.binary main_v55 main_v134 main_v135 (cmpi .eq : (⟨S256x16384, .i32⟩ : BufTy).Contents (Elt F) → (⟨S256x16384, .i32⟩ : BufTy).Contents (Elt F) → (⟨S256x16384, .i1⟩ : BufTy).Contents (Elt F))
  , StableHlo.ternary main_v135 main_v54 main_v110 main_v136 (select : (⟨S256x16384, .i1⟩ : BufTy).Contents (Elt F) → (⟨S256x16384, .f32⟩ : BufTy).Contents (Elt F) → (⟨S256x16384, .f32⟩ : BufTy).Contents (Elt F) → (⟨S256x16384, .f32⟩ : BufTy).Contents (Elt F)) ]

/-- The references they write, in order. -/
abbrev wr6 : List (Ref sig .tc) := [main_cst_20, main_v111, main_v112, main_v113, main_v114, main_v115, main_c_21, main_v116, main_v117, main_v118, main_v119, main_v120, main_cst_22, main_v121, main_v122, main_v123, main_v124, main_v125, main_v126, main_c_23, main_v127, main_v128, main_v129, main_v130, main_v131, main_cst_24, main_v132, main_v133, main_v134, main_v135, main_v136]

theorem keep6 (V : Valuation τ sig (Elt F)) {r : Ref sig .tc} (h : r ∉ wr6) : StableHlo.after (seg6 (F := F)) V (Proc.devRef .tc r) = V (Proc.devRef .tc r) :=
  StableHlo.after_unwritten wr6 rfl h V

/-- The operations that compute the fourth pick. -/
abbrev seg7 : List (HloOp τ sig (Elt F)) :=
  [ StableHlo.nullary main_cst_25 (constant S_ .f32 0xFF800000#32)
  , StableHlo.binary main_v136 main_cst_25 main_v137 ((fun x v => Host.reduce FloatOps.maximumf x v reducesTo_S256x16384_S16384_d0 h_S_) : (⟨S256x16384, .f32⟩ : BufTy).Contents (Elt F) → (⟨S_, .f32⟩ : BufTy).Contents (Elt F) → (⟨S16384, .f32⟩ : BufTy).Contents (Elt F))
  , StableHlo.unary main_v137 main_v138 (broadcastInDim S1x16384 ![1] bcast_S16384_S1x16384_1 : (⟨S16384, .f32⟩ : BufTy).Contents (Elt F) → (⟨S1x16384, .f32⟩ : BufTy).Contents (Elt F))
  , StableHlo.unary main_v138 main_v139 (broadcastInDim S256x16384 ![0, 1] bcast_S1x16384_S256x16384_0_1 : (⟨S1x16384, .f32⟩ : BufTy).Contents (Elt F) → (⟨S256x16384, .f32⟩ : BufTy).Contents (Elt F))
  , StableHlo.binary main_v136 main_v139 main_v140 (cmpf .oeq : (⟨S256x16384, .f32⟩ : BufTy).Contents (Elt F) → (⟨S256x16384, .f32⟩ : BufTy).Contents (Elt F) → (⟨S256x16384, .i1⟩ : BufTy).Contents (Elt F))
  , StableHlo.ternary main_v140 main_v55 main_v56 main_v141 (select : (⟨S256x16384, .i1⟩ : BufTy).Contents (Elt F) → (⟨S256x16384, .i32⟩ : BufTy).Contents (Elt F) → (⟨S256x16384, .i32⟩ : BufTy).Contents (Elt F) → (⟨S256x16384, .i32⟩ : BufTy).Contents (Elt F))
  , StableHlo.nullary main_c_26 (constantI S_ 32 2147483647#32)
  , StableHlo.binary main_v141 main_c_26 main_v142 ((fun x v => Host.reduce IntOp.minsi x v reducesTo_S256x16384_S16384_d0 h_S_) : (⟨S256x16384, .i32⟩ : BufTy).Contents (Elt F) → (⟨S_, .i32⟩ : BufTy).Contents (Elt F) → (⟨S16384, .i32⟩ : BufTy).Contents (Elt F))
  , StableHlo.unary main_v142 main_v143 (broadcastInDim S1x16384 ![1] bcast_S16384_S1x16384_1 : (⟨S16384, .i32⟩ : BufTy).Contents (Elt F) → (⟨S1x16384, .i32⟩ : BufTy).Contents (Elt F))
  , StableHlo.unary main_v143 main_v144 (broadcastInDim S256x16384 ![0, 1] bcast_S1x16384_S256x16384_0_1 : (⟨S1x16384, .i32⟩ : BufTy).Contents (Elt F) → (⟨S256x16384, .i32⟩ : BufTy).Contents (Elt F))
  , StableHlo.binary main_v55 main_v144 main_v145 (cmpi .eq : (⟨S256x16384, .i32⟩ : BufTy).Contents (Elt F) → (⟨S256x16384, .i32⟩ : BufTy).Contents (Elt F) → (⟨S256x16384, .i1⟩ : BufTy).Contents (Elt F))
  , StableHlo.ternary main_v145 main_v16 main_v57 main_v146 (select : (⟨S256x16384, .i1⟩ : BufTy).Contents (Elt F) → (⟨S256x16384, .f32⟩ : BufTy).Contents (Elt F) → (⟨S256x16384, .f32⟩ : BufTy).Contents (Elt F) → (⟨S256x16384, .f32⟩ : BufTy).Contents (Elt F))
  , StableHlo.nullary main_cst_27 (constant S_ .f32 0x00000000#32)
  , StableHlo.binary main_v146 main_cst_27 main_v147 ((fun x v => Host.reduceAdd x v reducesTo_S256x16384_S16384_d0 h_S_) : (⟨S256x16384, .f32⟩ : BufTy).Contents (Elt F) → (⟨S_, .f32⟩ : BufTy).Contents (Elt F) → (⟨S16384, .f32⟩ : BufTy).Contents (Elt F))
  , StableHlo.unary main_v137 main_v148 (broadcastInDim S1x16384 ![1] bcast_S16384_S1x16384_1 : (⟨S16384, .f32⟩ : BufTy).Contents (Elt F) → (⟨S1x16384, .f32⟩ : BufTy).Contents (Elt F))
  , StableHlo.unary main_v148 main_v149 (broadcastInDim S256x16384 ![0, 1] bcast_S1x16384_S256x16384_0_1 : (⟨S1x16384, .f32⟩ : BufTy).Contents (Elt F) → (⟨S256x16384, .f32⟩ : BufTy).Contents (Elt F))
  , StableHlo.binary main_v19 main_v149 main_v150 (cmpf .oeq : (⟨S256x16384, .f32⟩ : BufTy).Contents (Elt F) → (⟨S256x16384, .f32⟩ : BufTy).Contents (Elt F) → (⟨S256x16384, .i1⟩ : BufTy).Contents (Elt F))
  , StableHlo.binary main_v53 main_v150 main_v151 (andi : (⟨S256x16384, .i1⟩ : BufTy).Contents (Elt F) → (⟨S256x16384, .i1⟩ : BufTy).Contents (Elt F) → (⟨S256x16384, .i1⟩ : BufTy).Contents (Elt F))
  , StableHlo.ternary main_v151 main_v55 main_v56 main_v152 (select : (⟨S256x16384, .i1⟩ : BufTy).Contents (Elt F) → (⟨S256x16384, .i32⟩ : BufTy).Contents (Elt F) → (⟨S256x16384, .i32⟩ : BufTy).Contents (Elt F) → (⟨S256x16384, .i32⟩ : BufTy).Contents (Elt F))
  , StableHlo.nullary main_c_28 (constantI S_ 32 2147483647#32)
  , StableHlo.binary main_v152 main_c_28 main_v153 ((fun x v => Host.reduce IntOp.minsi x v reducesTo_S256x16384_S16384_d0 h_S_) : (⟨S256x16384, .i32⟩ : BufTy).Contents (Elt F) → (⟨S_, .i32⟩ : BufTy).Contents (Elt F) → (⟨S16384, .i32⟩ : BufTy).Contents (Elt F))
  , StableHlo.unary main_v153 main_v154 (broadcastInDim S1x16384 ![1] bcast_S16384_S1x16384_1 : (⟨S16384, .i32⟩ : BufTy).Contents (Elt F) → (⟨S1x16384, .i32⟩ : BufTy).Contents (Elt F))
  , StableHlo.unary main_v154 main_v155 (broadcastInDim S256x16384 ![0, 1] bcast_S1x16384_S256x16384_0_1 : (⟨S1x16384, .i32⟩ : BufTy).Contents (Elt F) → (⟨S256x16384, .i32⟩ : BufTy).Contents (Elt F))
  , StableHlo.binary main_v55 main_v155 main_v156 (cmpi .eq : (⟨S256x16384, .i32⟩ : BufTy).Contents (Elt F) → (⟨S256x16384, .i32⟩ : BufTy).Contents (Elt F) → (⟨S256x16384, .i1⟩ : BufTy).Contents (Elt F))
  , StableHlo.ternary main_v156 main_v16 main_v57 main_v157 (select : (⟨S256x16384, .i1⟩ : BufTy).Contents (Elt F) → (⟨S256x16384, .f32⟩ : BufTy).Contents (Elt F) → (⟨S256x16384, .f32⟩ : BufTy).Contents (Elt F) → (⟨S256x16384, .f32⟩ : BufTy).Contents (Elt F))
  , StableHlo.nullary main_cst_29 (constant S_ .f32 0x00000000#32)
  , StableHlo.binary main_v157 main_cst_29 main_v158 ((fun x v => Host.reduceAdd x v reducesTo_S256x16384_S16384_d0 h_S_) : (⟨S256x16384, .f32⟩ : BufTy).Contents (Elt F) → (⟨S_, .f32⟩ : BufTy).Contents (Elt F) → (⟨S16384, .f32⟩ : BufTy).Contents (Elt F))
  , StableHlo.unary main_v142 main_v159 (broadcastInDim S1x16384 ![1] bcast_S16384_S1x16384_1 : (⟨S16384, .i32⟩ : BufTy).Contents (Elt F) → (⟨S1x16384, .i32⟩ : BufTy).Contents (Elt F))
  , StableHlo.unary main_v159 main_v160 (broadcastInDim S256x16384 ![0, 1] bcast_S1x16384_S256x16384_0_1 : (⟨S1x16384, .i32⟩ : BufTy).Contents (Elt F) → (⟨S256x16384, .i32⟩ : BufTy).Contents (Elt F))
  , StableHlo.binary main_v55 main_v160 main_v161 (cmpi .eq : (⟨S256x16384, .i32⟩ : BufTy).Contents (Elt F) → (⟨S256x16384, .i32⟩ : BufTy).Contents (Elt F) → (⟨S256x16384, .i1⟩ : BufTy).Contents (Elt F))
  , StableHlo.ternary main_v161 main_v54 main_v136 main_v162 (select : (⟨S256x16384, .i1⟩ : BufTy).Contents (Elt F) → (⟨S256x16384, .f32⟩ : BufTy).Contents (Elt F) → (⟨S256x16384, .f32⟩ : BufTy).Contents (Elt F) → (⟨S256x16384, .f32⟩ : BufTy).Contents (Elt F)) ]

/-- The references they write, in order. -/
abbrev wr7 : List (Ref sig .tc) := [main_cst_25, main_v137, main_v138, main_v139, main_v140, main_v141, main_c_26, main_v142, main_v143, main_v144, main_v145, main_v146, main_cst_27, main_v147, main_v148, main_v149, main_v150, main_v151, main_v152, main_c_28, main_v153, main_v154, main_v155, main_v156, main_v157, main_cst_29, main_v158, main_v159, main_v160, main_v161, main_v162]

theorem keep7 (V : Valuation τ sig (Elt F)) {r : Ref sig .tc} (h : r ∉ wr7) : StableHlo.after (seg7 (F := F)) V (Proc.devRef .tc r) = V (Proc.devRef .tc r) :=
  StableHlo.after_unwritten wr7 rfl h V

/-- The operations that compute whether two of the four bests are equal. -/
abbrev seg8 : List (HloOp τ sig (Elt F)) :=
  [ StableHlo.binary main_v59 main_v85 main_v163 (cmpf .oeq : (⟨S16384, .f32⟩ : BufTy).Contents (Elt F) → (⟨S16384, .f32⟩ : BufTy).Contents (Elt F) → (⟨S16384, .i1⟩ : BufTy).Contents (Elt F))
  , StableHlo.binary main_v85 main_v111 main_v164 (cmpf .oeq : (⟨S16384, .f32⟩ : BufTy).Contents (Elt F) → (⟨S16384, .f32⟩ : BufTy).Contents (Elt F) → (⟨S16384, .i1⟩ : BufTy).Contents (Elt F))
  , StableHlo.binary main_v163 main_v164 main_v165 (ori : (⟨S16384, .i1⟩ : BufTy).Contents (Elt F) → (⟨S16384, .i1⟩ : BufTy).Contents (Elt F) → (⟨S16384, .i1⟩ : BufTy).Contents (Elt F))
  , StableHlo.binary main_v111 main_v137 main_v166 (cmpf .oeq : (⟨S16384, .f32⟩ : BufTy).Contents (Elt F) → (⟨S16384, .f32⟩ : BufTy).Contents (Elt F) → (⟨S16384, .i1⟩ : BufTy).Contents (Elt F))
  , StableHlo.binary main_v165 main_v166 main_v167 (ori : (⟨S16384, .i1⟩ : BufTy).Contents (Elt F) → (⟨S16384, .i1⟩ : BufTy).Contents (Elt F) → (⟨S16384, .i1⟩ : BufTy).Contents (Elt F))
  , StableHlo.nullary main_cst_30 (constant S_ .f32 0xFF800000#32)
  , StableHlo.unary main_cst_30 main_v168 (broadcastInDim S16384 ![] bcast_S_S16384 : (⟨S_, .f32⟩ : BufTy).Contents (Elt F) → (⟨S16384, .f32⟩ : BufTy).Contents (Elt F))
  , StableHlo.binary main_v137 main_v168 main_v169 (cmpf .oeq : (⟨S16384, .f32⟩ : BufTy).Contents (Elt F) → (⟨S16384, .f32⟩ : BufTy).Contents (Elt F) → (⟨S16384, .i1⟩ : BufTy).Contents (Elt F))
  , StableHlo.binary main_v167 main_v169 main_v170 (ori : (⟨S16384, .i1⟩ : BufTy).Contents (Elt F) → (⟨S16384, .i1⟩ : BufTy).Contents (Elt F) → (⟨S16384, .i1⟩ : BufTy).Contents (Elt F)) ]

/-- The references they write, in order. -/
abbrev wr8 : List (Ref sig .tc) := [main_v163, main_v164, main_v165, main_v166, main_v167, main_cst_30, main_v168, main_v169, main_v170]

theorem keep8 (V : Valuation τ sig (Elt F)) {r : Ref sig .tc} (h : r ∉ wr8) : StableHlo.after (seg8 (F := F)) V (Proc.devRef .tc r) = V (Proc.devRef .tc r) :=
  StableHlo.after_unwritten wr8 rfl h V

/-- The operations that compute the four experts and their scores, and the sum. -/
abbrev seg9 : List (HloOp τ sig (Elt F)) :=
  [ StableHlo.ternary main_v170 main_v75 main_v64 main_v171 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F))
  , StableHlo.ternary main_v170 main_v101 main_v90 main_v172 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F))
  , StableHlo.ternary main_v170 main_v127 main_v116 main_v173 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F))
  , StableHlo.ternary main_v170 main_v153 main_v142 main_v174 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F))
  , StableHlo.ternary main_v170 main_v80 main_v69 main_v175 (select : (⟨S16384, .i1⟩ : BufTy).Contents (Elt F) → (⟨S16384, .f32⟩ : BufTy).Contents (Elt F) → (⟨S16384, .f32⟩ : BufTy).Contents (Elt F) → (⟨S16384, .f32⟩ : BufTy).Contents (Elt F))
  , StableHlo.ternary main_v170 main_v106 main_v95 main_v176 (select : (⟨S16384, .i1⟩ : BufTy).Contents (Elt F) → (⟨S16384, .f32⟩ : BufTy).Contents (Elt F) → (⟨S16384, .f32⟩ : BufTy).Contents (Elt F) → (⟨S16384, .f32⟩ : BufTy).Contents (Elt F))
  , StableHlo.ternary main_v170 main_v132 main_v121 main_v177 (select : (⟨S16384, .i1⟩ : BufTy).Contents (Elt F) → (⟨S16384, .f32⟩ : BufTy).Contents (Elt F) → (⟨S16384, .f32⟩ : BufTy).Contents (Elt F) → (⟨S16384, .f32⟩ : BufTy).Contents (Elt F))
  , StableHlo.ternary main_v170 main_v158 main_v147 main_v178 (select : (⟨S16384, .i1⟩ : BufTy).Contents (Elt F) → (⟨S16384, .f32⟩ : BufTy).Contents (Elt F) → (⟨S16384, .f32⟩ : BufTy).Contents (Elt F) → (⟨S16384, .f32⟩ : BufTy).Contents (Elt F))
  , StableHlo.binary main_v175 main_v176 main_v179 (addf : (⟨S16384, .f32⟩ : BufTy).Contents (Elt F) → (⟨S16384, .f32⟩ : BufTy).Contents (Elt F) → (⟨S16384, .f32⟩ : BufTy).Contents (Elt F))
  , StableHlo.binary main_v179 main_v177 main_v180 (addf : (⟨S16384, .f32⟩ : BufTy).Contents (Elt F) → (⟨S16384, .f32⟩ : BufTy).Contents (Elt F) → (⟨S16384, .f32⟩ : BufTy).Contents (Elt F))
  , StableHlo.binary main_v180 main_v178 main_v181 (addf : (⟨S16384, .f32⟩ : BufTy).Contents (Elt F) → (⟨S16384, .f32⟩ : BufTy).Contents (Elt F) → (⟨S16384, .f32⟩ : BufTy).Contents (Elt F)) ]

/-- The references they write, in order. -/
abbrev wr9 : List (Ref sig .tc) := [main_v171, main_v172, main_v173, main_v174, main_v175, main_v176, main_v177, main_v178, main_v179, main_v180, main_v181]

theorem keep9 (V : Valuation τ sig (Elt F)) {r : Ref sig .tc} (h : r ∉ wr9) : StableHlo.after (seg9 (F := F)) V (Proc.devRef .tc r) = V (Proc.devRef .tc r) :=
  StableHlo.after_unwritten wr9 rfl h V

/-- The operations that compute the two results. -/
abbrev seg10 : List (HloOp τ sig (Elt F)) :=
  [ StableHlo.unary main_v171 main_v182 (broadcastInDim S1x16384 ![1] bcast_S16384_S1x16384_1 : (⟨S16384, .i32⟩ : BufTy).Contents (Elt F) → (⟨S1x16384, .i32⟩ : BufTy).Contents (Elt F))
  , StableHlo.unary main_v172 main_v183 (broadcastInDim S1x16384 ![1] bcast_S16384_S1x16384_1 : (⟨S16384, .i32⟩ : BufTy).Contents (Elt F) → (⟨S1x16384, .i32⟩ : BufTy).Contents (Elt F))
  , StableHlo.unary main_v173 main_v184 (broadcastInDim S1x16384 ![1] bcast_S16384_S1x16384_1 : (⟨S16384, .i32⟩ : BufTy).Contents (Elt F) → (⟨S1x16384, .i32⟩ : BufTy).Contents (Elt F))
  , StableHlo.unary main_v174 main_v185 (broadcastInDim S1x16384 ![1] bcast_S16384_S1x16384_1 : (⟨S16384, .i32⟩ : BufTy).Contents (Elt F) → (⟨S1x16384, .i32⟩ : BufTy).Contents (Elt F))
  , StableHlo.nary ![main_v182, main_v183, main_v184, main_v185] main_v186 (fun u => (concatenate S4x16384 0 [⟨S1x16384, (u 0 : (⟨S1x16384, .i32⟩ : BufTy).Contents (Elt F))⟩, ⟨S1x16384, (u 1 : (⟨S1x16384, .i32⟩ : BufTy).Contents (Elt F))⟩, ⟨S1x16384, (u 2 : (⟨S1x16384, .i32⟩ : BufTy).Contents (Elt F))⟩, ⟨S1x16384, (u 3 : (⟨S1x16384, .i32⟩ : BufTy).Contents (Elt F))⟩] concatenates_S1x16384_S1x16384_S1x16384_S1x16384_S4x16384_d0 : (⟨S4x16384, .i32⟩ : BufTy).Contents (Elt F)))
  , StableHlo.unary main_v175 main_v187 (broadcastInDim S1x16384 ![1] bcast_S16384_S1x16384_1 : (⟨S16384, .f32⟩ : BufTy).Contents (Elt F) → (⟨S1x16384, .f32⟩ : BufTy).Contents (Elt F))
  , StableHlo.unary main_v176 main_v188 (broadcastInDim S1x16384 ![1] bcast_S16384_S1x16384_1 : (⟨S16384, .f32⟩ : BufTy).Contents (Elt F) → (⟨S1x16384, .f32⟩ : BufTy).Contents (Elt F))
  , StableHlo.unary main_v177 main_v189 (broadcastInDim S1x16384 ![1] bcast_S16384_S1x16384_1 : (⟨S16384, .f32⟩ : BufTy).Contents (Elt F) → (⟨S1x16384, .f32⟩ : BufTy).Contents (Elt F))
  , StableHlo.unary main_v178 main_v190 (broadcastInDim S1x16384 ![1] bcast_S16384_S1x16384_1 : (⟨S16384, .f32⟩ : BufTy).Contents (Elt F) → (⟨S1x16384, .f32⟩ : BufTy).Contents (Elt F))
  , StableHlo.nary ![main_v187, main_v188, main_v189, main_v190] main_v191 (fun u => (concatenate S4x16384 0 [⟨S1x16384, (u 0 : (⟨S1x16384, .f32⟩ : BufTy).Contents (Elt F))⟩, ⟨S1x16384, (u 1 : (⟨S1x16384, .f32⟩ : BufTy).Contents (Elt F))⟩, ⟨S1x16384, (u 2 : (⟨S1x16384, .f32⟩ : BufTy).Contents (Elt F))⟩, ⟨S1x16384, (u 3 : (⟨S1x16384, .f32⟩ : BufTy).Contents (Elt F))⟩] concatenates_S1x16384_S1x16384_S1x16384_S1x16384_S4x16384_d0 : (⟨S4x16384, .f32⟩ : BufTy).Contents (Elt F)))
  , StableHlo.unary main_v181 main_v192 (broadcastInDim S1x16384 ![1] bcast_S16384_S1x16384_1 : (⟨S16384, .f32⟩ : BufTy).Contents (Elt F) → (⟨S1x16384, .f32⟩ : BufTy).Contents (Elt F))
  , StableHlo.unary main_v192 main_v193 (broadcastInDim S4x16384 ![0, 1] bcast_S1x16384_S4x16384_0_1 : (⟨S1x16384, .f32⟩ : BufTy).Contents (Elt F) → (⟨S4x16384, .f32⟩ : BufTy).Contents (Elt F))
  , StableHlo.binary main_v191 main_v193 main_v194 (Host.divf : (⟨S4x16384, .f32⟩ : BufTy).Contents (Elt F) → (⟨S4x16384, .f32⟩ : BufTy).Contents (Elt F) → (⟨S4x16384, .f32⟩ : BufTy).Contents (Elt F))
  , StableHlo.nullary main_cst_31 (constant S_ .f32 0x40200000#32)
  , StableHlo.unary main_cst_31 main_v195 (broadcastInDim S4x16384 ![] bcast_S_S4x16384 : (⟨S_, .f32⟩ : BufTy).Contents (Elt F) → (⟨S4x16384, .f32⟩ : BufTy).Contents (Elt F))
  , StableHlo.binary main_v194 main_v195 main_v196 (mulf : (⟨S4x16384, .f32⟩ : BufTy).Contents (Elt F) → (⟨S4x16384, .f32⟩ : BufTy).Contents (Elt F) → (⟨S4x16384, .f32⟩ : BufTy).Contents (Elt F))
  , StableHlo.unary main_v186 main_v197 ((transpose S16384x4 [1, 0] · transposes_S4x16384_S16384x4_1_0) : (⟨S4x16384, .i32⟩ : BufTy).Contents (Elt F) → (⟨S16384x4, .i32⟩ : BufTy).Contents (Elt F))
  , StableHlo.reshape main_v197 main_v198 (rfl : (.i32 : EltTy) = .i32) shapeCasts_S16384x4_S8x2048x4
  , StableHlo.unary main_v196 main_v199 ((transpose S16384x4 [1, 0] · transposes_S4x16384_S16384x4_1_0) : (⟨S4x16384, .f32⟩ : BufTy).Contents (Elt F) → (⟨S16384x4, .f32⟩ : BufTy).Contents (Elt F))
  , StableHlo.reshape main_v199 main_v200 (rfl : (.f32 : EltTy) = .f32) shapeCasts_S16384x4_S8x2048x4 ]

/-- The references they write, in order. -/
abbrev wr10 : List (Ref sig .tc) := [main_v182, main_v183, main_v184, main_v185, main_v186, main_v187, main_v188, main_v189, main_v190, main_v191, main_v192, main_v193, main_v194, main_cst_31, main_v195, main_v196, main_v197, main_v198, main_v199, main_v200]

theorem keep10 (V : Valuation τ sig (Elt F)) {r : Ref sig .tc} (h : r ∉ wr10) : StableHlo.after (seg10 (F := F)) V (Proc.devRef .tc r) = V (Proc.devRef .tc r) :=
  StableHlo.after_unwritten wr10 rfl h V

/-- The line is its stretches, one after the other. -/
theorem line_eq : (hostOps1 : List (HloOp τ sig (Elt F))) = seg0 ++ (seg1 ++ (seg2 ++ (seg3 ++ (seg4 ++ (seg5 ++ (seg6 ++ (seg7 ++ (seg8 ++ (seg9 ++ (seg10)))))))))) := by
  chain_rfl

/-- The contents after the whole line, stretch by stretch. -/
theorem after_line (V : Valuation τ sig (Elt F)) : StableHlo.after hostOps1 V =
    StableHlo.after seg10 (StableHlo.after seg9 (StableHlo.after seg8 (StableHlo.after seg7 (StableHlo.after seg6 (StableHlo.after seg5 (StableHlo.after seg4 (StableHlo.after seg3 (StableHlo.after seg2 (StableHlo.after seg1 (StableHlo.after seg0 (V))))))))))) := by
  rw [line_eq]
  simp only [StableHlo.after_append]

end Cert.ReferenceIdeal.Route
-- ==== Proof.RefOps.lean ====
/-
  The reference's routing of all tokens as arrays, one row an expert and one column a token, and what each step is at one token.
-/
module

public import proofs.«01_k».proof.Proof.Token
public import proofs.«01_k».proof.Proof.Words
public import proofs.«01_k».proof.Proof.Gen.ReferenceIdeal
import Idealize.ShloMosaic.Lib.Pipeline.ValueKit

@[expose] public section

noncomputable section

namespace Cert.ReferenceIdeal.Route

open Idealize.ShloMosaic Cert.ReferenceIdeal Cert.ReferenceIdeal.Gen Cert.Top

/-- Minus infinity everywhere. -/
def ninf : FVec Ideal S256x16384 .f32 := broadcastInDim S256x16384 ![] bcast_S_S256x16384 (constant (F := Ideal) S_ .f32 0xFF800000#32)
/-- Zero everywhere. -/
def zeros : FVec Ideal S256x16384 .f32 := broadcastInDim S256x16384 ![] bcast_S_S256x16384 (constant (F := Ideal) S_ .f32 0x00000000#32)
/-- Each row's number. -/
def nums : IVec S256x16384 32 := iotaInDim S256x16384 32 0
/-- The number that stands for no expert. -/
def noneOf : IVec S256x16384 32 := broadcastInDim S256x16384 ![] bcast_S_S256x16384 (constantI S_ 32 256#32)
/-- The largest of each column. -/
def best (x : FVec Ideal S256x16384 .f32) : FVec Ideal S16384 .f32 :=
  Host.reduce FloatOps.maximumf x (constant (F := Ideal) S_ .f32 0xFF800000#32) reducesTo_S256x16384_S16384_d0 h_S_
/-- One value per column, repeated down the rows. -/
def down {α : Type} (x : S16384.Idx → α) : S256x16384.Idx → α :=
  broadcastInDim S256x16384 ![0, 1] bcast_S1x16384_S256x16384_0_1 (broadcastInDim S1x16384 ![1] bcast_S16384_S1x16384_1 x)
/-- The lowest marked row of each column. -/
def lowest (hit : IVec S256x16384 1) : IVec S16384 32 :=
  Host.reduce IntOp.minsi (select hit nums noneOf) (constantI S_ 32 2147483647#32) reducesTo_S256x16384_S16384_d0 h_S_
/-- The value of each column at the row a number names. -/
def valueAt (n : IVec S16384 32) (sc : FVec Ideal S256x16384 .f32) : FVec Ideal S16384 .f32 :=
  Host.reduceAdd (select (cmpi .eq nums (down n)) sc zeros) (constant (F := Ideal) S_ .f32 0x00000000#32) reducesTo_S256x16384_S16384_d0 h_S_
/-- The rows that hold their column's largest value. -/
def hits (x : FVec Ideal S256x16384 .f32) : IVec S256x16384 1 := cmpf .oeq x (down (best x))
/-- The kept rows whose biased score is the column's largest value of `x`. -/
def keptHits (kept : IVec S256x16384 1) (ch x : FVec Ideal S256x16384 .f32) : IVec S256x16384 1 :=
  andi kept (cmpf .oeq ch (down (best x)))
/-- `x` with the lowest row that holds the column's largest value taken out. -/
def without (x : FVec Ideal S256x16384 .f32) : FVec Ideal S256x16384 .f32 :=
  select (cmpi .eq nums (down (lowest (hits x)))) ninf x
/-- The biased scores of the kept experts, minus infinity at the others. -/
def maskedOf (kept : IVec S256x16384 1) (ch : FVec Ideal S256x16384 .f32) : FVec Ideal S256x16384 .f32 := select kept ch ninf

/-- Each of these arrays at an index. -/
theorem ninf_at (e : Fin 256) (t : Fin 16384) : ninf (ix2 e t) = (⊥ : EReal) := by
  pointwise [ninf]
  exact Cert.Top.neg_inf
theorem zeros_at (e : Fin 256) (t : Fin 16384) : zeros (ix2 e t) = (0 : EReal) := by
  pointwise [zeros]
theorem nums_at (e : Fin 256) (t : Fin 16384) : nums (ix2 e t) = BitVec.ofNat 32 e.val := by
  pointwise [nums]
theorem noneOf_at (e : Fin 256) (t : Fin 16384) : noneOf (ix2 e t) = 256#32 := by
  pointwise [noneOf]
theorem down_at {α : Type} (x : S16384.Idx → α) (e : Fin 256) (t : Fin 16384) : down x (ix2 e t) = x (ix1 t) := by
  pointwise [down]

theorem red0 : Shape.Reduces S256x16384 [0] S16384 := by decide

theorem lift0 (e : Fin 256) (t : Fin 16384) : red0.lift (ix1 t) e = ix2 e t := by
  funext a; fin_cases a <;> rfl

/-- A column's best is the fold of the maximum over its 256 rows. -/
theorem best_fold (x : FVec Ideal S256x16384 .f32) (t : Fin 16384) :
    best x (ix1 t) = (Finset.univ : Finset (Fin 256)).fold (fun a b : EReal => max a b) ⊥ (fun e => x (ix2 e t)) := by
  unfold best
  rw [Host.reduce_eq_fold_single _ _ _ _ red0]
  have h1 : (constant (F := Ideal) S_ .f32 0xFF800000#32 (Shape.Idx.first h_S_) : EReal) = ⊥ := Cert.Top.neg_inf
  have h2 : x ∘ red0.lift (ix1 t) = fun e : Fin 256 => x (ix2 e t) := funext fun e => congrArg x (lift0 e t)
  rw [h2]
  exact congrArg (fun z : EReal => (Finset.univ : Finset (Fin 256)).fold (fun a b : EReal => max a b) z (fun e => x (ix2 e t))) h1

theorem select_one {α : Type} (c : BitVec 1) (a b : α) : Scalar.select c a b = if c = 1#1 then a else b := rfl

theorem cmpi_eq_one {w : ℕ} (a b : BitVec w) : IntOp.cmpi .eq a b = 1#1 ↔ a = b := by
  show BitVec.ofBool (a == b) = 1#1 ↔ _
  rw [ofBool_one, beq_iff_eq]

theorem ofNat_inj {a b : ℕ} (ha : a < 2 ^ 32) (hb : b < 2 ^ 32) : BitVec.ofNat 32 a = BitVec.ofNat 32 b ↔ a = b := by
  constructor
  · intro h
    have := congrArg BitVec.toNat h
    simp only [BitVec.toNat_ofNat] at this
    rwa [Nat.mod_eq_of_lt ha, Nat.mod_eq_of_lt hb] at this
  · rintro rfl; rfl

theorem ofNat_expert (e n : Fin 256) : BitVec.ofNat 32 e.val = BitVec.ofNat 32 n.val ↔ e = n := by
  rw [ofNat_inj (by omega) (by omega), Fin.ext_iff]

/-- A column's lowest marked row is the fold of the minimum. -/
theorem lowest_fold (hit : IVec S256x16384 1) (t : Fin 16384) : lowest hit (ix1 t) =
    (Finset.univ : Finset (Fin 256)).fold IntOp.minsi 2147483647#32 (fun e => BitVec.ofNat 32 (if hit (ix2 e t) = 1#1 then e.val else 256)) := by
  unfold lowest
  rw [Host.reduce_eq_fold_single _ _ _ _ red0]
  have h2 : select hit nums noneOf ∘ red0.lift (ix1 t) = fun e : Fin 256 => BitVec.ofNat 32 (if hit (ix2 e t) = 1#1 then e.val else 256) := by
    refine funext fun e : Fin 256 => ?_
    refine (congrArg (select hit nums noneOf) (lift0 e t)).trans ?_
    show Scalar.select (hit (ix2 e t)) (nums (ix2 e t)) (noneOf (ix2 e t)) = _
    rw [nums_at, noneOf_at, select_one]
    split <;> rfl
  rw [h2]
  rfl

/-- The lowest marked row's number. -/
theorem lowest_at (hit : IVec S256x16384 1) (t : Fin 16384) (n : Fin 256) (h : IsLow (fun e => hit (ix2 e t) = 1#1) n) :
    lowest hit (ix1 t) = BitVec.ofNat 32 n.val := by
  rw [lowest_fold]
  refine fold_min _ (fun e => by split <;> omega) _ ⟨n, if_pos h.1⟩ fun e => ?_
  split
  · rename_i he
    by_contra hlt
    exact h.2 e (by rw [Fin.lt_def]; omega) he
  · omega

/-- The value at the row a number names. -/
theorem valueAt_at (n : IVec S16384 32) (sc : FVec Ideal S256x16384 .f32) (t : Fin 16384) (e : Fin 256) (h : n (ix1 t) = BitVec.ofNat 32 e.val) :
    valueAt n sc (ix1 t) = sc (ix2 e t) := by
  have hs : valueAt n sc (ix1 t) = ∑ e : Fin 256, (if IntOp.cmpi .eq (nums (ix2 e t)) (down n (ix2 e t)) = 1#1 then sc (ix2 e t) else zeros (ix2 e t) : EReal) := by
    unfold valueAt
    pointwise
    rfl
  rw [hs]
  simp only [nums_at, down_at, zeros_at, cmpi_eq_one, h, ofNat_expert]
  rw [Finset.sum_ite_eq' Finset.univ e, if_pos (Finset.mem_univ e)]

/-- A column, as a function of the expert. -/
def col {α : Type} (x : S256x16384.Idx → α) (t : Fin 16384) (e : Fin 256) : α := x (ix2 e t)

theorem best_ge (x : FVec Ideal S256x16384 .f32) (t : Fin 16384) (e : Fin 256) : (col x t e : EReal) ≤ best x (ix1 t) := by
  rw [best_fold]
  exact (Finset.le_fold_max (x (ix2 e t) : EReal)).mpr (.inr ⟨e, Finset.mem_univ e, le_rfl⟩)

theorem best_mem (x : FVec Ideal S256x16384 .f32) (t : Fin 16384) : ∃ e, (col x t e : EReal) = best x (ix1 t) := by
  have h := best_fold x t
  rcases (Finset.le_fold_max (best x (ix1 t) : EReal)).mp h.le with h0 | ⟨e, -, he⟩
  · exact ⟨0, le_antisymm (best_ge x t 0) (h0.trans bot_le)⟩
  · exact ⟨e, le_antisymm (best_ge x t e) he⟩

theorem oeq_one (a b : EReal) : Ideal.cmp .oeq a b = 1#1 ↔ a = b := by
  rw [cmp_oeq, ofBool_one, decide_eq_true_eq]

/-- Which rows have their column's best. -/
theorem hits_at (x : FVec Ideal S256x16384 .f32) (t : Fin 16384) (e : Fin 256) :
    hits x (ix2 e t) = 1#1 ↔ (col x t e : EReal) = best x (ix1 t) := by
  show Ideal.cmp .oeq (x (ix2 e t)) (down (best x) (ix2 e t)) = 1#1 ↔ _
  rw [down_at, oeq_one]
  rfl

theorem and_one (a b : BitVec 1) : IntOp.andi a b = 1#1 ↔ a = 1#1 ∧ b = 1#1 := by
  revert a b; decide
theorem or_one (a b : BitVec 1) : IntOp.ori a b = 1#1 ↔ a = 1#1 ∨ b = 1#1 := by
  revert a b; decide

/-- Which kept rows have a value equal to it. -/
theorem keptHits_at (kept : IVec S256x16384 1) (ch x : FVec Ideal S256x16384 .f32) (t : Fin 16384) (e : Fin 256) :
    keptHits kept ch x (ix2 e t) = 1#1 ↔ kept (ix2 e t) = 1#1 ∧ (col ch t e : EReal) = best x (ix1 t) := by
  show IntOp.andi (kept (ix2 e t)) (Ideal.cmp .oeq (ch (ix2 e t)) (down (best x) (ix2 e t))) = 1#1 ↔ _
  rw [down_at, and_one, oeq_one]
  rfl

/-- One pick at one token. -/
theorem pick_at (x : FVec Ideal S256x16384 .f32) (t : Fin 16384) : ∃ n : Fin 256, lowest (hits x) (ix1 t) = BitVec.ofNat 32 n.val ∧
    Pick (col x t) (col (without x) t) (best x (ix1 t)) n := by
  obtain ⟨n, hn⟩ := exists_isLow (best_mem x t)
  have hl := lowest_at (hits x) t n (hn.congr fun e => (hits_at x t e).symm)
  refine ⟨n, hl, best_ge x t, hn, fun e => ?_⟩
  show Scalar.select (IntOp.cmpi .eq (nums (ix2 e t)) (down (lowest (hits x)) (ix2 e t))) (ninf (ix2 e t)) (x (ix2 e t)) = _
  rw [select_one, nums_at, down_at, hl, ninf_at]
  exact if_congr ((cmpi_eq_one _ _).trans (ofNat_expert e n)) rfl rfl

/-- Minus infinity for every token. -/
def ninf1 : FVec Ideal S16384 .f32 := broadcastInDim S16384 ![] bcast_S_S16384 (constant (F := Ideal) S_ .f32 0xFF800000#32)

theorem ninf1_at (t : Fin 16384) : ninf1 (ix1 t) = (⊥ : EReal) := by
  pointwise [ninf1]
  exact Cert.Top.neg_inf

theorem ori_one {S : Shape} (a b : IVec S 1) (i : S.Idx) : ori a b i = 1#1 ↔ a i = 1#1 ∨ b i = 1#1 := or_one (a i) (b i)

theorem cmpf_one {S : Shape} (a b : FVec Ideal S .f32) (i : S.Idx) : cmpf .oeq a b i = 1#1 ↔ (a i : EReal) = b i := oeq_one (a i) (b i)

/-- Whether two of the four bests are equal, or the last is minus infinity. -/
def tied (x0 x1 x2 x3 : FVec Ideal S256x16384 .f32) : IVec S16384 1 :=
  ori (ori (ori (cmpf .oeq (best x0) (best x1)) (cmpf .oeq (best x1) (best x2))) (cmpf .oeq (best x2) (best x3)))
    (cmpf .oeq (best x3) ninf1)

/-- When a column is tied. -/
theorem tied_at (x0 x1 x2 x3 : FVec Ideal S256x16384 .f32) (t : Fin 16384) : tied x0 x1 x2 x3 (ix1 t) = 1#1 ↔
    ((best x0 (ix1 t) : EReal) = best x1 (ix1 t) ∨ (best x1 (ix1 t) : EReal) = best x2 (ix1 t) ∨ (best x2 (ix1 t) : EReal) = best x3 (ix1 t) ∨ (best x3 (ix1 t) : EReal) = ⊥) := by
  unfold tied
  rw [ori_one, ori_one, ori_one, cmpf_one, cmpf_one, cmpf_one, cmpf_one, ninf1_at, or_assoc, or_assoc]

/-- The number of each token's expert at one pick, from what was left before it. -/
def pickNum (tie : IVec S16384 1) (kept : IVec S256x16384 1) (ch x : FVec Ideal S256x16384 .f32) : IVec S16384 32 :=
  select tie (lowest (keptHits kept ch x)) (lowest (hits x))

/-- Its score. -/
def pickVal (tie : IVec S16384 1) (kept : IVec S256x16384 1) (ch x sc : FVec Ideal S256x16384 .f32) : FVec Ideal S16384 .f32 :=
  select tie (valueAt (lowest (keptHits kept ch x)) sc) (valueAt (lowest (hits x)) sc)

/-- The experts of the kept groups; the others at minus infinity. -/
theorem masked_at (kept : IVec S256x16384 1) (ch : FVec Ideal S256x16384 .f32) (t : Fin 16384)
    (hk : ∀ e, kept (ix2 e t) = 1#1 ↔ Kept (col ch t) (groupOf e)) :
    col (maskedOf kept ch) t = masked (fun e => Kept (col ch t) (groupOf e)) (col ch t) := by
  classical
  funext e
  show Scalar.select (kept (ix2 e t)) (ch (ix2 e t)) (ninf (ix2 e t)) = _
  rw [select_one, ninf_at, masked]
  exact if_congr (hk e) rfl rfl

/-- The four picks at one token. -/
theorem picks_at (kept : IVec S256x16384 1) (ch sc x0 x1 x2 x3 : FVec Ideal S256x16384 .f32) (h0 : x0 = maskedOf kept ch) (h1 : x1 = without x0)
    (h2 : x2 = without x1) (h3 : x3 = without x2) (t : Fin 16384) (hk : ∀ e, kept (ix2 e t) = 1#1 ↔ Kept (col ch t) (groupOf e)) (k : Fin 4) :
    pickNum (tied x0 x1 x2 x3) kept ch (![x0, x1, x2, x3] k) (ix1 t) = idOf (col ch t) k ∧
    (pickVal (tied x0 x1 x2 x3) kept ch (![x0, x1, x2, x3] k) sc (ix1 t) : EReal) = col sc t (chosen (col ch t) k) := by
  obtain ⟨n0, l0, p0⟩ := pick_at x0 t
  obtain ⟨n1, l1, p1⟩ := pick_at x1 t
  obtain ⟨n2, l2, p2⟩ := pick_at x2 t
  obtain ⟨n3, l3, p3⟩ := pick_at x3 t
  rw [← h1] at p0
  rw [← h2] at p1
  rw [← h3] at p2
  have hm : col x0 t = masked (fun e => Kept (col ch t) (groupOf e)) (col ch t) := by rw [h0]; exact masked_at kept ch t hk
  rw [hm] at p0
  obtain ⟨⟨e0, e1, e2, e3⟩, hno⟩ := picks (counts_lists (col ch t) 0) p0 p1 p2 p3
  have hb : ∀ k : Fin 4, (best (![x0, x1, x2, x3] k) (ix1 t) : EReal) = (bests (col ch t)).get k := by
    intro k; fin_cases k
    exacts [e0, e1, e2, e3]
  have hfirst : lowest (keptHits kept ch (![x0, x1, x2, x3] k)) (ix1 t) = BitVec.ofNat 32 (chosen (col ch t) k).val :=
    lowest_at _ t _ ((chosen_isLow (col ch t) k).congr fun e => by rw [keptHits_at, hk, hb]; rfl)
  have hidx : tied x0 x1 x2 x3 (ix1 t) ≠ 1#1 → lowest (hits (![x0, x1, x2, x3] k)) (ix1 t) = BitVec.ofNat 32 (chosen (col ch t) k).val := by
    intro hne
    obtain ⟨i0, i1, i2, i3⟩ := hno fun h => hne ((tied_at x0 x1 x2 x3 t).mpr h)
    have hlow := chosen_isLow (col ch t) k
    fin_cases k
    · exact l0.trans (by rw [i0.unique (hlow.congr fun e => by rw [e0]; rfl)])
    · exact l1.trans (by rw [i1.unique (hlow.congr fun e => by rw [e1]; rfl)])
    · exact l2.trans (by rw [i2.unique (hlow.congr fun e => by rw [e2]; rfl)])
    · exact l3.trans (by rw [i3.unique (hlow.congr fun e => by rw [e3]; rfl)])
  constructor
  · show Scalar.select (tied x0 x1 x2 x3 (ix1 t)) (lowest (keptHits kept ch (![x0, x1, x2, x3] k)) (ix1 t)) (lowest (hits (![x0, x1, x2, x3] k)) (ix1 t)) = _
    rw [select_one, hfirst]
    split
    · rfl
    · rename_i h; rw [hidx h]; rfl
  · show Scalar.select (tied x0 x1 x2 x3 (ix1 t)) (valueAt (lowest (keptHits kept ch (![x0, x1, x2, x3] k))) sc (ix1 t)) (valueAt (lowest (hits (![x0, x1, x2, x3] k))) sc (ix1 t)) = _
    rw [select_one, valueAt_at _ sc t _ hfirst]
    split
    · rfl
    · rename_i h; rw [valueAt_at _ sc t _ (hidx h)]; rfl

end Cert.ReferenceIdeal.Route
-- ==== Proof.RefGroup.lean ====
/-
  Which groups the reference keeps, as arrays over groups and tokens, and what each step is at one token.
-/
module

public import proofs.«01_k».proof.Proof.RefOps
import Idealize.ShloMosaic.Lib.Pipeline.ValueKit
import Idealize.ShloMosaic.Lib.Pipeline.Value
import Idealize.ShloMosaic.Lib.ValueLayout

@[expose] public section

noncomputable section

namespace Cert.ReferenceIdeal.Route

open Idealize.ShloMosaic Cert.ReferenceIdeal Cert.ReferenceIdeal.Gen Cert.Top

/-- Operations on arrays, read at an index. -/
theorem addf_at {S : Shape} (a b : FVec Ideal S .f32) (i : S.Idx) : (addf a b i : EReal) = (a i + b i : EReal) := rfl

theorem select_at {S : Shape} {α : Type} (c : IVec S 1) (a b : S.Idx → α) (i : S.Idx) : select c a b i = if c i = 1#1 then a i else b i := rfl

theorem cmpi_at {S : Shape} (p : CmpIPredicate) (a b : IVec S 32) (i : S.Idx) : cmpi p a b i = IntOp.cmpi p (a i) (b i) := rfl

theorem extui_at {S : Shape} (a : IVec S 1) (i : S.Idx) : extui 32 a natLt_1_32 i = (a i).setWidth 32 := rfl

theorem sge_one (a b : BitVec 32) : IntOp.cmpi .sge a b = 1#1 ↔ b.sle a = true := ofBool_one _

theorem slt_one (a b : BitVec 32) : IntOp.cmpi .slt a b = 1#1 ↔ a.slt b = true := ofBool_one _

/-- The biased scores, group by group. -/
def grouped (ch : FVec Ideal S256x16384 .f32) : FVec Ideal S8x32x16384 .f32 := shapeCast S8x32x16384 ch shapeCasts_S256x16384_S8x32x16384
/-- The largest of each group. -/
def gbest (x : FVec Ideal S8x32x16384 .f32) : FVec Ideal S8x16384 .f32 :=
  Host.reduce FloatOps.maximumf x (constant (F := Ideal) S_ .f32 0xFF800000#32) reducesTo_S8x32x16384_S8x16384_d1 h_S_
/-- One value per group, repeated down its experts. -/
def gdown {α : Type} (x : S8x16384.Idx → α) : S8x32x16384.Idx → α :=
  broadcastInDim S8x32x16384 ![0, 1, 2] bcast_S8x1x16384_S8x32x16384_0_1_2 (broadcastInDim S8x1x16384 ![0, 2] bcast_S8x16384_S8x1x16384_0_2 x)
/-- The experts that hold their group's largest value. -/
def gtop (x : FVec Ideal S8x32x16384 .f32) : IVec S8x32x16384 1 := cmpf .oeq x (gdown (gbest x))
/-- How many there are. -/
def gcount (x : FVec Ideal S8x32x16384 .f32) : IVec S8x16384 32 :=
  Host.reduce IntOp.addi (extui 32 (gtop x) natLt_1_32) (constantI S_ 32 0#32) reducesTo_S8x32x16384_S8x16384_d1 h_S_
/-- Whether there are two. -/
def gtwice (x : FVec Ideal S8x32x16384 .f32) : IVec S8x16384 1 :=
  cmpi .sge (gcount x) (broadcastInDim S8x16384 ![] bcast_S_S8x16384 (constantI S_ 32 2#32))
/-- Minus infinity everywhere. -/
def gninf : FVec Ideal S8x32x16384 .f32 := broadcastInDim S8x32x16384 ![] bcast_S_S8x32x16384 (constant (F := Ideal) S_ .f32 0xFF800000#32)
/-- The values below the group's largest, minus infinity in its place. -/
def gbelow (x : FVec Ideal S8x32x16384 .f32) : FVec Ideal S8x32x16384 .f32 := select (gtop x) gninf x
/-- The sum of each group's two largest. -/
def gsum (x : FVec Ideal S8x32x16384 .f32) : FVec Ideal S8x16384 .f32 :=
  addf (gbest x) (select (gtwice x) (gbest x) (gbest (gbelow x)))

theorem redg : Shape.Reduces S8x32x16384 [1] S8x16384 := by decide

theorem liftg (s : Fin 8) (v : Fin 32) (t : Fin 16384) : redg.lift (ix2 s t) v = ix3 s v t := by
  funext a; fin_cases a <;> rfl

theorem gninf_at (s : Fin 8) (v : Fin 32) (t : Fin 16384) : gninf (ix3 s v t) = (⊥ : EReal) := by
  pointwise [gninf]
  exact Cert.Top.neg_inf

theorem gdown_at {α : Type} (x : S8x16384.Idx → α) (s : Fin 8) (v : Fin 32) (t : Fin 16384) : gdown x (ix3 s v t) = x (ix2 s t) := by
  pointwise [gdown]

/-- A group's best is the fold of the maximum over its 32 experts. -/
theorem gbest_fold (x : FVec Ideal S8x32x16384 .f32) (s : Fin 8) (t : Fin 16384) :
    gbest x (ix2 s t) = (Finset.univ : Finset (Fin 32)).fold (fun a b : EReal => max a b) ⊥ (fun v => x (ix3 s v t)) := by
  unfold gbest
  rw [Host.reduce_eq_fold_single _ _ _ _ redg]
  have h1 : (constant (F := Ideal) S_ .f32 0xFF800000#32 (Shape.Idx.first h_S_) : EReal) = ⊥ := Cert.Top.neg_inf
  have h2 : x ∘ redg.lift (ix2 s t) = fun v : Fin 32 => x (ix3 s v t) := funext fun v => congrArg x (liftg s v t)
  rw [h2]
  exact congrArg (fun z : EReal => (Finset.univ : Finset (Fin 32)).fold (fun a b : EReal => max a b) z (fun v => x (ix3 s v t))) h1

theorem le_gbest (x : FVec Ideal S8x32x16384 .f32) (s : Fin 8) (t : Fin 16384) (c : EReal) (hc : ⊥ < c) :
    c ≤ gbest x (ix2 s t) ↔ ∃ v : Fin 32, c ≤ (x (ix3 s v t) : EReal) := by
  rw [gbest_fold, Finset.le_fold_max]
  constructor
  · rintro (h | ⟨v, -, h⟩)
    · exact absurd h (not_le.mpr hc)
    · exact ⟨v, h⟩
  · rintro ⟨v, h⟩
    exact .inr ⟨v, Finset.mem_univ v, h⟩

theorem gbest_ge (x : FVec Ideal S8x32x16384 .f32) (s : Fin 8) (t : Fin 16384) (v : Fin 32) : (x (ix3 s v t) : EReal) ≤ gbest x (ix2 s t) := by
  rw [gbest_fold]
  exact (Finset.le_fold_max (x (ix3 s v t) : EReal)).mpr (.inr ⟨v, Finset.mem_univ v, le_rfl⟩)

theorem gbest_mem (x : FVec Ideal S8x32x16384 .f32) (s : Fin 8) (t : Fin 16384) : ∃ v : Fin 32, (x (ix3 s v t) : EReal) = gbest x (ix2 s t) := by
  have h := gbest_fold x s t
  rcases (Finset.le_fold_max (gbest x (ix2 s t) : EReal)).mp h.le with h0 | ⟨v, -, hv⟩
  · exact ⟨0, le_antisymm (gbest_ge x s t 0) (h0.trans bot_le)⟩
  · exact ⟨v, le_antisymm (gbest_ge x s t v) hv⟩

/-- Which experts reach their group's best, -/
theorem gtop_at (x : FVec Ideal S8x32x16384 .f32) (s : Fin 8) (v : Fin 32) (t : Fin 16384) :
    gtop x (ix3 s v t) = 1#1 ↔ (x (ix3 s v t) : EReal) = gbest x (ix2 s t) := by
  unfold gtop
  rw [cmpf_one, gdown_at]

open Classical in
/-- A count of marks, as a fold of words. -/
theorem fold_count {ι : Type} (s : Finset ι) (p : ι → BitVec 1) :
    s.fold IntOp.addi 0#32 (fun v => (p v).setWidth 32) = BitVec.ofNat 32 (s.filter fun v => p v = 1#1).card := by
  induction s using Finset.induction_on with
  | empty => rfl
  | insert a s ha ih =>
    rw [Finset.fold_insert ha, ih, Finset.filter_insert]
    by_cases h : p a = 1#1
    · rw [if_pos h, Finset.card_insert_of_notMem (by simp [ha]), h, Nat.add_comm, BitVec.ofNat_add]
      rfl
    · rw [if_neg h, eq_zero_of_ne_one h]
      exact zero_add _
where eq_zero_of_ne_one {b : BitVec 1} (h : b ≠ 1#1) : b = 0#1 := by revert b; decide

open Classical in
/-- how many do, -/
theorem gcount_at (x : FVec Ideal S8x32x16384 .f32) (s : Fin 8) (t : Fin 16384) :
    gcount x (ix2 s t) = BitVec.ofNat 32 ((Finset.univ : Finset (Fin 32)).filter fun v => (x (ix3 s v t) : EReal) = gbest x (ix2 s t)).card := by
  unfold gcount
  rw [Host.reduce_eq_fold_single _ _ _ _ redg]
  have h2 : extui 32 (gtop x) natLt_1_32 ∘ redg.lift (ix2 s t) = fun v : Fin 32 => (gtop x (ix3 s v t)).setWidth 32 :=
    funext fun v => congrArg (extui 32 (gtop x) natLt_1_32) (liftg s v t)
  rw [h2]
  refine (fold_count Finset.univ fun v : Fin 32 => gtop x (ix3 s v t)).trans ?_
  refine congrArg (fun q : Finset (Fin 32) => BitVec.ofNat 32 q.card) ?_
  ext v
  rw [Finset.mem_filter, Finset.mem_filter, gtop_at]
  exact Iff.rfl

theorem gtwice_at (x : FVec Ideal S8x32x16384 .f32) (s : Fin 8) (t : Fin 16384) : gtwice x (ix2 s t) = 1#1 ↔
    ∃ v w : Fin 32, v ≠ w ∧ (x (ix3 s v t) : EReal) = gbest x (ix2 s t) ∧ (x (ix3 s w t) : EReal) = gbest x (ix2 s t) := by
  classical
  have e : (broadcastInDim S8x16384 ![] bcast_S_S8x16384 (constantI S_ 32 2#32) : IVec S8x16384 32) (ix2 s t) = BitVec.ofNat 32 2 := by
    pointwise
  have hc : ((Finset.univ : Finset (Fin 32)).filter fun v => (x (ix3 s v t) : EReal) = gbest x (ix2 s t)).card ≤ 32 :=
    (Finset.card_le_univ _).trans (by simp)
  unfold gtwice
  rw [cmpi_at, e, gcount_at, sge_one, ofNat_sle (by decide) (by omega), decide_eq_true_eq]
  refine Finset.one_lt_card.trans ⟨?_, ?_⟩
  · rintro ⟨v, hv, w, hw, h⟩
    exact ⟨v, w, h, by simpa using hv, by simpa using hw⟩
  · rintro ⟨v, w, h, hv, hw⟩
    exact ⟨v, by simpa using hv, w, by simpa using hw, h⟩

/-- A group's values, those equal to its best at minus infinity. -/
theorem gbelow_at (x : FVec Ideal S8x32x16384 .f32) (s : Fin 8) (v : Fin 32) (t : Fin 16384) :
    gbelow x (ix3 s v t) = if gtop x (ix3 s v t) = 1#1 then (⊥ : EReal) else x (ix3 s v t) := by
  unfold gbelow
  rw [select_at, gninf_at]

/-- A group's sum at one token. -/
theorem gsum_at (x : FVec Ideal S8x32x16384 .f32) (s : Fin 8) (t : Fin 16384) :
    (gsum x (ix2 s t) : EReal) = (top32 fun v => (x (ix3 s v t) : EReal)).a + (top32 fun v => (x (ix3 s v t) : EReal)).b := by
  unfold gsum
  rw [addf_at, select_at, top32_a (gbest_ge x s t) (gbest_mem x s t)]
  refine congrArg (fun z : EReal => (gbest x (ix2 s t) + z : EReal)) ?_
  split
  · rename_i h
    exact (top32_b_twice (gbest_ge x s t) ((gtwice_at x s t).mp h)).symm
  · rename_i h
    refine (top32_b_once (gbest_ge x s t) (gbest_mem x s t) (fun v w hv hw => ?_) fun c hc => ?_).symm
    · by_contra hne
      exact h ((gtwice_at x s t).mpr ⟨v, w, hne, hv, hw⟩)
    · rw [le_gbest _ _ _ _ hc]
      refine exists_congr fun v => ?_
      rw [gbelow_at]
      split
      · rename_i hv
        rw [gtop_at] at hv
        exact ⟨fun h => absurd h (not_le.mpr hc), fun h => absurd hv h.1⟩
      · rename_i hv
        rw [gtop_at] at hv
        exact ⟨fun h => ⟨hv, h⟩, fun h => h.2⟩

/-- Group `j`'s value against group `i`'s: the first index is `i`, the second `j`. -/
def valJ {α : Type} (g : S8x16384.Idx → α) : S8x8x16384.Idx → α :=
  broadcastInDim S8x8x16384 ![0, 1, 2] bcast_S1x8x16384_S8x8x16384_0_1_2 (broadcastInDim S1x8x16384 ![1, 2] bcast_S8x16384_S1x8x16384_1_2 g)
def valI {α : Type} (g : S8x16384.Idx → α) : S8x8x16384.Idx → α :=
  broadcastInDim S8x8x16384 ![0, 1, 2] bcast_S8x1x16384_S8x8x16384_0_1_2 (broadcastInDim S8x1x16384 ![0, 2] bcast_S8x16384_S8x1x16384_0_2 g)
/-- Whether group `j` comes before group `i`. -/
def before (g : FVec Ideal S8x16384 .f32) : IVec S8x8x16384 1 :=
  ori (cmpf .ogt (valJ g) (valI g)) (andi (cmpf .oeq (valJ g) (valI g)) (cmpi .slt (iotaInDim S8x8x16384 32 1) (iotaInDim S8x8x16384 32 0)))
/-- How many groups come before each. -/
def rank (g : FVec Ideal S8x16384 .f32) : IVec S8x16384 32 :=
  Host.reduce IntOp.addi (extui 32 (before g) natLt_1_32) (constantI S_ 32 0#32) reducesTo_S8x8x16384_S8x16384_d1 h_S_
/-- Whether a group is kept. -/
def keepG (g : FVec Ideal S8x16384 .f32) : IVec S8x16384 1 :=
  cmpi .slt (rank g) (broadcastInDim S8x16384 ![] bcast_S_S8x16384 (constantI S_ 32 4#32))
/-- Whether an expert is. -/
def keptOf (g : FVec Ideal S8x16384 .f32) : IVec S256x16384 1 :=
  shapeCast S256x16384 (gdown (keepG g)) shapeCasts_S8x32x16384_S256x16384

theorem valJ_at {α : Type} (g : S8x16384.Idx → α) (i j : Fin 8) (t : Fin 16384) : valJ g (ix3 i j t) = g (ix2 j t) := by
  pointwise [valJ]
theorem valI_at {α : Type} (g : S8x16384.Idx → α) (i j : Fin 8) (t : Fin 16384) : valI g (ix3 i j t) = g (ix2 i t) := by
  pointwise [valI]

theorem andi_one {S : Shape} (a b : IVec S 1) (i : S.Idx) : andi a b i = 1#1 ↔ a i = 1#1 ∧ b i = 1#1 := and_one (a i) (b i)

theorem ogt_one {S : Shape} (a b : FVec Ideal S .f32) (i : S.Idx) : cmpf .ogt a b i = 1#1 ↔ (b i : EReal) < a i := by
  show Ideal.cmp .ogt (a i) (b i) = 1#1 ↔ _
  rw [cmp_ogt, ofBool_one, decide_eq_true_eq]

theorem before_at (g : FVec Ideal S8x16384 .f32) (i j : Fin 8) (t : Fin 16384) :
    before g (ix3 i j t) = 1#1 ↔ Beats (fun s => (g (ix2 s t) : EReal)) i j := by
  have h : cmpi .slt (iotaInDim S8x8x16384 32 1) (iotaInDim S8x8x16384 32 0) (ix3 i j t) = 1#1 ↔ j < i := by
    have e1 : iotaInDim S8x8x16384 32 1 (ix3 i j t) = BitVec.ofNat 32 j.val := by pointwise
    have e0 : iotaInDim S8x8x16384 32 0 (ix3 i j t) = BitVec.ofNat 32 i.val := by pointwise
    rw [cmpi_at, e1, e0, slt_one, ofNat_slt (by omega) (by omega), decide_eq_true_eq, Fin.lt_def]
  unfold before
  rw [ori_one, andi_one, h, ogt_one, cmpf_one, valJ_at, valI_at]
  rfl

theorem redr : Shape.Reduces S8x8x16384 [1] S8x16384 := by decide

theorem liftr (s v : Fin 8) (t : Fin 16384) : redr.lift (ix2 s t) v = ix3 s v t := by
  funext a; fin_cases a <;> rfl

/-- How many groups beat a group. -/
theorem rank_at (g : FVec Ideal S8x16384 .f32) (i : Fin 8) (t : Fin 16384) : rank g (ix2 i t) = rankW (fun s => (g (ix2 s t) : EReal)) i := by
  classical
  unfold rank
  rw [Host.reduce_eq_fold_single _ _ _ _ redr]
  have h2 : extui 32 (before g) natLt_1_32 ∘ redr.lift (ix2 i t) = fun j : Fin 8 => beatsW (fun s => (g (ix2 s t) : EReal)) i j := by
    refine funext fun j : Fin 8 => ?_
    refine (congrArg (extui 32 (before g) natLt_1_32) (liftr i j t)).trans ?_
    rw [extui_at]
    unfold beatsW
    by_cases hb : before g (ix3 i j t) = 1#1
    · rw [if_pos ((before_at g i j t).mp hb), hb]; rfl
    · rw [if_neg fun h => hb ((before_at g i j t).mpr h), fold_count.eq_zero_of_ne_one hb]; rfl
  rw [h2]
  rfl

/-- Whether a group is kept. -/
theorem keepG_at (g : FVec Ideal S8x16384 .f32) (i : Fin 8) (t : Fin 16384) : keepG g (ix2 i t) = 1#1 ↔ Keep (fun s => (g (ix2 s t) : EReal)) i := by
  have e : (broadcastInDim S8x16384 ![] bcast_S_S8x16384 (constantI S_ 32 4#32) : IVec S8x16384 32) (ix2 i t) = 4 := by
    pointwise
    try rfl
  unfold keepG Keep
  rw [cmpi_at, e, rank_at, slt_one]

/-- An expert in its group. -/
theorem grouped_at (ch : FVec Ideal S256x16384 .f32) (s : Fin 8) (v : Fin 32) (t : Fin 16384) : grouped ch (ix3 s v t) = ch (ix2 (expert s v) t) := by
  refine shapeCast_apply (s := S256x16384) ch _ _ _ ?_
  rw [Shape.rowMajor_val_two, Shape.rowMajor_val_three]
  show (32 * s.val + v.val) * 16384 + t.val = (s.val * 32 + v.val) * 16384 + t.val
  omega

/-- The kept experts at one token. -/
theorem keptOf_at (ch : FVec Ideal S256x16384 .f32) (e : Fin 256) (t : Fin 16384) :
    keptOf (gsum (grouped ch)) (ix2 e t) = 1#1 ↔ Kept (col ch t) (groupOf e) := by
  have h : keptOf (gsum (grouped ch)) (ix2 e t) = gdown (keepG (gsum (grouped ch))) (ix3 (groupOf e) (placeOf e) t) := by
    refine shapeCast_apply (s := S8x32x16384) _ _ _ _ ?_
    rw [Shape.rowMajor_val_two, Shape.rowMajor_val_three]
    show (e.val / 32 * 32 + e.val % 32) * 16384 + t.val = e.val * 16384 + t.val
    omega
  rw [h, gdown_at, keepG_at]
  have hg : (fun s => (gsum (grouped ch) (ix2 s t) : EReal)) = gscore (col ch t) := by
    funext s
    rw [gsum_at, gscore]
    simp only [grouped_at]
    rfl
  rw [hg]
  rfl

end Cert.ReferenceIdeal.Route
-- ==== Proof.RefScore.lean ====
/-
  The reference's scores of all tokens as arrays, one row an expert and one column a token, and what they are at one token.
-/
module

public import proofs.«01_k».proof.Proof.RefGroup
import Idealize.ShloMosaic.Lib.Pipeline.ValueKit
import Idealize.ShloMosaic.Lib.Pipeline.Value
import Idealize.ShloMosaic.Lib.ValueLayout

@[expose] public section

noncomputable section

namespace Cert.ReferenceIdeal.Route

open Idealize.ShloMosaic Cert.ReferenceIdeal Cert.ReferenceIdeal.Gen Cert.Top

/-- The codes times their block scales, a row a token. -/
def scaled (x : FVec Ideal S8x2048x3072 .bf16) (xs : FVec Ideal S8x2048x24 .f32) : FVec Ideal S16384x3072 .bf16 :=
  shapeCast S16384x3072 (mulf (shapeCast S8x2048x24x128 x shapeCasts_S8x2048x3072_S8x2048x24x128)
    (broadcastInDim S8x2048x24x128 ![0, 1, 2, 3] bcast_S8x2048x24x1_S8x2048x24x128_0_1_2_3
      (broadcastInDim S8x2048x24x1 ![0, 1, 2] bcast_S8x2048x24_S8x2048x24x1_0_1_2 (truncf .bf16 xs bitsLt_bf16_f32)))) shapeCasts_S8x2048x24x128_S16384x3072
/-- The products with the gate. -/
def products (x : FVec Ideal S8x2048x3072 .bf16) (xs : FVec Ideal S8x2048x24 .f32) (w : FVec Ideal S3072x256 .bf16) : FVec Ideal S256x16384 .f32 :=
  Host.dotGeneral dot_S3072x256_S16384x3072_S256x16384_0_1_1_0_n_n none w (scaled x xs)
/-- One number per expert, for every token. -/
def across (v : FVec Ideal S256 .f32) : FVec Ideal S256x16384 .f32 :=
  broadcastInDim S256x16384 ![0, 1] bcast_S256x1_S256x16384_0_1 (broadcastInDim S256x1 ![0] bcast_S256_S256x1_0 v)
/-- One everywhere. -/
def ones : FVec Ideal S256x16384 .f32 := broadcastInDim S256x16384 ![] bcast_S_S256x16384 (constant (F := Ideal) S_ .f32 0x3F800000#32)
/-- The scores. -/
def scoresOf (x : FVec Ideal S8x2048x3072 .bf16) (xs : FVec Ideal S8x2048x24 .f32) (w : FVec Ideal S3072x256 .bf16) (ws : FVec Ideal S256 .f32) :
    FVec Ideal S256x16384 .f32 :=
  Host.divf ones (addf ones (Host.exp (Host.negf (mulf (products x xs w) (across ws)))))
/-- The biased scores. -/
def choicesOf (x : FVec Ideal S8x2048x3072 .bf16) (xs : FVec Ideal S8x2048x24 .f32) (w : FVec Ideal S3072x256 .bf16) (ws eb : FVec Ideal S256 .f32) :
    FVec Ideal S256x16384 .f32 := addf (scoresOf x xs w ws) (across eb)

/-- The column of token `(b, n)`. -/
def tokenOf (b : Fin 8) (n : Fin 2048) : Fin 16384 := ⟨2048 * b.val + n.val, by omega⟩

/-- A token's code times its scale. -/
theorem scaled_at (x : FVec Ideal S8x2048x3072 .bf16) (xs : FVec Ideal S8x2048x24 .f32) (b : Fin 8) (n : Fin 2048) (d : Fin 3072) :
    (scaled x xs (ix2 (tokenOf b n) d) : EReal) = (x (ix3 b n d) * xs (ix3 b n (blockOf d)) : EReal) := by
  unfold scaled
  rw [shapeCast_apply (s := S8x2048x24x128) _ _ (ix2 (tokenOf b n) d) (ix4 b n (blockOf d) (inBlock d)) ?_]
  · pointwise
    refine congrArg (fun z : Fin 3072 => (x (ix3 b n z) * xs (ix3 b n (blockOf d)) : EReal)) (Fin.ext ?_)
    show d.val / 128 * 128 + d.val % 128 = d.val
    omega
  · rw [Shape.rowMajor_val_two, Shape.rowMajor_val_four]
    show ((b.val * 2048 + n.val) * 24 + d.val / 128) * 128 + d.val % 128 = (2048 * b.val + n.val) * 3072 + d.val
    omega

/-- A product with the gate is a sum over the features. -/
theorem products_at (x : FVec Ideal S8x2048x3072 .bf16) (xs : FVec Ideal S8x2048x24 .f32) (w : FVec Ideal S3072x256 .bf16) (e : Fin 256) (b : Fin 8) (n : Fin 2048) :
    (products x xs w (ix2 e (tokenOf b n)) : EReal) = ∑ d : Fin 3072, (w (ix2 d e) * (x (ix3 b n d) * xs (ix3 b n (blockOf d))) : EReal) := by
  simp only [← scaled_at]
  pointwise [products]

/-- One number per expert, repeated along the tokens. -/
theorem across_at (v : FVec Ideal S256 .f32) (e : Fin 256) (t : Fin 16384) : across v (ix2 e t) = v (ix1 e) := by
  pointwise [across]

theorem ones_at (e : Fin 256) (t : Fin 16384) : ones (ix2 e t) = (1 : EReal) := by
  pointwise [ones]

theorem logistic_at {S : Shape} (o z : FVec Ideal S .f32) (i : S.Idx) (h : o i = (1 : EReal)) :
    (Host.divf o (addf o (Host.exp (Host.negf z))) i : EReal) = Ideal.logistic (z i) := by
  pointwise
  rw [h]
  rfl

theorem mulf_at {S : Shape} (a b : FVec Ideal S .f32) (i : S.Idx) : (mulf a b i : EReal) = (a i * b i : EReal) := rfl

/-- The array of scores at a token. -/
theorem scoresOf_at (x : FVec Ideal S8x2048x3072 .bf16) (xs : FVec Ideal S8x2048x24 .f32) (w : FVec Ideal S3072x256 .bf16) (ws : FVec Ideal S256 .f32)
    (b : Fin 8) (n : Fin 2048) : col (scoresOf x xs w ws) (tokenOf b n) = Cert.Top.score x xs w ws b n := by
  funext e
  unfold col scoresOf
  rw [logistic_at _ _ _ (ones_at e (tokenOf b n)), mulf_at, products_at, across_at]
  rfl

/-- The array of biased scores at a token. -/
theorem choicesOf_at (x : FVec Ideal S8x2048x3072 .bf16) (xs : FVec Ideal S8x2048x24 .f32) (w : FVec Ideal S3072x256 .bf16) (ws eb : FVec Ideal S256 .f32)
    (b : Fin 8) (n : Fin 2048) : col (choicesOf x xs w ws eb) (tokenOf b n) = Cert.Top.choice x xs w ws eb b n := by
  funext e
  have h := congrFun (scoresOf_at x xs w ws b n) e
  unfold col at h ⊢
  unfold choicesOf
  rw [addf_at, h, across_at]
  rfl

end Cert.ReferenceIdeal.Route
-- ==== Proof.RefRead.lean ====
/-
  What each stretch of the reference's host operations leaves, over whatever it finds.
-/
module

public import proofs.«01_k».proof.Proof.RefLine
public import proofs.«01_k».proof.Proof.RefScore

@[expose] public section

set_option maxRecDepth 100000

noncomputable section

namespace Cert.ReferenceIdeal.Route

open Idealize.ShloMosaic Idealize.ShloMosaic.TcCoe Cert.ReferenceIdeal Cert.ReferenceIdeal.Gen Cert.Top Idealize.SL.Sem

variable (V : Valuation τ sig (Elt Ideal))

/-- The four experts' numbers, a row each, laid out as the first result. -/
def layNums (a b c d : IVec S16384 32) : IVec S8x2048x4 32 :=
  shapeCast S8x2048x4 (transpose S16384x4 [1, 0] (concatenate S4x16384 0
    [⟨S1x16384, broadcastInDim S1x16384 ![1] bcast_S16384_S1x16384_1 a⟩, ⟨S1x16384, broadcastInDim S1x16384 ![1] bcast_S16384_S1x16384_1 b⟩,
     ⟨S1x16384, broadcastInDim S1x16384 ![1] bcast_S16384_S1x16384_1 c⟩, ⟨S1x16384, broadcastInDim S1x16384 ![1] bcast_S16384_S1x16384_1 d⟩]
    concatenates_S1x16384_S1x16384_S1x16384_S1x16384_S4x16384_d0) transposes_S4x16384_S16384x4_1_0) shapeCasts_S16384x4_S8x2048x4
/-- The four scores over their sum, times two and a half, laid out as the second result. -/
def layWeights (a b c d t : FVec Ideal S16384 .f32) : FVec Ideal S8x2048x4 .f32 :=
  shapeCast S8x2048x4 (transpose S16384x4 [1, 0] (mulf (Host.divf (concatenate S4x16384 0
    [⟨S1x16384, broadcastInDim S1x16384 ![1] bcast_S16384_S1x16384_1 a⟩, ⟨S1x16384, broadcastInDim S1x16384 ![1] bcast_S16384_S1x16384_1 b⟩,
     ⟨S1x16384, broadcastInDim S1x16384 ![1] bcast_S16384_S1x16384_1 c⟩, ⟨S1x16384, broadcastInDim S1x16384 ![1] bcast_S16384_S1x16384_1 d⟩]
    concatenates_S1x16384_S1x16384_S1x16384_S1x16384_S4x16384_d0) (broadcastInDim S4x16384 ![0, 1] bcast_S1x16384_S4x16384_0_1 (broadcastInDim S1x16384 ![1] bcast_S16384_S1x16384_1 t)))
    (broadcastInDim S4x16384 ![] bcast_S_S4x16384 (constant (F := Ideal) S_ .f32 0x40200000#32))) transposes_S4x16384_S16384x4_1_0) shapeCasts_S16384x4_S8x2048x4

/-- What each stretch leaves in each buffer that is read later, from the buffers before it. -/
theorem read16 : StableHlo.after (seg0 (F := Ideal)) V (Proc.devRef .tc main_v16) =
    scoresOf (V (Proc.devRef .tc main_v0_0)) (V (Proc.devRef .tc main_arg1)) (V (Proc.devRef .tc main_v0_1)) (V (Proc.devRef .tc main_arg3)) := by
  after_results
  unfold scoresOf products scaled across ones
  rfl

theorem read19 : StableHlo.after (seg0 (F := Ideal)) V (Proc.devRef .tc main_v19) =
    choicesOf (V (Proc.devRef .tc main_v0_0)) (V (Proc.devRef .tc main_arg1)) (V (Proc.devRef .tc main_v0_1)) (V (Proc.devRef .tc main_arg3)) (V (Proc.devRef .tc main_arg4)) := by
  after_results
  unfold choicesOf scoresOf products scaled across ones
  rfl

theorem read33 : StableHlo.after (seg1 (F := Ideal)) V (Proc.devRef .tc main_v33) =
    gsum (grouped (V (Proc.devRef .tc main_v19))) := by
  after_results
  unfold gsum gbest gtwice gcount gbelow gtop gdown gninf gbest grouped
  rfl

theorem read53 : StableHlo.after (seg2 (F := Ideal)) V (Proc.devRef .tc main_v53) =
    keptOf (V (Proc.devRef .tc main_v33)) := by
  after_results
  unfold keptOf keepG rank before valI valJ gdown
  rfl

theorem read54 : StableHlo.after (seg3 (F := Ideal)) V (Proc.devRef .tc main_v54) =
    ninf := by
  after_results
  unfold ninf
  rfl

theorem read55 : StableHlo.after (seg3 (F := Ideal)) V (Proc.devRef .tc main_v55) =
    nums := by
  after_results
  unfold nums
  rfl

theorem read56 : StableHlo.after (seg3 (F := Ideal)) V (Proc.devRef .tc main_v56) =
    noneOf := by
  after_results
  unfold noneOf
  rfl

theorem read57 : StableHlo.after (seg3 (F := Ideal)) V (Proc.devRef .tc main_v57) =
    zeros := by
  after_results
  unfold zeros
  rfl

theorem read58 : StableHlo.after (seg3 (F := Ideal)) V (Proc.devRef .tc main_v58) =
    maskedOf (V (Proc.devRef .tc main_v53)) (V (Proc.devRef .tc main_v19)) := by
  after_results
  unfold maskedOf ninf
  rfl

theorem read59 : StableHlo.after (seg4 (F := Ideal)) V (Proc.devRef .tc main_v59) =
    best (V (Proc.devRef .tc main_v58)) := by
  after_results
  unfold best
  rfl

theorem read64 (h55 : V (Proc.devRef .tc main_v55) = nums) (h56 : V (Proc.devRef .tc main_v56) = noneOf) : StableHlo.after (seg4 (F := Ideal)) V (Proc.devRef .tc main_v64) =
    lowest (hits (V (Proc.devRef .tc main_v58))) := by
  after_results
  rw [h55, h56]
  unfold lowest hits down best
  rfl

theorem read69 (h55 : V (Proc.devRef .tc main_v55) = nums) (h56 : V (Proc.devRef .tc main_v56) = noneOf) (h57 : V (Proc.devRef .tc main_v57) = zeros) : StableHlo.after (seg4 (F := Ideal)) V (Proc.devRef .tc main_v69) =
    valueAt (lowest (hits (V (Proc.devRef .tc main_v58)))) (V (Proc.devRef .tc main_v16)) := by
  after_results
  rw [h55, h56, h57]
  unfold valueAt lowest hits down best
  rfl

theorem read75 (h55 : V (Proc.devRef .tc main_v55) = nums) (h56 : V (Proc.devRef .tc main_v56) = noneOf) : StableHlo.after (seg4 (F := Ideal)) V (Proc.devRef .tc main_v75) =
    lowest (keptHits (V (Proc.devRef .tc main_v53)) (V (Proc.devRef .tc main_v19)) (V (Proc.devRef .tc main_v58))) := by
  after_results
  rw [h55, h56]
  unfold lowest keptHits down best
  rfl

theorem read80 (h55 : V (Proc.devRef .tc main_v55) = nums) (h56 : V (Proc.devRef .tc main_v56) = noneOf) (h57 : V (Proc.devRef .tc main_v57) = zeros) : StableHlo.after (seg4 (F := Ideal)) V (Proc.devRef .tc main_v80) =
    valueAt (lowest (keptHits (V (Proc.devRef .tc main_v53)) (V (Proc.devRef .tc main_v19)) (V (Proc.devRef .tc main_v58)))) (V (Proc.devRef .tc main_v16)) := by
  after_results
  rw [h55, h56, h57]
  unfold valueAt lowest keptHits down best
  rfl

theorem read84 (h54 : V (Proc.devRef .tc main_v54) = ninf) (h55 : V (Proc.devRef .tc main_v55) = nums) (h56 : V (Proc.devRef .tc main_v56) = noneOf) : StableHlo.after (seg4 (F := Ideal)) V (Proc.devRef .tc main_v84) =
    without (V (Proc.devRef .tc main_v58)) := by
  after_results
  rw [h54, h55, h56]
  unfold without lowest hits down best
  rfl

theorem read85 : StableHlo.after (seg5 (F := Ideal)) V (Proc.devRef .tc main_v85) =
    best (V (Proc.devRef .tc main_v84)) := by
  after_results
  unfold best
  rfl

theorem read90 (h55 : V (Proc.devRef .tc main_v55) = nums) (h56 : V (Proc.devRef .tc main_v56) = noneOf) : StableHlo.after (seg5 (F := Ideal)) V (Proc.devRef .tc main_v90) =
    lowest (hits (V (Proc.devRef .tc main_v84))) := by
  after_results
  rw [h55, h56]
  unfold lowest hits down best
  rfl

theorem read95 (h55 : V (Proc.devRef .tc main_v55) = nums) (h56 : V (Proc.devRef .tc main_v56) = noneOf) (h57 : V (Proc.devRef .tc main_v57) = zeros) : StableHlo.after (seg5 (F := Ideal)) V (Proc.devRef .tc main_v95) =
    valueAt (lowest (hits (V (Proc.devRef .tc main_v84)))) (V (Proc.devRef .tc main_v16)) := by
  after_results
  rw [h55, h56, h57]
  unfold valueAt lowest hits down best
  rfl

theorem read101 (h55 : V (Proc.devRef .tc main_v55) = nums) (h56 : V (Proc.devRef .tc main_v56) = noneOf) : StableHlo.after (seg5 (F := Ideal)) V (Proc.devRef .tc main_v101) =
    lowest (keptHits (V (Proc.devRef .tc main_v53)) (V (Proc.devRef .tc main_v19)) (V (Proc.devRef .tc main_v84))) := by
  after_results
  rw [h55, h56]
  unfold lowest keptHits down best
  rfl

theorem read106 (h55 : V (Proc.devRef .tc main_v55) = nums) (h56 : V (Proc.devRef .tc main_v56) = noneOf) (h57 : V (Proc.devRef .tc main_v57) = zeros) : StableHlo.after (seg5 (F := Ideal)) V (Proc.devRef .tc main_v106) =
    valueAt (lowest (keptHits (V (Proc.devRef .tc main_v53)) (V (Proc.devRef .tc main_v19)) (V (Proc.devRef .tc main_v84)))) (V (Proc.devRef .tc main_v16)) := by
  after_results
  rw [h55, h56, h57]
  unfold valueAt lowest keptHits down best
  rfl

theorem read110 (h54 : V (Proc.devRef .tc main_v54) = ninf) (h55 : V (Proc.devRef .tc main_v55) = nums) (h56 : V (Proc.devRef .tc main_v56) = noneOf) : StableHlo.after (seg5 (F := Ideal)) V (Proc.devRef .tc main_v110) =
    without (V (Proc.devRef .tc main_v84)) := by
  after_results
  rw [h54, h55, h56]
  unfold without lowest hits down best
  rfl

theorem read111 : StableHlo.after (seg6 (F := Ideal)) V (Proc.devRef .tc main_v111) =
    best (V (Proc.devRef .tc main_v110)) := by
  after_results
  unfold best
  rfl

theorem read116 (h55 : V (Proc.devRef .tc main_v55) = nums) (h56 : V (Proc.devRef .tc main_v56) = noneOf) : StableHlo.after (seg6 (F := Ideal)) V (Proc.devRef .tc main_v116) =
    lowest (hits (V (Proc.devRef .tc main_v110))) := by
  after_results
  rw [h55, h56]
  unfold lowest hits down best
  rfl

theorem read121 (h55 : V (Proc.devRef .tc main_v55) = nums) (h56 : V (Proc.devRef .tc main_v56) = noneOf) (h57 : V (Proc.devRef .tc main_v57) = zeros) : StableHlo.after (seg6 (F := Ideal)) V (Proc.devRef .tc main_v121) =
    valueAt (lowest (hits (V (Proc.devRef .tc main_v110)))) (V (Proc.devRef .tc main_v16)) := by
  after_results
  rw [h55, h56, h57]
  unfold valueAt lowest hits down best
  rfl

theorem read127 (h55 : V (Proc.devRef .tc main_v55) = nums) (h56 : V (Proc.devRef .tc main_v56) = noneOf) : StableHlo.after (seg6 (F := Ideal)) V (Proc.devRef .tc main_v127) =
    lowest (keptHits (V (Proc.devRef .tc main_v53)) (V (Proc.devRef .tc main_v19)) (V (Proc.devRef .tc main_v110))) := by
  after_results
  rw [h55, h56]
  unfold lowest keptHits down best
  rfl

theorem read132 (h55 : V (Proc.devRef .tc main_v55) = nums) (h56 : V (Proc.devRef .tc main_v56) = noneOf) (h57 : V (Proc.devRef .tc main_v57) = zeros) : StableHlo.after (seg6 (F := Ideal)) V (Proc.devRef .tc main_v132) =
    valueAt (lowest (keptHits (V (Proc.devRef .tc main_v53)) (V (Proc.devRef .tc main_v19)) (V (Proc.devRef .tc main_v110)))) (V (Proc.devRef .tc main_v16)) := by
  after_results
  rw [h55, h56, h57]
  unfold valueAt lowest keptHits down best
  rfl

theorem read136 (h54 : V (Proc.devRef .tc main_v54) = ninf) (h55 : V (Proc.devRef .tc main_v55) = nums) (h56 : V (Proc.devRef .tc main_v56) = noneOf) : StableHlo.after (seg6 (F := Ideal)) V (Proc.devRef .tc main_v136) =
    without (V (Proc.devRef .tc main_v110)) := by
  after_results
  rw [h54, h55, h56]
  unfold without lowest hits down best
  rfl

theorem read137 : StableHlo.after (seg7 (F := Ideal)) V (Proc.devRef .tc main_v137) =
    best (V (Proc.devRef .tc main_v136)) := by
  after_results
  unfold best
  rfl

theorem read142 (h55 : V (Proc.devRef .tc main_v55) = nums) (h56 : V (Proc.devRef .tc main_v56) = noneOf) : StableHlo.after (seg7 (F := Ideal)) V (Proc.devRef .tc main_v142) =
    lowest (hits (V (Proc.devRef .tc main_v136))) := by
  after_results
  rw [h55, h56]
  unfold lowest hits down best
  rfl

theorem read147 (h55 : V (Proc.devRef .tc main_v55) = nums) (h56 : V (Proc.devRef .tc main_v56) = noneOf) (h57 : V (Proc.devRef .tc main_v57) = zeros) : StableHlo.after (seg7 (F := Ideal)) V (Proc.devRef .tc main_v147) =
    valueAt (lowest (hits (V (Proc.devRef .tc main_v136)))) (V (Proc.devRef .tc main_v16)) := by
  after_results
  rw [h55, h56, h57]
  unfold valueAt lowest hits down best
  rfl

theorem read153 (h55 : V (Proc.devRef .tc main_v55) = nums) (h56 : V (Proc.devRef .tc main_v56) = noneOf) : StableHlo.after (seg7 (F := Ideal)) V (Proc.devRef .tc main_v153) =
    lowest (keptHits (V (Proc.devRef .tc main_v53)) (V (Proc.devRef .tc main_v19)) (V (Proc.devRef .tc main_v136))) := by
  after_results
  rw [h55, h56]
  unfold lowest keptHits down best
  rfl

theorem read158 (h55 : V (Proc.devRef .tc main_v55) = nums) (h56 : V (Proc.devRef .tc main_v56) = noneOf) (h57 : V (Proc.devRef .tc main_v57) = zeros) : StableHlo.after (seg7 (F := Ideal)) V (Proc.devRef .tc main_v158) =
    valueAt (lowest (keptHits (V (Proc.devRef .tc main_v53)) (V (Proc.devRef .tc main_v19)) (V (Proc.devRef .tc main_v136)))) (V (Proc.devRef .tc main_v16)) := by
  after_results
  rw [h55, h56, h57]
  unfold valueAt lowest keptHits down best
  rfl

/-- `tied`, from the four bests. -/
def tiedOf (a b c d : FVec Ideal S16384 .f32) : IVec S16384 1 :=
  ori (ori (ori (cmpf .oeq a b) (cmpf .oeq b c)) (cmpf .oeq c d)) (cmpf .oeq d ninf1)

theorem read170 : StableHlo.after (seg8 (F := Ideal)) V (Proc.devRef .tc main_v170) =
    tiedOf (V (Proc.devRef .tc main_v59)) (V (Proc.devRef .tc main_v85)) (V (Proc.devRef .tc main_v111)) (V (Proc.devRef .tc main_v137)) := by
  after_results
  unfold tiedOf ninf1
  rfl

theorem read171 : StableHlo.after (seg9 (F := Ideal)) V (Proc.devRef .tc main_v171) =
    (select (V (Proc.devRef .tc main_v170) : IVec S16384 1) (V (Proc.devRef .tc main_v75)) (V (Proc.devRef .tc main_v64)) : IVec S16384 32) := by
  after_results

theorem read175 : StableHlo.after (seg9 (F := Ideal)) V (Proc.devRef .tc main_v175) =
    (select (V (Proc.devRef .tc main_v170) : IVec S16384 1) (V (Proc.devRef .tc main_v80)) (V (Proc.devRef .tc main_v69)) : FVec Ideal S16384 .f32) := by
  after_results

theorem read172 : StableHlo.after (seg9 (F := Ideal)) V (Proc.devRef .tc main_v172) =
    (select (V (Proc.devRef .tc main_v170) : IVec S16384 1) (V (Proc.devRef .tc main_v101)) (V (Proc.devRef .tc main_v90)) : IVec S16384 32) := by
  after_results

theorem read176 : StableHlo.after (seg9 (F := Ideal)) V (Proc.devRef .tc main_v176) =
    (select (V (Proc.devRef .tc main_v170) : IVec S16384 1) (V (Proc.devRef .tc main_v106)) (V (Proc.devRef .tc main_v95)) : FVec Ideal S16384 .f32) := by
  after_results

theorem read173 : StableHlo.after (seg9 (F := Ideal)) V (Proc.devRef .tc main_v173) =
    (select (V (Proc.devRef .tc main_v170) : IVec S16384 1) (V (Proc.devRef .tc main_v127)) (V (Proc.devRef .tc main_v116)) : IVec S16384 32) := by
  after_results

theorem read177 : StableHlo.after (seg9 (F := Ideal)) V (Proc.devRef .tc main_v177) =
    (select (V (Proc.devRef .tc main_v170) : IVec S16384 1) (V (Proc.devRef .tc main_v132)) (V (Proc.devRef .tc main_v121)) : FVec Ideal S16384 .f32) := by
  after_results

theorem read174 : StableHlo.after (seg9 (F := Ideal)) V (Proc.devRef .tc main_v174) =
    (select (V (Proc.devRef .tc main_v170) : IVec S16384 1) (V (Proc.devRef .tc main_v153)) (V (Proc.devRef .tc main_v142)) : IVec S16384 32) := by
  after_results

theorem read178 : StableHlo.after (seg9 (F := Ideal)) V (Proc.devRef .tc main_v178) =
    (select (V (Proc.devRef .tc main_v170) : IVec S16384 1) (V (Proc.devRef .tc main_v158)) (V (Proc.devRef .tc main_v147)) : FVec Ideal S16384 .f32) := by
  after_results

theorem read181 : StableHlo.after (seg9 (F := Ideal)) V (Proc.devRef .tc main_v181) =
    addf (addf (addf (select (V (Proc.devRef .tc main_v170) : IVec S16384 1) (V (Proc.devRef .tc main_v80)) (V (Proc.devRef .tc main_v69)) : FVec Ideal S16384 .f32) (select (V (Proc.devRef .tc main_v170) : IVec S16384 1) (V (Proc.devRef .tc main_v106)) (V (Proc.devRef .tc main_v95)) : FVec Ideal S16384 .f32)) (select (V (Proc.devRef .tc main_v170) : IVec S16384 1) (V (Proc.devRef .tc main_v132)) (V (Proc.devRef .tc main_v121)) : FVec Ideal S16384 .f32)) (select (V (Proc.devRef .tc main_v170) : IVec S16384 1) (V (Proc.devRef .tc main_v158)) (V (Proc.devRef .tc main_v147)) : FVec Ideal S16384 .f32) := by
  after_results

theorem read198 : StableHlo.after (seg10 (F := Ideal)) V (Proc.devRef .tc main_v198) =
    layNums (V (Proc.devRef .tc main_v171)) (V (Proc.devRef .tc main_v172)) (V (Proc.devRef .tc main_v173)) (V (Proc.devRef .tc main_v174)) := by
  after_results
  unfold layNums
  rfl

theorem read200 : StableHlo.after (seg10 (F := Ideal)) V (Proc.devRef .tc main_v200) =
    layWeights (V (Proc.devRef .tc main_v175)) (V (Proc.devRef .tc main_v176)) (V (Proc.devRef .tc main_v177)) (V (Proc.devRef .tc main_v178)) (V (Proc.devRef .tc main_v181)) := by
  after_results
  unfold layWeights
  rfl

end Cert.ReferenceIdeal.Route
-- ==== Proof.RefLay.lean ====
/-
  The reference's two results at an index, from the four experts' numbers and scores of each token.
-/
module

public import proofs.«01_k».proof.Proof.RefRead
import Idealize.ShloMosaic.Lib.Pipeline.ValueKit
import Idealize.ShloMosaic.Lib.Pipeline.Value
import Idealize.ShloMosaic.Lib.ValueLayout

@[expose] public section

noncomputable section

namespace Cert.ReferenceIdeal.Route

open Idealize.ShloMosaic Cert.ReferenceIdeal Cert.ReferenceIdeal.Gen Cert.Top

/-- Four rows stacked, at an index. -/
theorem stack_at {α : Type} (a b c d : S16384.Idx → α) (k : Fin 4) (t : Fin 16384) :
    concatenate S4x16384 0
      [⟨S1x16384, broadcastInDim S1x16384 ![1] bcast_S16384_S1x16384_1 a⟩, ⟨S1x16384, broadcastInDim S1x16384 ![1] bcast_S16384_S1x16384_1 b⟩,
       ⟨S1x16384, broadcastInDim S1x16384 ![1] bcast_S16384_S1x16384_1 c⟩, ⟨S1x16384, broadcastInDim S1x16384 ![1] bcast_S16384_S1x16384_1 d⟩]
      concatenates_S1x16384_S1x16384_S1x16384_S1x16384_S4x16384_d0 (ix2 k t) = ![a, b, c, d] k (ix1 t) := by
  have h : ∀ (k : Fin 4) (t : Fin 16384), broadcastInDim S1x16384 ![1] bcast_S16384_S1x16384_1 (![a, b, c, d] k) (ix2 0 t) = ![a, b, c, d] k (ix1 t) := by
    intro k t
    pointwise
  rw [← h]
  refine concatenate_ofFn_apply (t := S4x16384) (s₁ := S1x16384) 0 (fun k : Fin 4 => broadcastInDim S1x16384 ![1] bcast_S16384_S1x16384_1 (![a, b, c, d] k)) _ rfl 1 rfl (ix2 k t) k ?_ (ix2 0 t) ?_ ?_
  · exact (Nat.div_one _)
  · exact (Nat.mod_one _).symm
  · intro q hq
    fin_cases q
    · exact absurd rfl hq
    · rfl

/-- The array of numbers at an index. -/
theorem layNums_at (a b c d : IVec S16384 32) (i : Fin 8) (n : Fin 2048) (k : Fin 4) :
    layNums a b c d (ix3 i n k) = ![a, b, c, d] k (ix1 (tokenOf i n)) := by
  unfold layNums
  rw [shapeCast_apply (s := S16384x4) _ _ (ix3 i n k) (ix2 (tokenOf i n) k) ?_]
  · rw [← stack_at a b c d k (tokenOf i n)]
    pointwise
  · rw [Shape.rowMajor_val_two, Shape.rowMajor_val_three]
    show (2048 * i.val + n.val) * 4 + k.val = (i.val * 2048 + n.val) * 4 + k.val
    omega

theorem divf_at {S : Shape} (a b : FVec Ideal S .f32) (i : S.Idx) : (Host.divf a b i : EReal) = Ideal.div (a i) (b i) := rfl

/-- The array of weights at an index. -/
theorem layWeights_at (a b c d s : FVec Ideal S16384 .f32) (i : Fin 8) (n : Fin 2048) (k : Fin 4) :
    (layWeights a b c d s (ix3 i n k) : EReal) = (Ideal.div (![a, b, c, d] k (ix1 (tokenOf i n))) (s (ix1 (tokenOf i n))) * Ideal.ofBits .f32 0x40200000#32 : EReal) := by
  unfold layWeights
  rw [shapeCast_apply (s := S16384x4) _ _ (ix3 i n k) (ix2 (tokenOf i n) k) ?_]
  · have ht : ∀ x : FVec Ideal S4x16384 .f32, transpose S16384x4 [1, 0] x transposes_S4x16384_S16384x4_1_0 (ix2 (tokenOf i n) k) = x (ix2 k (tokenOf i n)) := by
      intro x
      pointwise
    have hs : (broadcastInDim S4x16384 ![0, 1] bcast_S1x16384_S4x16384_0_1 (broadcastInDim S1x16384 ![1] bcast_S16384_S1x16384_1 s)) (ix2 k (tokenOf i n)) = s (ix1 (tokenOf i n)) := by
      pointwise
    have hc : (broadcastInDim S4x16384 ![] bcast_S_S4x16384 (constant (F := Ideal) S_ .f32 0x40200000#32)) (ix2 k (tokenOf i n)) = Ideal.ofBits .f32 0x40200000#32 := by
      pointwise
      try rfl
    rw [ht, mulf_at, divf_at, stack_at, hs, hc]
  · rw [Shape.rowMajor_val_two, Shape.rowMajor_val_three]
    show (2048 * i.val + n.val) * 4 + k.val = (i.val * 2048 + n.val) * 4 + k.val
    omega

end Cert.ReferenceIdeal.Route
-- ==== Proof.RefChain.lean ====
/-
  The reference's whole line of host operations, and its run: it ends with the two arrays of the specification.
-/
module

public import proofs.«01_k».proof.Proof.RefLay
import Idealize.ShloMosaic.Lib.Pipeline.ValueKit
import Idealize.ShloMosaic.Lib.Pipeline.Value
import Idealize.ShloMosaic.Lib.ValueLayout

@[expose] public section

set_option maxRecDepth 100000

noncomputable section

namespace Cert.ReferenceIdeal.Route

open Idealize.ShloMosaic Idealize.ShloMosaic.TcCoe Cert.ReferenceIdeal Cert.ReferenceIdeal.Gen Cert.Top Idealize.SL.Sem

/-- The biased scores left before each pick. -/
def x0 (kept : IVec S256x16384 1) (ch : FVec Ideal S256x16384 .f32) : FVec Ideal S256x16384 .f32 := maskedOf kept ch
def x1 (kept : IVec S256x16384 1) (ch : FVec Ideal S256x16384 .f32) : FVec Ideal S256x16384 .f32 := without (x0 kept ch)
def x2 (kept : IVec S256x16384 1) (ch : FVec Ideal S256x16384 .f32) : FVec Ideal S256x16384 .f32 := without (x1 kept ch)
def x3 (kept : IVec S256x16384 1) (ch : FVec Ideal S256x16384 .f32) : FVec Ideal S256x16384 .f32 := without (x2 kept ch)
/-- Whether a token's four bests tie. -/
def tie (kept : IVec S256x16384 1) (ch : FVec Ideal S256x16384 .f32) : IVec S16384 1 := tied (x0 kept ch) (x1 kept ch) (x2 kept ch) (x3 kept ch)
/-- The numbers and scores of the four picks. -/
def num (kept : IVec S256x16384 1) (ch : FVec Ideal S256x16384 .f32) (k : Fin 4) : IVec S16384 32 :=
  pickNum (tie kept ch) kept ch (![x0 kept ch, x1 kept ch, x2 kept ch, x3 kept ch] k)
def val (kept : IVec S256x16384 1) (ch sc : FVec Ideal S256x16384 .f32) (k : Fin 4) : FVec Ideal S16384 .f32 :=
  pickVal (tie kept ch) kept ch (![x0 kept ch, x1 kept ch, x2 kept ch, x3 kept ch] k) sc

/-- The names folded back. -/
theorem x0_eq (kept : IVec S256x16384 1) (ch : FVec Ideal S256x16384 .f32) : maskedOf kept ch = x0 kept ch := by
  unfold x0
  exact Eq.refl _

theorem x1_eq (kept : IVec S256x16384 1) (ch : FVec Ideal S256x16384 .f32) : without (x0 kept ch) = x1 kept ch := by
  unfold x1
  exact Eq.refl _

theorem x2_eq (kept : IVec S256x16384 1) (ch : FVec Ideal S256x16384 .f32) : without (x1 kept ch) = x2 kept ch := by
  unfold x2
  exact Eq.refl _

theorem x3_eq (kept : IVec S256x16384 1) (ch : FVec Ideal S256x16384 .f32) : without (x2 kept ch) = x3 kept ch := by
  unfold x3
  exact Eq.refl _

/-- The members of a list of four. -/
theorem four0 {α : Type} (a b c d : α) : (![a, b, c, d] : Fin 4 → α) 0 = a := rfl
theorem four1 {α : Type} (a b c d : α) : (![a, b, c, d] : Fin 4 → α) 1 = b := rfl
theorem four2 {α : Type} (a b c d : α) : (![a, b, c, d] : Fin 4 → α) 2 = c := rfl
theorem four3 {α : Type} (a b c d : α) : (![a, b, c, d] : Fin 4 → α) 3 = d := rfl

theorem tie_eq (kept : IVec S256x16384 1) (ch : FVec Ideal S256x16384 .f32) :
    tiedOf (best (x0 kept ch)) (best (x1 kept ch)) (best (x2 kept ch)) (best (x3 kept ch)) = tie kept ch := by
  unfold tie tied tiedOf
  exact Eq.refl _

theorem pickNum_eq (T : IVec S16384 1) (kept : IVec S256x16384 1) (ch x : FVec Ideal S256x16384 .f32) :
    (select T (lowest (keptHits kept ch x)) (lowest (hits x)) : IVec S16384 32) = pickNum T kept ch x := by
  unfold pickNum
  exact Eq.refl _

theorem pickVal_eq (T : IVec S16384 1) (kept : IVec S256x16384 1) (ch x sc : FVec Ideal S256x16384 .f32) :
    (select T (valueAt (lowest (keptHits kept ch x)) sc) (valueAt (lowest (hits x)) sc) : FVec Ideal S16384 .f32) = pickVal T kept ch x sc := by
  unfold pickVal
  exact Eq.refl _

theorem num0_eq (kept : IVec S256x16384 1) (ch : FVec Ideal S256x16384 .f32) : pickNum (tie kept ch) kept ch (x0 kept ch) = num kept ch 0 := by
  unfold num
  rw [four0]

theorem val0_eq (kept : IVec S256x16384 1) (ch sc : FVec Ideal S256x16384 .f32) : pickVal (tie kept ch) kept ch (x0 kept ch) sc = val kept ch sc 0 := by
  unfold val
  rw [four0]

theorem num1_eq (kept : IVec S256x16384 1) (ch : FVec Ideal S256x16384 .f32) : pickNum (tie kept ch) kept ch (x1 kept ch) = num kept ch 1 := by
  unfold num
  rw [four1]

theorem val1_eq (kept : IVec S256x16384 1) (ch sc : FVec Ideal S256x16384 .f32) : pickVal (tie kept ch) kept ch (x1 kept ch) sc = val kept ch sc 1 := by
  unfold val
  rw [four1]

theorem num2_eq (kept : IVec S256x16384 1) (ch : FVec Ideal S256x16384 .f32) : pickNum (tie kept ch) kept ch (x2 kept ch) = num kept ch 2 := by
  unfold num
  rw [four2]

theorem val2_eq (kept : IVec S256x16384 1) (ch sc : FVec Ideal S256x16384 .f32) : pickVal (tie kept ch) kept ch (x2 kept ch) sc = val kept ch sc 2 := by
  unfold val
  rw [four2]

theorem num3_eq (kept : IVec S256x16384 1) (ch : FVec Ideal S256x16384 .f32) : pickNum (tie kept ch) kept ch (x3 kept ch) = num kept ch 3 := by
  unfold num
  rw [four3]

theorem val3_eq (kept : IVec S256x16384 1) (ch sc : FVec Ideal S256x16384 .f32) : pickVal (tie kept ch) kept ch (x3 kept ch) sc = val kept ch sc 3 := by
  unfold val
  rw [four3]

set_option maxHeartbeats 4000000 in
/-- What the line leaves in the two results, from the buffers it reads. -/
theorem line (V : Valuation τ sig (Elt Ideal)) (x : FVec Ideal S8x2048x3072 .bf16) (xs : FVec Ideal S8x2048x24 .f32) (w : FVec Ideal S3072x256 .bf16)
    (ws eb : FVec Ideal S256 .f32) (sc ch : FVec Ideal S256x16384 .f32) (kept : IVec S256x16384 1)
    (hsc : sc = scoresOf x xs w ws) (hch : ch = choicesOf x xs w ws eb) (hkept : kept = keptOf (gsum (grouped ch)))
    (hx : V (Proc.devRef .tc main_v0_0) = x) (hxs : V (Proc.devRef .tc main_arg1) = xs) (hw : V (Proc.devRef .tc main_v0_1) = w)
    (hws : V (Proc.devRef .tc main_arg3) = ws) (heb : V (Proc.devRef .tc main_arg4) = eb) :
    StableHlo.after (hostOps1 (F := Ideal)) V (Proc.devRef .tc main_v198) = layNums (num kept ch 0) (num kept ch 1) (num kept ch 2) (num kept ch 3) ∧
    StableHlo.after (hostOps1 (F := Ideal)) V (Proc.devRef .tc main_v200) = layWeights (val kept ch sc 0) (val kept ch sc 1) (val kept ch sc 2) (val kept ch sc 3)
      (addf (addf (addf (val kept ch sc 0) (val kept ch sc 1)) (val kept ch sc 2)) (val kept ch sc 3)) := by
  rw [after_line]

  generalize eV1 : StableHlo.after (seg0 (F := Ideal)) V = V1
  have h16_1 : V1 (Proc.devRef .tc main_v16) = sc := by rw [← eV1, read16 V, hx, hxs, hw, hws, hsc]
  have h19_1 : V1 (Proc.devRef .tc main_v19) = ch := by rw [← eV1, read19 V, hx, hxs, hw, hws, heb, hch]
  generalize eV2 : StableHlo.after (seg1 (F := Ideal)) V1 = V2
  have h16_2 : V2 (Proc.devRef .tc main_v16) = sc := by rw [← eV2, keep1 V1 (by decide +kernel)]; exact h16_1
  have h19_2 : V2 (Proc.devRef .tc main_v19) = ch := by rw [← eV2, keep1 V1 (by decide +kernel)]; exact h19_1
  have h33_2 : V2 (Proc.devRef .tc main_v33) = gsum (grouped ch) := by rw [← eV2, read33 V1, h19_1]
  generalize eV3 : StableHlo.after (seg2 (F := Ideal)) V2 = V3
  have h16_3 : V3 (Proc.devRef .tc main_v16) = sc := by rw [← eV3, keep2 V2 (by decide +kernel)]; exact h16_2
  have h19_3 : V3 (Proc.devRef .tc main_v19) = ch := by rw [← eV3, keep2 V2 (by decide +kernel)]; exact h19_2
  have h53_3 : V3 (Proc.devRef .tc main_v53) = kept := by rw [← eV3, read53 V2, h33_2, hkept]
  generalize eV4 : StableHlo.after (seg3 (F := Ideal)) V3 = V4
  have h16_4 : V4 (Proc.devRef .tc main_v16) = sc := by rw [← eV4, keep3 V3 (by decide +kernel)]; exact h16_3
  have h19_4 : V4 (Proc.devRef .tc main_v19) = ch := by rw [← eV4, keep3 V3 (by decide +kernel)]; exact h19_3
  have h53_4 : V4 (Proc.devRef .tc main_v53) = kept := by rw [← eV4, keep3 V3 (by decide +kernel)]; exact h53_3
  have h54_4 : V4 (Proc.devRef .tc main_v54) = ninf := by rw [← eV4]; exact read54 V3
  have h55_4 : V4 (Proc.devRef .tc main_v55) = nums := by rw [← eV4]; exact read55 V3
  have h56_4 : V4 (Proc.devRef .tc main_v56) = noneOf := by rw [← eV4]; exact read56 V3
  have h57_4 : V4 (Proc.devRef .tc main_v57) = zeros := by rw [← eV4]; exact read57 V3
  have h58_4 : V4 (Proc.devRef .tc main_v58) = x0 kept ch := by rw [← eV4, read58 V3, h53_3, h19_3, x0_eq]
  generalize eV5 : StableHlo.after (seg4 (F := Ideal)) V4 = V5
  have h16_5 : V5 (Proc.devRef .tc main_v16) = sc := by rw [← eV5, keep4 V4 (by decide +kernel)]; exact h16_4
  have h19_5 : V5 (Proc.devRef .tc main_v19) = ch := by rw [← eV5, keep4 V4 (by decide +kernel)]; exact h19_4
  have h53_5 : V5 (Proc.devRef .tc main_v53) = kept := by rw [← eV5, keep4 V4 (by decide +kernel)]; exact h53_4
  have h54_5 : V5 (Proc.devRef .tc main_v54) = ninf := by rw [← eV5, keep4 V4 (by decide +kernel)]; exact h54_4
  have h55_5 : V5 (Proc.devRef .tc main_v55) = nums := by rw [← eV5, keep4 V4 (by decide +kernel)]; exact h55_4
  have h56_5 : V5 (Proc.devRef .tc main_v56) = noneOf := by rw [← eV5, keep4 V4 (by decide +kernel)]; exact h56_4
  have h57_5 : V5 (Proc.devRef .tc main_v57) = zeros := by rw [← eV5, keep4 V4 (by decide +kernel)]; exact h57_4
  have h59_5 : V5 (Proc.devRef .tc main_v59) = best (x0 kept ch) := by rw [← eV5, read59 V4, h58_4]
  have h64_5 : V5 (Proc.devRef .tc main_v64) = lowest (hits (x0 kept ch)) := by rw [← eV5, read64 V4 h55_4 h56_4, h58_4]
  have h69_5 : V5 (Proc.devRef .tc main_v69) = valueAt (lowest (hits (x0 kept ch))) sc := by rw [← eV5, read69 V4 h55_4 h56_4 h57_4, h58_4, h16_4]
  have h75_5 : V5 (Proc.devRef .tc main_v75) = lowest (keptHits kept ch (x0 kept ch)) := by rw [← eV5, read75 V4 h55_4 h56_4, h58_4, h53_4, h19_4]
  have h80_5 : V5 (Proc.devRef .tc main_v80) = valueAt (lowest (keptHits kept ch (x0 kept ch))) sc := by rw [← eV5, read80 V4 h55_4 h56_4 h57_4, h58_4, h53_4, h19_4, h16_4]
  have h84_5 : V5 (Proc.devRef .tc main_v84) = x1 kept ch := by rw [← eV5, read84 V4 h54_4 h55_4 h56_4, h58_4, x1_eq]
  generalize eV6 : StableHlo.after (seg5 (F := Ideal)) V5 = V6
  have h16_6 : V6 (Proc.devRef .tc main_v16) = sc := by rw [← eV6, keep5 V5 (by decide +kernel)]; exact h16_5
  have h19_6 : V6 (Proc.devRef .tc main_v19) = ch := by rw [← eV6, keep5 V5 (by decide +kernel)]; exact h19_5
  have h53_6 : V6 (Proc.devRef .tc main_v53) = kept := by rw [← eV6, keep5 V5 (by decide +kernel)]; exact h53_5
  have h54_6 : V6 (Proc.devRef .tc main_v54) = ninf := by rw [← eV6, keep5 V5 (by decide +kernel)]; exact h54_5
  have h55_6 : V6 (Proc.devRef .tc main_v55) = nums := by rw [← eV6, keep5 V5 (by decide +kernel)]; exact h55_5
  have h56_6 : V6 (Proc.devRef .tc main_v56) = noneOf := by rw [← eV6, keep5 V5 (by decide +kernel)]; exact h56_5
  have h57_6 : V6 (Proc.devRef .tc main_v57) = zeros := by rw [← eV6, keep5 V5 (by decide +kernel)]; exact h57_5
  have h59_6 : V6 (Proc.devRef .tc main_v59) = best (x0 kept ch) := by rw [← eV6, keep5 V5 (by decide +kernel)]; exact h59_5
  have h64_6 : V6 (Proc.devRef .tc main_v64) = lowest (hits (x0 kept ch)) := by rw [← eV6, keep5 V5 (by decide +kernel)]; exact h64_5
  have h69_6 : V6 (Proc.devRef .tc main_v69) = valueAt (lowest (hits (x0 kept ch))) sc := by rw [← eV6, keep5 V5 (by decide +kernel)]; exact h69_5
  have h75_6 : V6 (Proc.devRef .tc main_v75) = lowest (keptHits kept ch (x0 kept ch)) := by rw [← eV6, keep5 V5 (by decide +kernel)]; exact h75_5
  have h80_6 : V6 (Proc.devRef .tc main_v80) = valueAt (lowest (keptHits kept ch (x0 kept ch))) sc := by rw [← eV6, keep5 V5 (by decide +kernel)]; exact h80_5
  have h85_6 : V6 (Proc.devRef .tc main_v85) = best (x1 kept ch) := by rw [← eV6, read85 V5, h84_5]
  have h90_6 : V6 (Proc.devRef .tc main_v90) = lowest (hits (x1 kept ch)) := by rw [← eV6, read90 V5 h55_5 h56_5, h84_5]
  have h95_6 : V6 (Proc.devRef .tc main_v95) = valueAt (lowest (hits (x1 kept ch))) sc := by rw [← eV6, read95 V5 h55_5 h56_5 h57_5, h84_5, h16_5]
  have h101_6 : V6 (Proc.devRef .tc main_v101) = lowest (keptHits kept ch (x1 kept ch)) := by rw [← eV6, read101 V5 h55_5 h56_5, h84_5, h53_5, h19_5]
  have h106_6 : V6 (Proc.devRef .tc main_v106) = valueAt (lowest (keptHits kept ch (x1 kept ch))) sc := by rw [← eV6, read106 V5 h55_5 h56_5 h57_5, h84_5, h53_5, h19_5, h16_5]
  have h110_6 : V6 (Proc.devRef .tc main_v110) = x2 kept ch := by rw [← eV6, read110 V5 h54_5 h55_5 h56_5, h84_5, x2_eq]
  generalize eV7 : StableHlo.after (seg6 (F := Ideal)) V6 = V7
  have h16_7 : V7 (Proc.devRef .tc main_v16) = sc := by rw [← eV7, keep6 V6 (by decide +kernel)]; exact h16_6
  have h19_7 : V7 (Proc.devRef .tc main_v19) = ch := by rw [← eV7, keep6 V6 (by decide +kernel)]; exact h19_6
  have h53_7 : V7 (Proc.devRef .tc main_v53) = kept := by rw [← eV7, keep6 V6 (by decide +kernel)]; exact h53_6
  have h54_7 : V7 (Proc.devRef .tc main_v54) = ninf := by rw [← eV7, keep6 V6 (by decide +kernel)]; exact h54_6
  have h55_7 : V7 (Proc.devRef .tc main_v55) = nums := by rw [← eV7, keep6 V6 (by decide +kernel)]; exact h55_6
  have h56_7 : V7 (Proc.devRef .tc main_v56) = noneOf := by rw [← eV7, keep6 V6 (by decide +kernel)]; exact h56_6
  have h57_7 : V7 (Proc.devRef .tc main_v57) = zeros := by rw [← eV7, keep6 V6 (by decide +kernel)]; exact h57_6
  have h59_7 : V7 (Proc.devRef .tc main_v59) = best (x0 kept ch) := by rw [← eV7, keep6 V6 (by decide +kernel)]; exact h59_6
  have h64_7 : V7 (Proc.devRef .tc main_v64) = lowest (hits (x0 kept ch)) := by rw [← eV7, keep6 V6 (by decide +kernel)]; exact h64_6
  have h69_7 : V7 (Proc.devRef .tc main_v69) = valueAt (lowest (hits (x0 kept ch))) sc := by rw [← eV7, keep6 V6 (by decide +kernel)]; exact h69_6
  have h75_7 : V7 (Proc.devRef .tc main_v75) = lowest (keptHits kept ch (x0 kept ch)) := by rw [← eV7, keep6 V6 (by decide +kernel)]; exact h75_6
  have h80_7 : V7 (Proc.devRef .tc main_v80) = valueAt (lowest (keptHits kept ch (x0 kept ch))) sc := by rw [← eV7, keep6 V6 (by decide +kernel)]; exact h80_6
  have h85_7 : V7 (Proc.devRef .tc main_v85) = best (x1 kept ch) := by rw [← eV7, keep6 V6 (by decide +kernel)]; exact h85_6
  have h90_7 : V7 (Proc.devRef .tc main_v90) = lowest (hits (x1 kept ch)) := by rw [← eV7, keep6 V6 (by decide +kernel)]; exact h90_6
  have h95_7 : V7 (Proc.devRef .tc main_v95) = valueAt (lowest (hits (x1 kept ch))) sc := by rw [← eV7, keep6 V6 (by decide +kernel)]; exact h95_6
  have h101_7 : V7 (Proc.devRef .tc main_v101) = lowest (keptHits kept ch (x1 kept ch)) := by rw [← eV7, keep6 V6 (by decide +kernel)]; exact h101_6
  have h106_7 : V7 (Proc.devRef .tc main_v106) = valueAt (lowest (keptHits kept ch (x1 kept ch))) sc := by rw [← eV7, keep6 V6 (by decide +kernel)]; exact h106_6
  have h111_7 : V7 (Proc.devRef .tc main_v111) = best (x2 kept ch) := by rw [← eV7, read111 V6, h110_6]
  have h116_7 : V7 (Proc.devRef .tc main_v116) = lowest (hits (x2 kept ch)) := by rw [← eV7, read116 V6 h55_6 h56_6, h110_6]
  have h121_7 : V7 (Proc.devRef .tc main_v121) = valueAt (lowest (hits (x2 kept ch))) sc := by rw [← eV7, read121 V6 h55_6 h56_6 h57_6, h110_6, h16_6]
  have h127_7 : V7 (Proc.devRef .tc main_v127) = lowest (keptHits kept ch (x2 kept ch)) := by rw [← eV7, read127 V6 h55_6 h56_6, h110_6, h53_6, h19_6]
  have h132_7 : V7 (Proc.devRef .tc main_v132) = valueAt (lowest (keptHits kept ch (x2 kept ch))) sc := by rw [← eV7, read132 V6 h55_6 h56_6 h57_6, h110_6, h53_6, h19_6, h16_6]
  have h136_7 : V7 (Proc.devRef .tc main_v136) = x3 kept ch := by rw [← eV7, read136 V6 h54_6 h55_6 h56_6, h110_6, x3_eq]
  generalize eV8 : StableHlo.after (seg7 (F := Ideal)) V7 = V8
  have h59_8 : V8 (Proc.devRef .tc main_v59) = best (x0 kept ch) := by rw [← eV8, keep7 V7 (by decide +kernel)]; exact h59_7
  have h64_8 : V8 (Proc.devRef .tc main_v64) = lowest (hits (x0 kept ch)) := by rw [← eV8, keep7 V7 (by decide +kernel)]; exact h64_7
  have h69_8 : V8 (Proc.devRef .tc main_v69) = valueAt (lowest (hits (x0 kept ch))) sc := by rw [← eV8, keep7 V7 (by decide +kernel)]; exact h69_7
  have h75_8 : V8 (Proc.devRef .tc main_v75) = lowest (keptHits kept ch (x0 kept ch)) := by rw [← eV8, keep7 V7 (by decide +kernel)]; exact h75_7
  have h80_8 : V8 (Proc.devRef .tc main_v80) = valueAt (lowest (keptHits kept ch (x0 kept ch))) sc := by rw [← eV8, keep7 V7 (by decide +kernel)]; exact h80_7
  have h85_8 : V8 (Proc.devRef .tc main_v85) = best (x1 kept ch) := by rw [← eV8, keep7 V7 (by decide +kernel)]; exact h85_7
  have h90_8 : V8 (Proc.devRef .tc main_v90) = lowest (hits (x1 kept ch)) := by rw [← eV8, keep7 V7 (by decide +kernel)]; exact h90_7
  have h95_8 : V8 (Proc.devRef .tc main_v95) = valueAt (lowest (hits (x1 kept ch))) sc := by rw [← eV8, keep7 V7 (by decide +kernel)]; exact h95_7
  have h101_8 : V8 (Proc.devRef .tc main_v101) = lowest (keptHits kept ch (x1 kept ch)) := by rw [← eV8, keep7 V7 (by decide +kernel)]; exact h101_7
  have h106_8 : V8 (Proc.devRef .tc main_v106) = valueAt (lowest (keptHits kept ch (x1 kept ch))) sc := by rw [← eV8, keep7 V7 (by decide +kernel)]; exact h106_7
  have h111_8 : V8 (Proc.devRef .tc main_v111) = best (x2 kept ch) := by rw [← eV8, keep7 V7 (by decide +kernel)]; exact h111_7
  have h116_8 : V8 (Proc.devRef .tc main_v116) = lowest (hits (x2 kept ch)) := by rw [← eV8, keep7 V7 (by decide +kernel)]; exact h116_7
  have h121_8 : V8 (Proc.devRef .tc main_v121) = valueAt (lowest (hits (x2 kept ch))) sc := by rw [← eV8, keep7 V7 (by decide +kernel)]; exact h121_7
  have h127_8 : V8 (Proc.devRef .tc main_v127) = lowest (keptHits kept ch (x2 kept ch)) := by rw [← eV8, keep7 V7 (by decide +kernel)]; exact h127_7
  have h132_8 : V8 (Proc.devRef .tc main_v132) = valueAt (lowest (keptHits kept ch (x2 kept ch))) sc := by rw [← eV8, keep7 V7 (by decide +kernel)]; exact h132_7
  have h137_8 : V8 (Proc.devRef .tc main_v137) = best (x3 kept ch) := by rw [← eV8, read137 V7, h136_7]
  have h142_8 : V8 (Proc.devRef .tc main_v142) = lowest (hits (x3 kept ch)) := by rw [← eV8, read142 V7 h55_7 h56_7, h136_7]
  have h147_8 : V8 (Proc.devRef .tc main_v147) = valueAt (lowest (hits (x3 kept ch))) sc := by rw [← eV8, read147 V7 h55_7 h56_7 h57_7, h136_7, h16_7]
  have h153_8 : V8 (Proc.devRef .tc main_v153) = lowest (keptHits kept ch (x3 kept ch)) := by rw [← eV8, read153 V7 h55_7 h56_7, h136_7, h53_7, h19_7]
  have h158_8 : V8 (Proc.devRef .tc main_v158) = valueAt (lowest (keptHits kept ch (x3 kept ch))) sc := by rw [← eV8, read158 V7 h55_7 h56_7 h57_7, h136_7, h53_7, h19_7, h16_7]
  generalize eV9 : StableHlo.after (seg8 (F := Ideal)) V8 = V9
  have h64_9 : V9 (Proc.devRef .tc main_v64) = lowest (hits (x0 kept ch)) := by rw [← eV9, keep8 V8 (by decide +kernel)]; exact h64_8
  have h69_9 : V9 (Proc.devRef .tc main_v69) = valueAt (lowest (hits (x0 kept ch))) sc := by rw [← eV9, keep8 V8 (by decide +kernel)]; exact h69_8
  have h75_9 : V9 (Proc.devRef .tc main_v75) = lowest (keptHits kept ch (x0 kept ch)) := by rw [← eV9, keep8 V8 (by decide +kernel)]; exact h75_8
  have h80_9 : V9 (Proc.devRef .tc main_v80) = valueAt (lowest (keptHits kept ch (x0 kept ch))) sc := by rw [← eV9, keep8 V8 (by decide +kernel)]; exact h80_8
  have h90_9 : V9 (Proc.devRef .tc main_v90) = lowest (hits (x1 kept ch)) := by rw [← eV9, keep8 V8 (by decide +kernel)]; exact h90_8
  have h95_9 : V9 (Proc.devRef .tc main_v95) = valueAt (lowest (hits (x1 kept ch))) sc := by rw [← eV9, keep8 V8 (by decide +kernel)]; exact h95_8
  have h101_9 : V9 (Proc.devRef .tc main_v101) = lowest (keptHits kept ch (x1 kept ch)) := by rw [← eV9, keep8 V8 (by decide +kernel)]; exact h101_8
  have h106_9 : V9 (Proc.devRef .tc main_v106) = valueAt (lowest (keptHits kept ch (x1 kept ch))) sc := by rw [← eV9, keep8 V8 (by decide +kernel)]; exact h106_8
  have h116_9 : V9 (Proc.devRef .tc main_v116) = lowest (hits (x2 kept ch)) := by rw [← eV9, keep8 V8 (by decide +kernel)]; exact h116_8
  have h121_9 : V9 (Proc.devRef .tc main_v121) = valueAt (lowest (hits (x2 kept ch))) sc := by rw [← eV9, keep8 V8 (by decide +kernel)]; exact h121_8
  have h127_9 : V9 (Proc.devRef .tc main_v127) = lowest (keptHits kept ch (x2 kept ch)) := by rw [← eV9, keep8 V8 (by decide +kernel)]; exact h127_8
  have h132_9 : V9 (Proc.devRef .tc main_v132) = valueAt (lowest (keptHits kept ch (x2 kept ch))) sc := by rw [← eV9, keep8 V8 (by decide +kernel)]; exact h132_8
  have h142_9 : V9 (Proc.devRef .tc main_v142) = lowest (hits (x3 kept ch)) := by rw [← eV9, keep8 V8 (by decide +kernel)]; exact h142_8
  have h147_9 : V9 (Proc.devRef .tc main_v147) = valueAt (lowest (hits (x3 kept ch))) sc := by rw [← eV9, keep8 V8 (by decide +kernel)]; exact h147_8
  have h153_9 : V9 (Proc.devRef .tc main_v153) = lowest (keptHits kept ch (x3 kept ch)) := by rw [← eV9, keep8 V8 (by decide +kernel)]; exact h153_8
  have h158_9 : V9 (Proc.devRef .tc main_v158) = valueAt (lowest (keptHits kept ch (x3 kept ch))) sc := by rw [← eV9, keep8 V8 (by decide +kernel)]; exact h158_8
  have h170_9 : V9 (Proc.devRef .tc main_v170) = tie kept ch := by rw [← eV9, read170 V8, h59_8, h85_8, h111_8, h137_8, tie_eq]
  generalize eV10 : StableHlo.after (seg9 (F := Ideal)) V9 = V10
  have h171_10 : V10 (Proc.devRef .tc main_v171) = num kept ch 0 := by rw [← eV10, read171 V9, h170_9, h75_9, h64_9, pickNum_eq, num0_eq]
  have h175_10 : V10 (Proc.devRef .tc main_v175) = val kept ch sc 0 := by rw [← eV10, read175 V9, h170_9, h80_9, h69_9, pickVal_eq, val0_eq]
  have h172_10 : V10 (Proc.devRef .tc main_v172) = num kept ch 1 := by rw [← eV10, read172 V9, h170_9, h101_9, h90_9, pickNum_eq, num1_eq]
  have h176_10 : V10 (Proc.devRef .tc main_v176) = val kept ch sc 1 := by rw [← eV10, read176 V9, h170_9, h106_9, h95_9, pickVal_eq, val1_eq]
  have h173_10 : V10 (Proc.devRef .tc main_v173) = num kept ch 2 := by rw [← eV10, read173 V9, h170_9, h127_9, h116_9, pickNum_eq, num2_eq]
  have h177_10 : V10 (Proc.devRef .tc main_v177) = val kept ch sc 2 := by rw [← eV10, read177 V9, h170_9, h132_9, h121_9, pickVal_eq, val2_eq]
  have h174_10 : V10 (Proc.devRef .tc main_v174) = num kept ch 3 := by rw [← eV10, read174 V9, h170_9, h153_9, h142_9, pickNum_eq, num3_eq]
  have h178_10 : V10 (Proc.devRef .tc main_v178) = val kept ch sc 3 := by rw [← eV10, read178 V9, h170_9, h158_9, h147_9, pickVal_eq, val3_eq]
  have h181_10 : V10 (Proc.devRef .tc main_v181) = addf (addf (addf (val kept ch sc 0) (val kept ch sc 1)) (val kept ch sc 2)) (val kept ch sc 3) := by rw [← eV10, read181 V9, h170_9, h80_9, h69_9, h106_9, h95_9, h132_9, h121_9, h158_9, h147_9, pickVal_eq, pickVal_eq, pickVal_eq, pickVal_eq, val0_eq, val1_eq, val2_eq, val3_eq]
  constructor
  · rw [read198 V10, h171_10, h172_10, h173_10, h174_10]
  · rw [read200 V10, h175_10, h176_10, h177_10, h178_10, h181_10]

/-- The numbers and the scores at one token. -/
theorem num_at (x : FVec Ideal S8x2048x3072 .bf16) (xs : FVec Ideal S8x2048x24 .f32) (w : FVec Ideal S3072x256 .bf16) (ws eb : FVec Ideal S256 .f32)
    (sc ch : FVec Ideal S256x16384 .f32) (kept : IVec S256x16384 1)
    (hsc : sc = scoresOf x xs w ws) (hch : ch = choicesOf x xs w ws eb) (hkept : kept = keptOf (gsum (grouped ch))) (b : Fin 8) (n : Fin 2048) (k : Fin 4) :
    num kept ch k (ix1 (tokenOf b n)) = idOf (choice x xs w ws eb b n) k ∧
    (val kept ch sc k (ix1 (tokenOf b n)) : EReal) = score x xs w ws b n (chosen (choice x xs w ws eb b n) k) := by
  have hc : col ch (tokenOf b n) = choice x xs w ws eb b n := by rw [hch]; exact choicesOf_at x xs w ws eb b n
  have hs : col sc (tokenOf b n) = score x xs w ws b n := by rw [hsc]; exact scoresOf_at x xs w ws b n
  have h := picks_at kept ch sc (x0 kept ch) (x1 kept ch) (x2 kept ch) (x3 kept ch) (x0_eq kept ch).symm (x1_eq kept ch).symm (x2_eq kept ch).symm (x3_eq kept ch).symm (tokenOf b n)
    (fun e => by rw [hkept]; exact keptOf_at ch e (tokenOf b n)) k
  rw [hc, hs] at h
  unfold num val tie
  exact h

end Cert.ReferenceIdeal.Route
-- ==== Proof.RefRun.lean ====
/-
  The reference's run: it ends with the arrays `allIds` and `allWeights` of its arguments.
-/
module

public import proofs.«01_k».proof.Proof.RefChain
public import proofs.«01_k».proof.Proof.Gen.ReferenceIdeal
import Idealize.ShloMosaic.Lib.Pipeline.ValueKit
import Idealize.ShloMosaic.Lib.Pipeline.Value
import Idealize.ShloMosaic.Lib.ValueLayout

@[expose] public section

set_option maxRecDepth 100000

noncomputable section

namespace Cert.ReferenceIdeal.Route

open Idealize.ShloMosaic Idealize.ShloMosaic.TcCoe Cert.ReferenceIdeal Cert.ReferenceIdeal.Gen Cert.Top Idealize.SL.Sem

variable (m : (ℓ : Loc nD τ sig) → Buf (Elt Ideal) ℓ) (c : Dev nD)

/-- The arguments. -/
abbrev ax : FVec Ideal ⟨3, ![8, 2048, 3072]⟩ .fp8e4m3 := m ((c : Thread nD τ).loc main_arg0)
abbrev axs : FVec Ideal ⟨3, ![8, 2048, 24]⟩ .f32 := m ((c : Thread nD τ).loc main_arg1)
abbrev aw : FVec Ideal ⟨2, ![3072, 256]⟩ .fp8e4m3 := m ((c : Thread nD τ).loc main_arg2)
abbrev aws : FVec Ideal ⟨1, ![256]⟩ .f32 := m ((c : Thread nD τ).loc main_arg3)
abbrev aeb : FVec Ideal ⟨1, ![256]⟩ .f32 := m ((c : Thread nD τ).loc main_arg4)

/-- The codes as the widening leaves them: the same numbers. -/
def wideX : FVec Ideal S8x2048x3072 .bf16 := fun i => (ax m c i : EReal)
def wideW : FVec Ideal S3072x256 .bf16 := fun i => (aw m c i : EReal)

/-- A block of the one point grid is the whole array. -/
theorem emb0 (t : Fin cfg0.N) (y : S8x2048x3072.Idx) : ((win0_0.blk t).view.emb y : S8x2048x3072.Idx) = y := by
  funext a
  fin_cases a
  · exact Fin.ext (show 0 * 8 + 1 * (y 0).val = (y 0).val by omega)
  · exact Fin.ext (show 0 * 2048 + 1 * (y 1).val = (y 1).val by omega)
  · exact Fin.ext (show 0 * 3072 + 1 * (y 2).val = (y 2).val by omega)

theorem emb1 (t : Fin cfg0.N) (y : S3072x256.Idx) : ((win0_1.blk t).view.emb y : S3072x256.Idx) = y := by
  funext a
  fin_cases a
  · exact Fin.ext (show 0 * 3072 + 1 * (y 0).val = (y 0).val by omega)
  · exact Fin.ext (show 0 * 256 + 1 * (y 1).val = (y 1).val by omega)

theorem emb2 (t : Fin cfg0.N) (y : S8x2048x3072.Idx) : ((win0_2.blk t).view.emb y : S8x2048x3072.Idx) = y := by
  funext a
  fin_cases a
  · exact Fin.ext (show 0 * 8 + 1 * (y 0).val = (y 0).val by omega)
  · exact Fin.ext (show 0 * 2048 + 1 * (y 1).val = (y 1).val by omega)
  · exact Fin.ext (show 0 * 3072 + 1 * (y 2).val = (y 2).val by omega)

theorem emb3 (t : Fin cfg0.N) (y : S3072x256.Idx) : ((win0_3.blk t).view.emb y : S3072x256.Idx) = y := by
  funext a
  fin_cases a
  · exact Fin.ext (show 0 * 3072 + 1 * (y 0).val = (y 0).val by omega)
  · exact Fin.ext (show 0 * 256 + 1 * (y 1).val = (y 1).val by omega)

/-- Each input block is its argument. -/
theorem blk0 (t : Fin cfg0.N) (y : S8x2048x3072.Idx) : iblk m c 0 t y = ax m c y := by
  blk_simp [iblk]
  exact congrArg (ax m c) (emb0 t y)

theorem blk1 (t : Fin cfg0.N) (y : S3072x256.Idx) : iblk m c 1 t y = aw m c y := by
  blk_simp [iblk]
  exact congrArg (aw m c) (emb1 t y)

/-- What the point leaves: each code, as a number. -/
theorem left2 (x0 : Vec Ideal S8x2048x3072 .fp8e4m3) (x1 : Vec Ideal S3072x256 .fp8e4m3) (y : S8x2048x3072.Idx) : (out0_2 x0 x1 y : EReal) = x0 y := by
  unfold out0_2
  rw [View.canon_cons_unit_zero (by funext a; fin_cases a <;> rfl), View.ld_unit_zero (by funext a; fin_cases a <;> rfl)]
  unfold k0_pay1
  exact Eq.refl _

theorem left3 (x0 : Vec Ideal S8x2048x3072 .fp8e4m3) (x1 : Vec Ideal S3072x256 .fp8e4m3) (y : S3072x256.Idx) : (out0_3 x0 x1 y : EReal) = x1 y := by
  unfold out0_3
  rw [View.canon_cons_unit_zero (by funext a; fin_cases a <;> rfl), View.ld_unit_zero (by funext a; fin_cases a <;> rfl)]
  unfold k0_pay2
  exact Eq.refl _

/-- What the widening leaves in its first result, -/
theorem final2 : (dats m 0 c).arrAt 2 cfg0.N = wideX m c := by
  refine (dats m 0 c).arrAt_eq_of_covers 2 _ (by decide +kernel) fun t hf y => ?_
  blk_simp
  rw [after0_2]
  refine Eq.trans ?_ (congrArg (wideX m c) (emb2 t y)).symm
  refine (left2 _ _ _).trans ?_
  exact blk0 m c t y

/-- and in its second. -/
theorem final3 : (dats m 0 c).arrAt 3 cfg0.N = wideW m c := by
  refine (dats m 0 c).arrAt_eq_of_covers 3 _ (by decide +kernel) fun t hf y => ?_
  blk_simp
  rw [after0_3]
  refine Eq.trans ?_ (congrArg (wideW m c) (emb3 t y)).symm
  refine (left3 _ _ _).trans ?_
  exact blk1 m c t y

/-- The buffers when the host line after the widening starts. -/
abbrev entry : Valuation τ sig (Elt Ideal) := Pipeline.withArrays spec0 c (V0 m c) fun w => (dats m 0 c).arrAt w cfg0.N

/-- The buffers the host line reads: the tokens' codes, -/
theorem entry_x : entry m c (Proc.devRef .tc main_v0_0) = wideX m c :=
  (Pipeline.withArrays_arr spec0 launch0.win.arr_inj c (V0 m c) (fun w => (dats m 0 c).arrAt w cfg0.N) 2).trans (final2 m c)

/-- the gate's codes, -/
theorem entry_w : entry m c (Proc.devRef .tc main_v0_1) = wideW m c :=
  (Pipeline.withArrays_arr spec0 launch0.win.arr_inj c (V0 m c) (fun w => (dats m 0 c).arrAt w cfg0.N) 3).trans (final3 m c)

/-- the tokens' scales, -/
theorem entry_xs : entry m c (Proc.devRef .tc main_arg1) = axs m c := by
  rw [entry, Pipeline.withArrays_of_ne _ c (V0 m c) _ main_arg1 (by exact (by decide : ∀ w, Pipeline.arrRef spec0 w ≠ main_arg1))]
  exact V_main_arg1 m c

/-- the gate's scales, -/
theorem entry_ws : entry m c (Proc.devRef .tc main_arg3) = aws m c := by
  rw [entry, Pipeline.withArrays_of_ne _ c (V0 m c) _ main_arg3 (by exact (by decide : ∀ w, Pipeline.arrRef spec0 w ≠ main_arg3))]
  exact V_main_arg3 m c

/-- the biases. -/
theorem entry_eb : entry m c (Proc.devRef .tc main_arg4) = aeb m c := by
  rw [entry, Pipeline.withArrays_of_ne _ c (V0 m c) _ main_arg4 (by exact (by decide : ∀ w, Pipeline.arrRef spec0 w ≠ main_arg4))]
  exact V_main_arg4 m c

/-- The scores, the biased scores and the kept experts, as arrays. -/
abbrev scA : FVec Ideal S256x16384 .f32 := scoresOf (wideX m c) (axs m c) (wideW m c) (aws m c)
abbrev chA : FVec Ideal S256x16384 .f32 := choicesOf (wideX m c) (axs m c) (wideW m c) (aws m c) (aeb m c)
abbrev keptA : IVec S256x16384 1 := keptOf (gsum (grouped (chA m c)))

/-- The picks at one token are the specification's. -/
theorem picked (b : Fin 8) (n : Fin 2048) (k : Fin 4) :
    num (keptA m c) (chA m c) k (ix1 (tokenOf b n)) = idOf (choice (ax m c) (axs m c) (aw m c) (aws m c) (aeb m c) b n) k ∧
    (val (keptA m c) (chA m c) (scA m c) k (ix1 (tokenOf b n)) : EReal) =
      score (ax m c) (axs m c) (aw m c) (aws m c) b n (chosen (choice (ax m c) (axs m c) (aw m c) (aws m c) (aeb m c) b n) k) :=
  num_at (wideX m c) (axs m c) (wideW m c) (aws m c) (aeb m c) (scA m c) (chA m c) (keptA m c) (Eq.refl _) (Eq.refl _) (Eq.refl _) b n k

/-- A list of four functions at one argument. -/
theorem four_all {α β : Type} {a b c d : α → β} {i : α} {f : Fin 4 → β} (h0 : a i = f 0) (h1 : b i = f 1) (h2 : c i = f 2) (h3 : d i = f 3) (k : Fin 4) :
    (![a, b, c, d] : Fin 4 → α → β) k i = f k := by
  fin_cases k
  · exact h0
  · exact h1
  · exact h2
  · exact h3

/-- The host line ends with the array of expert numbers, -/
theorem tailNums : Pipeline.afterTail₀ cfgs (dats m) 0 (V0 m) [hostOps1] c main_v198 = allIds (ax m c) (axs m c) (aw m c) (aws m c) (aeb m c) := by
  show StableHlo.after hostOps1 (entry m c) _ = _
  rw [(line (entry m c) (wideX m c) (axs m c) (wideW m c) (aws m c) (aeb m c) (scA m c) (chA m c) (keptA m c) (Eq.refl _) (Eq.refl _) (Eq.refl _)
    (entry_x m c) (entry_xs m c) (entry_w m c) (entry_ws m c) (entry_eb m c)).1]
  funext i
  obtain ⟨b, n, k, rfl⟩ : ∃ b n k, i = ix3 b n k := ⟨i 0, i 1, i 2, by funext a; fin_cases a <;> rfl⟩
  rw [layNums_at]
  exact four_all (f := fun k => idOf (choice (ax m c) (axs m c) (aw m c) (aws m c) (aeb m c) b n) k)
    (picked m c b n 0).1 (picked m c b n 1).1 (picked m c b n 2).1 (picked m c b n 3).1 k

/-- and with the array of weights. -/
theorem tailWeights : Pipeline.afterTail₀ cfgs (dats m) 0 (V0 m) [hostOps1] c main_v200 = allWeights (ax m c) (axs m c) (aw m c) (aws m c) (aeb m c) := by
  show StableHlo.after hostOps1 (entry m c) _ = _
  rw [(line (entry m c) (wideX m c) (axs m c) (wideW m c) (aws m c) (aeb m c) (scA m c) (chA m c) (keptA m c) (Eq.refl _) (Eq.refl _) (Eq.refl _)
    (entry_x m c) (entry_xs m c) (entry_w m c) (entry_ws m c) (entry_eb m c)).2]
  funext i
  obtain ⟨b, n, k, rfl⟩ : ∃ b n k, i = ix3 b n k := ⟨i 0, i 1, i 2, by funext a; fin_cases a <;> rfl⟩
  refine (layWeights_at _ _ _ _ _ _ _ _).trans ?_
  rw [four_all (f := fun k => score (ax m c) (axs m c) (aw m c) (aws m c) b n (chosen (choice (ax m c) (axs m c) (aw m c) (aws m c) (aeb m c) b n) k))
    (picked m c b n 0).2 (picked m c b n 1).2 (picked m c b n 2).2 (picked m c b n 3).2 k, addf_at, addf_at, addf_at,
    (picked m c b n 0).2, (picked m c b n 1).2, (picked m c b n 2).2, (picked m c b n 3).2]
  unfold allWeights weight total
  exact Eq.refl _

/-- THE RUN: the reference ends with the two arrays of the specification, its arguments unchanged. -/
theorem run (g : Dev nD → PrngReg) : θ_run defs (onTc (τ := τ) (main (F := Ideal))) ⟨m, fun _ => 0, g⟩ (fun r => ∀ c : Dev nD,
      r.2.mem ((c.tc : Thread nD τ).loc main_v198) = allIds (ax m c) (axs m c) (aw m c) (aws m c) (aeb m c)
      ∧ r.2.mem ((c.tc : Thread nD τ).loc main_v200) = allWeights (ax m c) (axs m c) (aw m c) (aws m c) (aeb m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono ?_ (θ_run_and (run_main m g) (unchanged m g))
  intro r h c
  exact ⟨(h.1.rest_eq c main_v198 (by decide)).trans (tailNums m c), (h.1.rest_eq c main_v200 (by decide)).trans (tailWeights m c), h.2 c⟩

end Cert.ReferenceIdeal.Route
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Kernel
public import proofs.«01_k».proof.Proof.RefRun
public import Idealize.ShloMosaic.Adequacy
public import Idealize.ShloMosaic.Init

@[expose] public section

noncomputable section

namespace Cert.Proof

open Idealize.ShloMosaic Idealize.SL.Sem Cert.Kernel

/-- Kernel and reference end with the same two arrays: those of the specification, of the kernel's arguments. -/
theorem algebraic : Cert.algebraic_KernelIdeal_ReferenceIdeal (hKernelIdeal := Cert.KernelIdeal.Gen.facts) (hReferenceIdeal := Cert.ReferenceIdeal.Gen.facts) := by
  intro m g m' g' _ hargs
  refine ⟨fun c => Cert.Top.allIds (Cert.KernelIdeal.Route.ax m c) (Cert.KernelIdeal.Route.axs m c) (Cert.KernelIdeal.Route.aw m c)
      (Cert.KernelIdeal.Route.aws m c) (Cert.KernelIdeal.Route.aeb m c),
    fun c => Cert.Top.allWeights (Cert.KernelIdeal.Route.ax m c) (Cert.KernelIdeal.Route.axs m c) (Cert.KernelIdeal.Route.aw m c)
      (Cert.KernelIdeal.Route.aws m c) (Cert.KernelIdeal.Route.aeb m c), Cert.KernelIdeal.Route.run m g, ?_⟩
  refine (θ_run _ _ _).mono ?_ (Cert.ReferenceIdeal.Route.run m' g')
  intro r h c
  obtain ⟨h0, h1, h2, h3, h4⟩ := hargs c
  have e0 : Cert.ReferenceIdeal.Route.ax m' c = Cert.KernelIdeal.Route.ax m c := h0
  have e1 : Cert.ReferenceIdeal.Route.axs m' c = Cert.KernelIdeal.Route.axs m c := h1
  have e2 : Cert.ReferenceIdeal.Route.aw m' c = Cert.KernelIdeal.Route.aw m c := h2
  have e3 : Cert.ReferenceIdeal.Route.aws m' c = Cert.KernelIdeal.Route.aws m c := h3
  have e4 : Cert.ReferenceIdeal.Route.aeb m' c = Cert.KernelIdeal.Route.aeb m c := h4
  obtain ⟨hi, hw, hrest⟩ := h c
  rw [e0, e1, e2, e3, e4] at hi hw
  exact ⟨hi, hw, hrest⟩

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ,
  trivial, algebraic⟩

end Cert.Proof

end
